-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_positive [hPre_scales_positive : Cert.Pre_scales_positive.Facts] (m : (ℓ : Loc Cert.KernelIdeal.nD Cert.KernelIdeal.τ Cert.KernelIdeal.sig) → Buf (Elt Ideal) ℓ) : Prop :=
  ∀ c : Dev Cert.KernelIdeal.nD,
    (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_positive [hPre_scales_positive : Cert.Pre_scales_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_positive [hKernelIdeal : Cert.KernelIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_positive [hReferenceIdeal : Cert.ReferenceIdeal.Facts] [hPre_scales_positive : Cert.Pre_scales_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "masked" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_scales_positive [hKernelIdeal : Cert.KernelIdeal.Facts] [hReferenceIdeal : Cert.ReferenceIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_positive : Cert.Pre_scales_positive.Facts),
    quiescent_Kernel (hKernel := hKernel)
    ∧ quiescent_KernelIdeal (hKernelIdeal := hKernelIdeal)
    ∧ quiescent_KernelIdeal_pre_scales_positive (hKernelIdeal := hKernelIdeal) (hPre_scales_positive := hPre_scales_positive)
    ∧ quiescent_ReferenceIdeal (hReferenceIdeal := hReferenceIdeal)
    ∧ quiescent_ReferenceIdeal_pre_scales_positive (hReferenceIdeal := hReferenceIdeal) (hPre_scales_positive := hPre_scales_positive)
    ∧ preserves_Kernel_KernelIdeal
    ∧ algebraic_KernelIdeal_ReferenceIdeal_pre_scales_positive (hKernelIdeal := hKernelIdeal) (hReferenceIdeal := hReferenceIdeal) (hPre_scales_positive := hPre_scales_positive)
-- ==== Pre_scales_positive.lean ====
abbrev S2x32768x2048 : Shape := ⟨3, ![2, 32768, 2048]⟩
abbrev S2x16x128x32768 : Shape := ⟨4, ![2, 16, 128, 32768]⟩
abbrev S2x256x16 : Shape := ⟨3, ![2, 256, 16]⟩
abbrev S_ : Shape := ⟨0, ![]⟩

class Facts : Prop where
  bcast_S_S2x256x16 : S_.BroadcastsInDim S2x256x16 (![] : Fin 0 → Fin S2x256x16.rank)

variable [Facts]

def fn {F : FTy → Type} [FloatOps F] (main_arg0 : FVec F S2x32768x2048 .fp8e4m3) (main_arg1 : FVec F S2x32768x2048 .fp8e4m3) (main_arg2 : FVec F S2x16x128x32768 .fp8e4m3) (main_arg3 : FVec F S2x256x16 .f32) (main_arg4 : FVec F S2x256x16 .f32) (main_arg5 : FVec F S2x256x16 .f32) : IVec S2x256x16 1 × IVec S2x256x16 1 × IVec S2x256x16 1 :=
  let main_cst : FVec F S_ .f32 := constant S_ .f32 0x00000000#32
  let main_v0 : FVec F S2x256x16 .f32 := broadcastInDim S2x256x16 ![] bcast_S_S2x256x16 main_cst
  let main_v1 : IVec S2x256x16 1 := cmpf .ogt main_arg3 main_v0
  let main_cst_0 : FVec F S_ .f32 := constant S_ .f32 0x7F800000#32
  let main_v2 : FVec F S2x256x16 .f32 := broadcastInDim S2x256x16 ![] bcast_S_S2x256x16 main_cst_0
  let main_v3 : IVec S2x256x16 1 := cmpf .olt main_arg3 main_v2
  let main_v4 : IVec S2x256x16 1 := andi main_v1 main_v3
  let main_cst_1 : FVec F S_ .f32 := constant S_ .f32 0x00000000#32
  let main_v5 : FVec F S2x256x16 .f32 := broadcastInDim S2x256x16 ![] bcast_S_S2x256x16 main_cst_1
  let main_v6 : IVec S2x256x16 1 := cmpf .ogt main_arg4 main_v5
  let main_cst_2 : FVec F S_ .f32 := constant S_ .f32 0x7F800000#32
  let main_v7 : FVec F S2x256x16 .f32 := broadcastInDim S2x256x16 ![] bcast_S_S2x256x16 main_cst_2
  let main_v8 : IVec S2x256x16 1 := cmpf .olt main_arg4 main_v7
  let main_v9 : IVec S2x256x16 1 := andi main_v6 main_v8
  let main_cst_3 : FVec F S_ .f32 := constant S_ .f32 0x00000000#32
  let main_v10 : FVec F S2x256x16 .f32 := broadcastInDim S2x256x16 ![] bcast_S_S2x256x16 main_cst_3
  let main_v11 : IVec S2x256x16 1 := cmpf .ogt main_arg5 main_v10
  let main_cst_4 : FVec F S_ .f32 := constant S_ .f32 0x7F800000#32
  let main_v12 : FVec F S2x256x16 .f32 := broadcastInDim S2x256x16 ![] bcast_S_S2x256x16 main_cst_4
  let main_v13 : IVec S2x256x16 1 := cmpf .olt main_arg5 main_v12
  let main_v14 : IVec S2x256x16 1 := andi main_v11 main_v13
  (main_v4, main_v9, main_v14)
-- ==== Kernel.lean ====
abbrev S2x32768x2048 : Shape := ⟨3, ![2, 32768, 2048]⟩
abbrev S2x16x128x32768 : Shape := ⟨4, ![2, 16, 128, 32768]⟩
abbrev S2x256x16 : Shape := ⟨3, ![2, 256, 16]⟩
abbrev S2x16x256 : Shape := ⟨3, ![2, 16, 256]⟩
abbrev S2x16x256x1 : Shape := ⟨4, ![2, 16, 256, 1]⟩
abbrev S2x16x256x128 : Shape := ⟨4, ![2, 16, 256, 128]⟩
abbrev S1x256x128 : Shape := ⟨3, ![1, 256, 128]⟩
abbrev S1x32768x128 : Shape := ⟨3, ![1, 32768, 128]⟩
abbrev S1x1x128x32768 : Shape := ⟨4, ![1, 1, 128, 32768]⟩
abbrev S1x1x256x128 : Shape := ⟨4, ![1, 1, 256, 128]⟩
abbrev S128x256 : Shape := ⟨2, ![128, 256]⟩
abbrev S8x256 : Shape := ⟨2, ![8, 256]⟩
abbrev S1x256 : Shape := ⟨2, ![1, 256]⟩
abbrev S1024x256 : Shape := ⟨2, ![1024, 256]⟩
abbrev S256x128 : Shape := ⟨2, ![256, 128]⟩
abbrev S1x1x1x128 : Shape := ⟨4, ![1, 1, 1, 128]⟩
abbrev S1x128 : Shape := ⟨2, ![1, 128]⟩
abbrev S1x1024x128 : Shape := ⟨3, ![1, 1024, 128]⟩
abbrev S1024x128 : Shape := ⟨2, ![1024, 128]⟩
abbrev S1x1x8x128 : Shape := ⟨4, ![1, 1, 8, 128]⟩
abbrev S8x128 : Shape := ⟨2, ![8, 128]⟩
abbrev S8x128x256 : Shape := ⟨3, ![8, 128, 256]⟩
abbrev S16x8x256 : Shape := ⟨3, ![16, 8, 256]⟩
abbrev S1x1x128x128 : Shape := ⟨4, ![1, 1, 128, 128]⟩
abbrev S128x128 : Shape := ⟨2, ![128, 128]⟩
abbrev S256x256 : Shape := ⟨2, ![256, 256]⟩
abbrev S1x1x2x128 : Shape := ⟨4, ![1, 1, 2, 128]⟩
abbrev S2x128 : Shape := ⟨2, ![2, 128]⟩
abbrev S2x256 : Shape := ⟨2, ![2, 256]⟩
abbrev S2x128x256 : Shape := ⟨3, ![2, 128, 256]⟩
abbrev S256 : Shape := ⟨1, ![256]⟩

abbrev nBuf : Space → Nat
  | .hbm => 16
  | .vmem => 23
  | .smem => 0
  | _ => 0

abbrev bufTy : (tb : Table) → Fin (tcTables nBuf tb) → BufTy
  | .hbm, ⟨0, _⟩ => ⟨S2x32768x2048, .fp8e4m3⟩
  | .hbm, ⟨1, _⟩ => ⟨S2x32768x2048, .fp8e4m3⟩
  | .hbm, ⟨2, _⟩ => ⟨S2x16x128x32768, .fp8e4m3⟩
  | .hbm, ⟨3, _⟩ => ⟨S2x256x16, .f32⟩
  | .hbm, ⟨4, _⟩ => ⟨S2x256x16, .f32⟩
  | .hbm, ⟨5, _⟩ => ⟨S2x256x16, .f32⟩
  | .hbm, ⟨6, _⟩ => ⟨S2x16x256, .f32⟩
  | .hbm, ⟨7, _⟩ => ⟨S2x16x256x1, .f32⟩
  | .hbm, ⟨8, _⟩ => ⟨S2x16x256x128, .f32⟩
  | .hbm, ⟨9, _⟩ => ⟨S2x16x256, .f32⟩
  | .hbm, ⟨10, _⟩ => ⟨S2x16x256x1, .f32⟩
  | .hbm, ⟨11, _⟩ => ⟨S2x16x256x128, .f32⟩
  | .hbm, ⟨12, _⟩ => ⟨S2x16x256, .f32⟩
  | .hbm, ⟨13, _⟩ => ⟨S2x16x256x1, .f32⟩
  | .hbm, ⟨14, _⟩ => ⟨S2x16x256x128, .f32⟩
  | .hbm, ⟨15, _⟩ => ⟨S2x32768x2048, .bf16⟩
  | .local _ .vmem, ⟨0, _⟩ => ⟨S1x256x128, .fp8e4m3⟩
  | .local _ .vmem, ⟨1, _⟩ => ⟨S1x256x128, .fp8e4m3⟩
  | .local _ .vmem, ⟨2, _⟩ => ⟨S1x32768x128, .fp8e4m3⟩
  | .local _ .vmem, ⟨3, _⟩ => ⟨S1x32768x128, .fp8e4m3⟩
  | .local _ .vmem, ⟨4, _⟩ => ⟨S1x1x128x32768, .fp8e4m3⟩
  | .local _ .vmem, ⟨5, _⟩ => ⟨S1x1x128x32768, .fp8e4m3⟩
  | .local _ .vmem, ⟨6, _⟩ => ⟨S1x1x256x128, .f32⟩
  | .local _ .vmem, ⟨7, _⟩ => ⟨S1x1x256x128, .f32⟩
  | .local _ .vmem, ⟨8, _⟩ => ⟨S1x1x256x128, .f32⟩
  | .local _ .vmem, ⟨9, _⟩ => ⟨S1x1x256x128, .f32⟩
  | .local _ .vmem, ⟨10, _⟩ => ⟨S1x1x256x128, .f32⟩
  | .local _ .vmem, ⟨11, _⟩ => ⟨S1x1x256x128, .f32⟩
  | .local _ .vmem, ⟨12, _⟩ => ⟨S1x256x128, .bf16⟩
  | .local _ .vmem, ⟨13, _⟩ => ⟨S1x256x128, .bf16⟩
  | .local _ .vmem, ⟨14, _⟩ => ⟨S128x256, .f32⟩
  | .local _ .vmem, ⟨15, _⟩ => ⟨S8x256, .f32⟩
  | .local _ .vmem, ⟨16, _⟩ => ⟨S1x256, .f32⟩
  | .local _ .vmem, ⟨17, _⟩ => ⟨S1024x256, .f32⟩
  | .local _ .vmem, ⟨18, _⟩ => ⟨S1024x256, .fp8e4m3⟩
  | .local _ .vmem, ⟨19, _⟩ => ⟨S8x256, .f32⟩
  | .local _ .vmem, ⟨20, _⟩ => ⟨S8x256, .f32⟩
  | .local _ .vmem, ⟨21, _⟩ => ⟨S8x256, .f32⟩
  | .local _ .vmem, ⟨22, _⟩ => ⟨S8x256, .f32⟩
  | _, _ => ⟨S2x32768x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 128], ![false, false, false]⟩

def k0_off1 (i : grid0.Coords) (c0_i32 : BitVec 32) : Fin 4 → Nat :=
  let c0_2 : Index := 0#32
  let c0_3 : Index := 0#32
  let arg2 : BitVec 32 := BitVec.ofNat 32 (i 2).val
  let c2_i32 : BitVec 32 := 2#32
  let v2 : BitVec 32 := Scalar.muli arg2 c2_i32
  let v3 : BitVec 32 := Scalar.addi v2 c0_i32
  let v4 : Index := Scalar.indexCast v3
  let c0_4 : Index := 0#32
  ![0, 0, v4.toNat, 0]
@[reducible] def k0_t1_loop (i : grid0.Coords) : Scf.Loop 32 :=
  let c0_i32_25 : BitVec 32 := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let v43 : BitVec 32 := Scalar.subi v42 c0_i32_25
  let c1_i32_26 : BitVec 32 := 1#32
  let v45 : BitVec 32 := Scalar.divsi v43 c1_i32_26
  let v46 : BitVec 32 := Scalar.muli v45 c1_i32_26
  let v47 : BitVec 32 := Scalar.addi c0_i32_25 v46
  let c1_i32_27 : BitVec 32 := 1#32
  ⟨c0_i32_25, v47, c1_i32_27⟩
def k0_mult1 (i : grid0.Coords) (k0_t1 : Fin (k0_t1_loop i).trips) : BitVec 32 :=
  let c0_i32_25 : BitVec 32 := 0#32
  let c1_i32_27 : BitVec 32 := 1#32
  let arg19 : BitVec 32 := Scf.iv c0_i32_25 c1_i32_27 k0_t1
  let c8_i32_143 : BitVec 32 := 8#32
  let v291 : BitVec 32 := Scalar.muli arg19 c8_i32_143
  let c128_i32_144 : BitVec 32 := 128#32
  let v292 : BitVec 32 := Scalar.muli v291 c128_i32_144
  v292
def k0_off2 (i : grid0.Coords) (k0_t1 : Fin (k0_t1_loop i).trips) : Fin 3 → Nat :=
  let c0_145 : Index := 0#32
  let c0_i32_25 : BitVec 32 := 0#32
  let c1_i32_27 : BitVec 32 := 1#32
  let arg19 : BitVec 32 := Scf.iv c0_i32_25 c1_i32_27 k0_t1
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let v294 : Index := Scalar.indexCast v293
  let c0_146 : Index := 0#32
  ![0, v294.toNat, 0]
def k0_off3 (i : grid0.Coords) (k0_t1 : Fin (k0_t1_loop i).trips) : Fin 4 → Nat :=
  let c0_148 : Index := 0#32
  let c0_149 : Index := 0#32
  let c0_i32_25 : BitVec 32 := 0#32
  let c1_i32_27 : BitVec 32 := 1#32
  let arg19 : BitVec 32 := Scf.iv c0_i32_25 c1_i32_27 k0_t1
  let c8_i32_143 : BitVec 32 := 8#32
  let v291 : BitVec 32 := Scalar.muli arg19 c8_i32_143
  let v298 : Index := Scalar.indexCast v291
  let c0_150 : Index := 0#32
  ![0, 0, v298.toNat, 0]
def k0_mult2 (i : grid0.Coords) (k0_t1 : Fin (k0_t1_loop i).trips) : BitVec 32 :=
  let c0_i32_25 : BitVec 32 := 0#32
  let c1_i32_27 : BitVec 32 := 1#32
  let arg19 : BitVec 32 := Scf.iv c0_i32_25 c1_i32_27 k0_t1
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let c0_i32_298 : BitVec 32 := 0#32
  let v620 : BitVec 32 := Scalar.addi v293 c0_i32_298
  v620
def k0_off4 (i : grid0.Coords) (k0_t1 : Fin (k0_t1_loop i).trips) (c0_i32_298 : BitVec 32) : Fin 4 → Nat :=
  let c0_299 : Index := 0#32
  let c0_300 : Index := 0#32
  let c0_301 : Index := 0#32
  let c0_i32_25 : BitVec 32 := 0#32
  let c1_i32_27 : BitVec 32 := 1#32
  let arg19 : BitVec 32 := Scf.iv c0_i32_25 c1_i32_27 k0_t1
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let v620 : BitVec 32 := Scalar.addi v293 c0_i32_298
  let v621 : BitVec 32 := v620
  let v622 : Index := Scalar.indexCast v621
  ![0, 0, 0, v622.toNat]
def k0_mult3 (i : grid0.Coords) (k0_t1 : Fin (k0_t1_loop i).trips) : BitVec 32 :=
  let c0_i32_25 : BitVec 32 := 0#32
  let c1_i32_27 : BitVec 32 := 1#32
  let arg19 : BitVec 32 := Scf.iv c0_i32_25 c1_i32_27 k0_t1
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let c128_i32_307 : BitVec 32 := 128#32
  let v631 : BitVec 32 := Scalar.addi v293 c128_i32_307
  v631
def k0_mult4 (i : grid0.Coords) (k0_t1 : Fin (k0_t1_loop i).trips) : BitVec 32 :=
  let c0_i32_25 : BitVec 32 := 0#32
  let c1_i32_27 : BitVec 32 := 1#32
  let arg19 : BitVec 32 := Scf.iv c0_i32_25 c1_i32_27 k0_t1
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let c256_i32_316 : BitVec 32 := 256#32
  let v642 : BitVec 32 := Scalar.addi v293 c256_i32_316
  v642
def k0_mult5 (i : grid0.Coords) (k0_t1 : Fin (k0_t1_loop i).trips) : BitVec 32 :=
  let c0_i32_25 : BitVec 32 := 0#32
  let c1_i32_27 : BitVec 32 := 1#32
  let arg19 : BitVec 32 := Scf.iv c0_i32_25 c1_i32_27 k0_t1
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let c384_i32 : BitVec 32 := 384#32
  let v653 : BitVec 32 := Scalar.addi v293 c384_i32
  v653
def k0_mult6 (i : grid0.Coords) (k0_t1 : Fin (k0_t1_loop i).trips) : BitVec 32 :=
  let c0_i32_25 : BitVec 32 := 0#32
  let c1_i32_27 : BitVec 32 := 1#32
  let arg19 : BitVec 32 := Scf.iv c0_i32_25 c1_i32_27 k0_t1
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let c512_i32 : BitVec 32 := 512#32
  let v664 : BitVec 32 := Scalar.addi v293 c512_i32
  v664
def k0_mult7 (i : grid0.Coords) (k0_t1 : Fin (k0_t1_loop i).trips) : BitVec 32 :=
  let c0_i32_25 : BitVec 32 := 0#32
  let c1_i32_27 : BitVec 32 := 1#32
  let arg19 : BitVec 32 := Scf.iv c0_i32_25 c1_i32_27 k0_t1
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let c640_i32 : BitVec 32 := 640#32
  let v675 : BitVec 32 := Scalar.addi v293 c640_i32
  v675
def k0_mult8 (i : grid0.Coords) (k0_t1 : Fin (k0_t1_loop i).trips) : BitVec 32 :=
  let c0_i32_25 : BitVec 32 := 0#32
  let c1_i32_27 : BitVec 32 := 1#32
  let arg19 : BitVec 32 := Scf.iv c0_i32_25 c1_i32_27 k0_t1
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let c768_i32 : BitVec 32 := 768#32
  let v686 : BitVec 32 := Scalar.addi v293 c768_i32
  v686
def k0_mult9 (i : grid0.Coords) (k0_t1 : Fin (k0_t1_loop i).trips) : BitVec 32 :=
  let c0_i32_25 : BitVec 32 := 0#32
  let c1_i32_27 : BitVec 32 := 1#32
  let arg19 : BitVec 32 := Scf.iv c0_i32_25 c1_i32_27 k0_t1
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let c896_i32 : BitVec 32 := 896#32
  let v697 : BitVec 32 := Scalar.addi v293 c896_i32
  v697
@[reducible] def k0_t2_loop (i : grid0.Coords) : Scf.Loop 32 :=
  let c0_i32_25 : BitVec 32 := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let v43 : BitVec 32 := Scalar.subi v42 c0_i32_25
  let c1_i32_26 : BitVec 32 := 1#32
  let v45 : BitVec 32 := Scalar.divsi v43 c1_i32_26
  let v46 : BitVec 32 := Scalar.muli v45 c1_i32_26
  let v47 : BitVec 32 := Scalar.addi c0_i32_25 v46
  let v44 : BitVec 32 := Scalar.addi c0_i32_25 v43
  let c1_i32_28 : BitVec 32 := 1#32
  ⟨v47, v44, c1_i32_28⟩
def k0_mult10 (i : grid0.Coords) (k0_t2 : Fin (k0_t2_loop i).trips) : BitVec 32 :=
  let c0_i32_25 : BitVec 32 := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let v43 : BitVec 32 := Scalar.subi v42 c0_i32_25
  let c1_i32_26 : BitVec 32 := 1#32
  let v45 : BitVec 32 := Scalar.divsi v43 c1_i32_26
  let v46 : BitVec 32 := Scalar.muli v45 c1_i32_26
  let v47 : BitVec 32 := Scalar.addi c0_i32_25 v46
  let c1_i32_28 : BitVec 32 := 1#32
  let arg19 : BitVec 32 := Scf.iv v47 c1_i32_28 k0_t2
  let c8_i32_143 : BitVec 32 := 8#32
  let v291 : BitVec 32 := Scalar.muli arg19 c8_i32_143
  let c128_i32_144 : BitVec 32 := 128#32
  let v292 : BitVec 32 := Scalar.muli v291 c128_i32_144
  v292
def k0_off5 (i : grid0.Coords) (k0_t2 : Fin (k0_t2_loop i).trips) : Fin 3 → Nat :=
  let c0_145 : Index := 0#32
  let c0_i32_25 : BitVec 32 := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let v43 : BitVec 32 := Scalar.subi v42 c0_i32_25
  let c1_i32_26 : BitVec 32 := 1#32
  let v45 : BitVec 32 := Scalar.divsi v43 c1_i32_26
  let v46 : BitVec 32 := Scalar.muli v45 c1_i32_26
  let v47 : BitVec 32 := Scalar.addi c0_i32_25 v46
  let c1_i32_28 : BitVec 32 := 1#32
  let arg19 : BitVec 32 := Scf.iv v47 c1_i32_28 k0_t2
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let v294 : Index := Scalar.indexCast v293
  let c0_146 : Index := 0#32
  ![0, v294.toNat, 0]
def k0_off6 (i : grid0.Coords) (k0_t2 : Fin (k0_t2_loop i).trips) : Fin 4 → Nat :=
  let c0_148 : Index := 0#32
  let c0_149 : Index := 0#32
  let c0_i32_25 : BitVec 32 := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let v43 : BitVec 32 := Scalar.subi v42 c0_i32_25
  let c1_i32_26 : BitVec 32 := 1#32
  let v45 : BitVec 32 := Scalar.divsi v43 c1_i32_26
  let v46 : BitVec 32 := Scalar.muli v45 c1_i32_26
  let v47 : BitVec 32 := Scalar.addi c0_i32_25 v46
  let c1_i32_28 : BitVec 32 := 1#32
  let arg19 : BitVec 32 := Scf.iv v47 c1_i32_28 k0_t2
  let c8_i32_143 : BitVec 32 := 8#32
  let v291 : BitVec 32 := Scalar.muli arg19 c8_i32_143
  let v298 : Index := Scalar.indexCast v291
  let c0_150 : Index := 0#32
  ![0, 0, v298.toNat, 0]
def k0_mult11 (i : grid0.Coords) (k0_t2 : Fin (k0_t2_loop i).trips) : BitVec 32 :=
  let c0_i32_25 : BitVec 32 := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let v43 : BitVec 32 := Scalar.subi v42 c0_i32_25
  let c1_i32_26 : BitVec 32 := 1#32
  let v45 : BitVec 32 := Scalar.divsi v43 c1_i32_26
  let v46 : BitVec 32 := Scalar.muli v45 c1_i32_26
  let v47 : BitVec 32 := Scalar.addi c0_i32_25 v46
  let c1_i32_28 : BitVec 32 := 1#32
  let arg19 : BitVec 32 := Scf.iv v47 c1_i32_28 k0_t2
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let c0_i32_298 : BitVec 32 := 0#32
  let v620 : BitVec 32 := Scalar.addi v293 c0_i32_298
  v620
def k0_off7 (i : grid0.Coords) (k0_t2 : Fin (k0_t2_loop i).trips) (c0_i32_298 : BitVec 32) : Fin 4 → Nat :=
  let c0_299 : Index := 0#32
  let c0_300 : Index := 0#32
  let c0_301 : Index := 0#32
  let c0_i32_25 : BitVec 32 := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let v43 : BitVec 32 := Scalar.subi v42 c0_i32_25
  let c1_i32_26 : BitVec 32 := 1#32
  let v45 : BitVec 32 := Scalar.divsi v43 c1_i32_26
  let v46 : BitVec 32 := Scalar.muli v45 c1_i32_26
  let v47 : BitVec 32 := Scalar.addi c0_i32_25 v46
  let c1_i32_28 : BitVec 32 := 1#32
  let arg19 : BitVec 32 := Scf.iv v47 c1_i32_28 k0_t2
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let v620 : BitVec 32 := Scalar.addi v293 c0_i32_298
  let v621 : BitVec 32 := v620
  let v622 : Index := Scalar.indexCast v621
  ![0, 0, 0, v622.toNat]
def k0_mult12 (i : grid0.Coords) (k0_t2 : Fin (k0_t2_loop i).trips) : BitVec 32 :=
  let c0_i32_25 : BitVec 32 := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let v43 : BitVec 32 := Scalar.subi v42 c0_i32_25
  let c1_i32_26 : BitVec 32 := 1#32
  let v45 : BitVec 32 := Scalar.divsi v43 c1_i32_26
  let v46 : BitVec 32 := Scalar.muli v45 c1_i32_26
  let v47 : BitVec 32 := Scalar.addi c0_i32_25 v46
  let c1_i32_28 : BitVec 32 := 1#32
  let arg19 : BitVec 32 := Scf.iv v47 c1_i32_28 k0_t2
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let c128_i32_307 : BitVec 32 := 128#32
  let v631 : BitVec 32 := Scalar.addi v293 c128_i32_307
  v631
def k0_mult13 (i : grid0.Coords) (k0_t2 : Fin (k0_t2_loop i).trips) : BitVec 32 :=
  let c0_i32_25 : BitVec 32 := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let v43 : BitVec 32 := Scalar.subi v42 c0_i32_25
  let c1_i32_26 : BitVec 32 := 1#32
  let v45 : BitVec 32 := Scalar.divsi v43 c1_i32_26
  let v46 : BitVec 32 := Scalar.muli v45 c1_i32_26
  let v47 : BitVec 32 := Scalar.addi c0_i32_25 v46
  let c1_i32_28 : BitVec 32 := 1#32
  let arg19 : BitVec 32 := Scf.iv v47 c1_i32_28 k0_t2
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let c256_i32_316 : BitVec 32 := 256#32
  let v642 : BitVec 32 := Scalar.addi v293 c256_i32_316
  v642
def k0_mult14 (i : grid0.Coords) (k0_t2 : Fin (k0_t2_loop i).trips) : BitVec 32 :=
  let c0_i32_25 : BitVec 32 := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let v43 : BitVec 32 := Scalar.subi v42 c0_i32_25
  let c1_i32_26 : BitVec 32 := 1#32
  let v45 : BitVec 32 := Scalar.divsi v43 c1_i32_26
  let v46 : BitVec 32 := Scalar.muli v45 c1_i32_26
  let v47 : BitVec 32 := Scalar.addi c0_i32_25 v46
  let c1_i32_28 : BitVec 32 := 1#32
  let arg19 : BitVec 32 := Scf.iv v47 c1_i32_28 k0_t2
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let c384_i32 : BitVec 32 := 384#32
  let v653 : BitVec 32 := Scalar.addi v293 c384_i32
  v653
def k0_mult15 (i : grid0.Coords) (k0_t2 : Fin (k0_t2_loop i).trips) : BitVec 32 :=
  let c0_i32_25 : BitVec 32 := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let v43 : BitVec 32 := Scalar.subi v42 c0_i32_25
  let c1_i32_26 : BitVec 32 := 1#32
  let v45 : BitVec 32 := Scalar.divsi v43 c1_i32_26
  let v46 : BitVec 32 := Scalar.muli v45 c1_i32_26
  let v47 : BitVec 32 := Scalar.addi c0_i32_25 v46
  let c1_i32_28 : BitVec 32 := 1#32
  let arg19 : BitVec 32 := Scf.iv v47 c1_i32_28 k0_t2
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let c512_i32 : BitVec 32 := 512#32
  let v664 : BitVec 32 := Scalar.addi v293 c512_i32
  v664
def k0_mult16 (i : grid0.Coords) (k0_t2 : Fin (k0_t2_loop i).trips) : BitVec 32 :=
  let c0_i32_25 : BitVec 32 := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let v43 : BitVec 32 := Scalar.subi v42 c0_i32_25
  let c1_i32_26 : BitVec 32 := 1#32
  let v45 : BitVec 32 := Scalar.divsi v43 c1_i32_26
  let v46 : BitVec 32 := Scalar.muli v45 c1_i32_26
  let v47 : BitVec 32 := Scalar.addi c0_i32_25 v46
  let c1_i32_28 : BitVec 32 := 1#32
  let arg19 : BitVec 32 := Scf.iv v47 c1_i32_28 k0_t2
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let c640_i32 : BitVec 32 := 640#32
  let v675 : BitVec 32 := Scalar.addi v293 c640_i32
  v675
def k0_mult17 (i : grid0.Coords) (k0_t2 : Fin (k0_t2_loop i).trips) : BitVec 32 :=
  let c0_i32_25 : BitVec 32 := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let v43 : BitVec 32 := Scalar.subi v42 c0_i32_25
  let c1_i32_26 : BitVec 32 := 1#32
  let v45 : BitVec 32 := Scalar.divsi v43 c1_i32_26
  let v46 : BitVec 32 := Scalar.muli v45 c1_i32_26
  let v47 : BitVec 32 := Scalar.addi c0_i32_25 v46
  let c1_i32_28 : BitVec 32 := 1#32
  let arg19 : BitVec 32 := Scf.iv v47 c1_i32_28 k0_t2
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let c768_i32 : BitVec 32 := 768#32
  let v686 : BitVec 32 := Scalar.addi v293 c768_i32
  v686
def k0_mult18 (i : grid0.Coords) (k0_t2 : Fin (k0_t2_loop i).trips) : BitVec 32 :=
  let c0_i32_25 : BitVec 32 := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let v43 : BitVec 32 := Scalar.subi v42 c0_i32_25
  let c1_i32_26 : BitVec 32 := 1#32
  let v45 : BitVec 32 := Scalar.divsi v43 c1_i32_26
  let v46 : BitVec 32 := Scalar.muli v45 c1_i32_26
  let v47 : BitVec 32 := Scalar.addi c0_i32_25 v46
  let c1_i32_28 : BitVec 32 := 1#32
  let arg19 : BitVec 32 := Scf.iv v47 c1_i32_28 k0_t2
  let c8_i32_143 : BitVec 32 := 8#32
  let v291 : BitVec 32 := Scalar.muli arg19 c8_i32_143
  let c128_i32_144 : BitVec 32 := 128#32
  let v292 : BitVec 32 := Scalar.muli v291 c128_i32_144
  let v293 : BitVec 32 := v292
  let c896_i32 : BitVec 32 := 896#32
  let v697 : BitVec 32 := Scalar.addi v293 c896_i32
  v697
@[reducible] def k0_t3_loop (i : grid0.Coords) : Scf.Loop 32 :=
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let c4_i32 : BitVec 32 := 4#32
  let v48 : BitVec 32 := Scalar.muli v42 c4_i32
  let v49 : BitVec 32 := Scalar.subi arg2 v48
  let c1_i32_30 : BitVec 32 := 1#32
  let v51 : BitVec 32 := Scalar.divsi v49 c1_i32_30
  let v52 : BitVec 32 := Scalar.muli v51 c1_i32_30
  let v53 : BitVec 32 := Scalar.addi v48 v52
  let c1_i32_31 : BitVec 32 := 1#32
  ⟨v48, v53, c1_i32_31⟩
def k0_mult19 (i : grid0.Coords) (k0_t3 : Fin (k0_t3_loop i).trips) : BitVec 32 :=
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let c4_i32 : BitVec 32 := 4#32
  let v48 : BitVec 32 := Scalar.muli v42 c4_i32
  let c1_i32_31 : BitVec 32 := 1#32
  let arg19 : BitVec 32 := Scf.iv v48 c1_i32_31 k0_t3
  let c2_i32_143 : BitVec 32 := 2#32
  let v291 : BitVec 32 := Scalar.muli arg19 c2_i32_143
  let c128_i32_144 : BitVec 32 := 128#32
  let v292 : BitVec 32 := Scalar.muli v291 c128_i32_144
  v292
def k0_off8 (i : grid0.Coords) (k0_t3 : Fin (k0_t3_loop i).trips) : Fin 3 → Nat :=
  let c0_145 : Index := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let c4_i32 : BitVec 32 := 4#32
  let v48 : BitVec 32 := Scalar.muli v42 c4_i32
  let c1_i32_31 : BitVec 32 := 1#32
  let arg19 : BitVec 32 := Scf.iv v48 c1_i32_31 k0_t3
  let c2_i32_143 : BitVec 32 := 2#32
  let v291 : BitVec 32 := Scalar.muli arg19 c2_i32_143
  let c128_i32_144 : BitVec 32 := 128#32
  let v292 : BitVec 32 := Scalar.muli v291 c128_i32_144
  let v293 : BitVec 32 := v292
  let v294 : Index := Scalar.indexCast v293
  let c0_146 : Index := 0#32
  ![0, v294.toNat, 0]
def k0_off9 (i : grid0.Coords) (k0_t3 : Fin (k0_t3_loop i).trips) : Fin 4 → Nat :=
  let c0_148 : Index := 0#32
  let c0_149 : Index := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let c4_i32 : BitVec 32 := 4#32
  let v48 : BitVec 32 := Scalar.muli v42 c4_i32
  let c1_i32_31 : BitVec 32 := 1#32
  let arg19 : BitVec 32 := Scf.iv v48 c1_i32_31 k0_t3
  let c2_i32_143 : BitVec 32 := 2#32
  let v291 : BitVec 32 := Scalar.muli arg19 c2_i32_143
  let v298 : Index := Scalar.indexCast v291
  let c0_150 : Index := 0#32
  ![0, 0, v298.toNat, 0]
def k0_mult20 (i : grid0.Coords) (k0_t3 : Fin (k0_t3_loop i).trips) : BitVec 32 :=
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let c4_i32 : BitVec 32 := 4#32
  let v48 : BitVec 32 := Scalar.muli v42 c4_i32
  let c1_i32_31 : BitVec 32 := 1#32
  let arg19 : BitVec 32 := Scf.iv v48 c1_i32_31 k0_t3
  let c2_i32_143 : BitVec 32 := 2#32
  let v291 : BitVec 32 := Scalar.muli arg19 c2_i32_143
  let c128_i32_144 : BitVec 32 := 128#32
  let v292 : BitVec 32 := Scalar.muli v291 c128_i32_144
  let v293 : BitVec 32 := v292
  let c0_i32_232 : BitVec 32 := 0#32
  let v476 : BitVec 32 := Scalar.addi v293 c0_i32_232
  v476
def k0_off10 (i : grid0.Coords) (k0_t3 : Fin (k0_t3_loop i).trips) (c0_i32_232 : BitVec 32) : Fin 4 → Nat :=
  let c0_233 : Index := 0#32
  let c0_234 : Index := 0#32
  let c0_235 : Index := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let c4_i32 : BitVec 32 := 4#32
  let v48 : BitVec 32 := Scalar.muli v42 c4_i32
  let c1_i32_31 : BitVec 32 := 1#32
  let arg19 : BitVec 32 := Scf.iv v48 c1_i32_31 k0_t3
  let c2_i32_143 : BitVec 32 := 2#32
  let v291 : BitVec 32 := Scalar.muli arg19 c2_i32_143
  let c128_i32_144 : BitVec 32 := 128#32
  let v292 : BitVec 32 := Scalar.muli v291 c128_i32_144
  let v293 : BitVec 32 := v292
  let v476 : BitVec 32 := Scalar.addi v293 c0_i32_232
  let v477 : BitVec 32 := v476
  let v478 : Index := Scalar.indexCast v477
  ![0, 0, 0, v478.toNat]
def k0_mult21 (i : grid0.Coords) (k0_t3 : Fin (k0_t3_loop i).trips) : BitVec 32 :=
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let c4_i32 : BitVec 32 := 4#32
  let v48 : BitVec 32 := Scalar.muli v42 c4_i32
  let c1_i32_31 : BitVec 32 := 1#32
  let arg19 : BitVec 32 := Scf.iv v48 c1_i32_31 k0_t3
  let c2_i32_143 : BitVec 32 := 2#32
  let v291 : BitVec 32 := Scalar.muli arg19 c2_i32_143
  let c128_i32_144 : BitVec 32 := 128#32
  let v292 : BitVec 32 := Scalar.muli v291 c128_i32_144
  let v293 : BitVec 32 := v292
  let c128_i32_241 : BitVec 32 := 128#32
  let v487 : BitVec 32 := Scalar.addi v293 c128_i32_241
  v487
@[reducible] def k0_t4_loop (i : grid0.Coords) : Scf.Loop 32 :=
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let c4_i32 : BitVec 32 := 4#32
  let v48 : BitVec 32 := Scalar.muli v42 c4_i32
  let v49 : BitVec 32 := Scalar.subi arg2 v48
  let c1_i32_30 : BitVec 32 := 1#32
  let v51 : BitVec 32 := Scalar.divsi v49 c1_i32_30
  let v52 : BitVec 32 := Scalar.muli v51 c1_i32_30
  let v53 : BitVec 32 := Scalar.addi v48 v52
  let v50 : BitVec 32 := Scalar.addi v48 v49
  let c1_i32_32 : BitVec 32 := 1#32
  ⟨v53, v50, c1_i32_32⟩
def k0_mult22 (i : grid0.Coords) (k0_t4 : Fin (k0_t4_loop i).trips) : BitVec 32 :=
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let c4_i32 : BitVec 32 := 4#32
  let v48 : BitVec 32 := Scalar.muli v42 c4_i32
  let v49 : BitVec 32 := Scalar.subi arg2 v48
  let c1_i32_30 : BitVec 32 := 1#32
  let v51 : BitVec 32 := Scalar.divsi v49 c1_i32_30
  let v52 : BitVec 32 := Scalar.muli v51 c1_i32_30
  let v53 : BitVec 32 := Scalar.addi v48 v52
  let c1_i32_32 : BitVec 32 := 1#32
  let arg19 : BitVec 32 := Scf.iv v53 c1_i32_32 k0_t4
  let c2_i32_143 : BitVec 32 := 2#32
  let v291 : BitVec 32 := Scalar.muli arg19 c2_i32_143
  let c128_i32_144 : BitVec 32 := 128#32
  let v292 : BitVec 32 := Scalar.muli v291 c128_i32_144
  v292
def k0_off11 (i : grid0.Coords) (k0_t4 : Fin (k0_t4_loop i).trips) : Fin 3 → Nat :=
  let c0_145 : Index := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let c4_i32 : BitVec 32 := 4#32
  let v48 : BitVec 32 := Scalar.muli v42 c4_i32
  let v49 : BitVec 32 := Scalar.subi arg2 v48
  let c1_i32_30 : BitVec 32 := 1#32
  let v51 : BitVec 32 := Scalar.divsi v49 c1_i32_30
  let v52 : BitVec 32 := Scalar.muli v51 c1_i32_30
  let v53 : BitVec 32 := Scalar.addi v48 v52
  let c1_i32_32 : BitVec 32 := 1#32
  let arg19 : BitVec 32 := Scf.iv v53 c1_i32_32 k0_t4
  let c2_i32_143 : BitVec 32 := 2#32
  let v291 : BitVec 32 := Scalar.muli arg19 c2_i32_143
  let c128_i32_144 : BitVec 32 := 128#32
  let v292 : BitVec 32 := Scalar.muli v291 c128_i32_144
  let v293 : BitVec 32 := v292
  let v294 : Index := Scalar.indexCast v293
  let c0_146 : Index := 0#32
  ![0, v294.toNat, 0]
def k0_off12 (i : grid0.Coords) (k0_t4 : Fin (k0_t4_loop i).trips) : Fin 4 → Nat :=
  let c0_148 : Index := 0#32
  let c0_149 : Index := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let c4_i32 : BitVec 32 := 4#32
  let v48 : BitVec 32 := Scalar.muli v42 c4_i32
  let v49 : BitVec 32 := Scalar.subi arg2 v48
  let c1_i32_30 : BitVec 32 := 1#32
  let v51 : BitVec 32 := Scalar.divsi v49 c1_i32_30
  let v52 : BitVec 32 := Scalar.muli v51 c1_i32_30
  let v53 : BitVec 32 := Scalar.addi v48 v52
  let c1_i32_32 : BitVec 32 := 1#32
  let arg19 : BitVec 32 := Scf.iv v53 c1_i32_32 k0_t4
  let c2_i32_143 : BitVec 32 := 2#32
  let v291 : BitVec 32 := Scalar.muli arg19 c2_i32_143
  let v298 : Index := Scalar.indexCast v291
  let c0_150 : Index := 0#32
  ![0, 0, v298.toNat, 0]
def k0_mult23 (i : grid0.Coords) (k0_t4 : Fin (k0_t4_loop i).trips) : BitVec 32 :=
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let c4_i32 : BitVec 32 := 4#32
  let v48 : BitVec 32 := Scalar.muli v42 c4_i32
  let v49 : BitVec 32 := Scalar.subi arg2 v48
  let c1_i32_30 : BitVec 32 := 1#32
  let v51 : BitVec 32 := Scalar.divsi v49 c1_i32_30
  let v52 : BitVec 32 := Scalar.muli v51 c1_i32_30
  let v53 : BitVec 32 := Scalar.addi v48 v52
  let c1_i32_32 : BitVec 32 := 1#32
  let arg19 : BitVec 32 := Scf.iv v53 c1_i32_32 k0_t4
  let c2_i32_143 : BitVec 32 := 2#32
  let v291 : BitVec 32 := Scalar.muli arg19 c2_i32_143
  let c128_i32_144 : BitVec 32 := 128#32
  let v292 : BitVec 32 := Scalar.muli v291 c128_i32_144
  let v293 : BitVec 32 := v292
  let c0_i32_232 : BitVec 32 := 0#32
  let v476 : BitVec 32 := Scalar.addi v293 c0_i32_232
  v476
def k0_off13 (i : grid0.Coords) (k0_t4 : Fin (k0_t4_loop i).trips) (c0_i32_232 : BitVec 32) : Fin 4 → Nat :=
  let c0_233 : Index := 0#32
  let c0_234 : Index := 0#32
  let c0_235 : Index := 0#32
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let c4_i32 : BitVec 32 := 4#32
  let v48 : BitVec 32 := Scalar.muli v42 c4_i32
  let v49 : BitVec 32 := Scalar.subi arg2 v48
  let c1_i32_30 : BitVec 32 := 1#32
  let v51 : BitVec 32 := Scalar.divsi v49 c1_i32_30
  let v52 : BitVec 32 := Scalar.muli v51 c1_i32_30
  let v53 : BitVec 32 := Scalar.addi v48 v52
  let c1_i32_32 : BitVec 32 := 1#32
  let arg19 : BitVec 32 := Scf.iv v53 c1_i32_32 k0_t4
  let c2_i32_143 : BitVec 32 := 2#32
  let v291 : BitVec 32 := Scalar.muli arg19 c2_i32_143
  let c128_i32_144 : BitVec 32 := 128#32
  let v292 : BitVec 32 := Scalar.muli v291 c128_i32_144
  let v293 : BitVec 32 := v292
  let v476 : BitVec 32 := Scalar.addi v293 c0_i32_232
  let v477 : BitVec 32 := v476
  let v478 : Index := Scalar.indexCast v477
  ![0, 0, 0, v478.toNat]
def k0_mult24 (i : grid0.Coords) (k0_t4 : Fin (k0_t4_loop i).trips) : BitVec 32 :=
  let arg2 : BitVec 32 := BitVec.ofNat 32 (i 2).val
  let c2_i32_17 : BitVec 32 := 2#32
  let v25 : BitVec 32 := Scalar.muli arg2 c2_i32_17
  let c0_i32_18 : BitVec 32 := 0#32
  let v27 : BitVec 1 := Scalar.cmpi .sgt v25 c0_i32_18
  let v28 : BitVec 32 := Scalar.extui v27
  let c0_i32_19 : BitVec 32 := 0#32
  let v29 : BitVec 1 := Scalar.cmpi .slt v25 c0_i32_19
  let v30 : BitVec 32 := Scalar.extui v29
  let v31 : BitVec 32 := Scalar.subi v28 v30
  let c8_i32 : BitVec 32 := 8#32
  let c0_i32_20 : BitVec 32 := 0#32
  let v32 : BitVec 1 := Scalar.cmpi .sgt c8_i32 c0_i32_20
  let v33 : BitVec 32 := Scalar.extui v32
  let c0_i32_21 : BitVec 32 := 0#32
  let v34 : BitVec 1 := Scalar.cmpi .slt c8_i32 c0_i32_21
  let v35 : BitVec 32 := Scalar.extui v34
  let v36 : BitVec 32 := Scalar.subi v33 v35
  let v37 : BitVec 1 := Scalar.cmpi .ne v31 v36
  let v38 : BitVec 32 := Scalar.remsi v25 c8_i32
  let c0_i32_22 : BitVec 32 := 0#32
  let v39 : BitVec 1 := Scalar.cmpi .ne v38 c0_i32_22
  let v40 : BitVec 1 := Scalar.andi v37 v39
  let v26 : BitVec 32 := Scalar.divsi v25 c8_i32
  let c1_i32_23 : BitVec 32 := 1#32
  let v41 : BitVec 32 := Scalar.subi v26 c1_i32_23
  let v42 : BitVec 32 := Scalar.select v40 v41 v26
  let c4_i32 : BitVec 32 := 4#32
  let v48 : BitVec 32 := Scalar.muli v42 c4_i32
  let v49 : BitVec 32 := Scalar.subi arg2 v48
  let c1_i32_30 : BitVec 32 := 1#32
  let v51 : BitVec 32 := Scalar.divsi v49 c1_i32_30
  let v52 : BitVec 32 := Scalar.muli v51 c1_i32_30
  let v53 : BitVec 32 := Scalar.addi v48 v52
  let c1_i32_32 : BitVec 32 := 1#32
  let arg19 : BitVec 32 := Scf.iv v53 c1_i32_32 k0_t4
  let c2_i32_143 : BitVec 32 := 2#32
  let v291 : BitVec 32 := Scalar.muli arg19 c2_i32_143
  let c128_i32_144 : BitVec 32 := 128#32
  let v292 : BitVec 32 := Scalar.muli v291 c128_i32_144
  let v293 : BitVec 32 := v292
  let c128_i32_241 : BitVec 32 := 128#32
  let v487 : BitVec 32 := Scalar.addi v293 c128_i32_241
  v487
def k0_mult25 (i : grid0.Coords) : BitVec 32 :=
  let arg2 : BitVec 32 := BitVec.ofNat 32 (i 2).val
  let c2_i32_17 : BitVec 32 := 2#32
  let v25 : BitVec 32 := Scalar.muli arg2 c2_i32_17
  let c128_i32 : BitVec 32 := 128#32
  let v54 : BitVec 32 := Scalar.muli v25 c128_i32
  v54
def k0_off14 (i : grid0.Coords) : Fin 3 → Nat :=
  let c0_33 : Index := 0#32
  let arg2 : BitVec 32 := BitVec.ofNat 32 (i 2).val
  let c2_i32_17 : BitVec 32 := 2#32
  let v25 : BitVec 32 := Scalar.muli arg2 c2_i32_17
  let c128_i32 : BitVec 32 := 128#32
  let v54 : BitVec 32 := Scalar.muli v25 c128_i32
  let v55 : BitVec 32 := v54
  let v56 : Index := Scalar.indexCast v55
  let c0_34 : Index := 0#32
  ![0, v56.toNat, 0]
def k0_off15 (i : grid0.Coords) : Fin 4 → Nat :=
  let c0_36 : Index := 0#32
  let c0_37 : Index := 0#32
  let arg2 : BitVec 32 := BitVec.ofNat 32 (i 2).val
  let c2_i32_17 : BitVec 32 := 2#32
  let v25 : BitVec 32 := Scalar.muli arg2 c2_i32_17
  let v60 : Index := Scalar.indexCast v25
  let c0_38 : Index := 0#32
  ![0, 0, v60.toNat, 0]
def k0_mult26 (i : grid0.Coords) : BitVec 32 :=
  let arg2 : BitVec 32 := BitVec.ofNat 32 (i 2).val
  let c2_i32_17 : BitVec 32 := 2#32
  let v25 : BitVec 32 := Scalar.muli arg2 c2_i32_17
  let c128_i32 : BitVec 32 := 128#32
  let v54 : BitVec 32 := Scalar.muli v25 c128_i32
  let v55 : BitVec 32 := v54
  let c0_i32_113 : BitVec 32 := 0#32
  let v252 : BitVec 32 := Scalar.addi v55 c0_i32_113
  v252
def k0_off16 (i : grid0.Coords) (c0_i32_113 : BitVec 32) : Fin 4 → Nat :=
  let c0_114 : Index := 0#32
  let c0_115 : Index := 0#32
  let c0_116 : Index := 0#32
  let arg2 : BitVec 32 := BitVec.ofNat 32 (i 2).val
  let c2_i32_17 : BitVec 32 := 2#32
  let v25 : BitVec 32 := Scalar.muli arg2 c2_i32_17
  let c128_i32 : BitVec 32 := 128#32
  let v54 : BitVec 32 := Scalar.muli v25 c128_i32
  let v55 : BitVec 32 := v54
  let v252 : BitVec 32 := Scalar.addi v55 c0_i32_113
  let v253 : BitVec 32 := v252
  let v254 : Index := Scalar.indexCast v253
  ![0, 0, 0, v254.toNat]
def k0_mult27 (i : grid0.Coords) : BitVec 32 :=
  let arg2 : BitVec 32 := BitVec.ofNat 32 (i 2).val
  let c2_i32_17 : BitVec 32 := 2#32
  let v25 : BitVec 32 := Scalar.muli arg2 c2_i32_17
  let c128_i32 : BitVec 32 := 128#32
  let v54 : BitVec 32 := Scalar.muli v25 c128_i32
  let v55 : BitVec 32 := v54
  let c128_i32_122 : BitVec 32 := 128#32
  let v263 : BitVec 32 := Scalar.addi v55 c128_i32_122
  v263
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32768x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x32768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | "masked" => some ⊥
  | _ => none
-- ==== ReferenceIdeal.lean ====
abbrev S2x32768x2048 : Shape := ⟨3, ![2, 32768, 2048]⟩
abbrev S2x16x128x32768 : Shape := ⟨4, ![2, 16, 128, 32768]⟩
abbrev S2x256x16 : Shape := ⟨3, ![2, 256, 16]⟩
abbrev S2x32768x16x128 : Shape := ⟨4, ![2, 32768, 16, 128]⟩
abbrev S2x16x32768x32768 : Shape := ⟨4, ![2, 16, 32768, 32768]⟩
abbrev S2x16x256 : Shape := ⟨3, ![2, 16, 256]⟩
abbrev S2x16x256x1 : Shape := ⟨4, ![2, 16, 256, 1]⟩
abbrev S2x16x256x128 : Shape := ⟨4, ![2, 16, 256, 128]⟩
abbrev S2x16x32768 : Shape := ⟨3, ![2, 16, 32768]⟩
abbrev S2x16x32768x1 : Shape := ⟨4, ![2, 16, 32768, 1]⟩
abbrev S2x16x1x32768 : Shape := ⟨4, ![2, 16, 1, 32768]⟩
abbrev S_ : Shape := ⟨0, ![]⟩
abbrev S32768 : Shape := ⟨1, ![32768]⟩
abbrev S1x32768 : Shape := ⟨2, ![1, 32768]⟩
abbrev S32768x1 : Shape := ⟨2, ![32768, 1]⟩
abbrev S32768x32768 : Shape := ⟨2, ![32768, 32768]⟩
abbrev S2x16x32768x128 : Shape := ⟨4, ![2, 16, 32768, 128]⟩

abbrev nBuf : Space → Nat
  | .hbm => 62
  | .vmem => 6
  | .smem => 0
  | _ => 0

abbrev bufTy : (tb : Table) → Fin (tcTables nBuf tb) → BufTy
  | .hbm, ⟨0, _⟩ => ⟨S2x32768x2048, .fp8e4m3⟩
  | .hbm, ⟨1, _⟩ => ⟨S2x32768x2048, .fp8e4m3⟩
  | .hbm, ⟨2, _⟩ => ⟨S2x16x128x32768, .fp8e4m3⟩
  | .hbm, ⟨3, _⟩ => ⟨S2x256x16, .f32⟩
  | .hbm, ⟨4, _⟩ => ⟨S2x256x16, .f32⟩
  | .hbm, ⟨5, _⟩ => ⟨S2x256x16, .f32⟩
  | .hbm, ⟨6, _⟩ => ⟨S2x32768x2048, .f32⟩
  | .hbm, ⟨7, _⟩ => ⟨S2x32768x2048, .f32⟩
  | .hbm, ⟨8, _⟩ => ⟨S2x16x128x32768, .f32⟩
  | .hbm, ⟨9, _⟩ => ⟨S2x32768x16x128, .f32⟩
  | .hbm, ⟨10, _⟩ => ⟨S2x32768x16x128, .f32⟩
  | .hbm, ⟨11, _⟩ => ⟨S2x16x32768x32768, .f32⟩
  | .hbm, ⟨12, _⟩ => ⟨S2x16x256, .f32⟩
  | .hbm, ⟨13, _⟩ => ⟨S2x16x256x1, .f32⟩
  | .hbm, ⟨14, _⟩ => ⟨S2x16x256x128, .f32⟩
  | .hbm, ⟨15, _⟩ => ⟨S2x16x32768, .f32⟩
  | .hbm, ⟨16, _⟩ => ⟨S2x16x32768x1, .f32⟩
  | .hbm, ⟨17, _⟩ => ⟨S2x16x256, .f32⟩
  | .hbm, ⟨18, _⟩ => ⟨S2x16x256x1, .f32⟩
  | .hbm, ⟨19, _⟩ => ⟨S2x16x256x128, .f32⟩
  | .hbm, ⟨20, _⟩ => ⟨S2x16x32768, .f32⟩
  | .hbm, ⟨21, _⟩ => ⟨S2x16x1x32768, .f32⟩
  | .hbm, ⟨22, _⟩ => ⟨S2x16x32768x32768, .f32⟩
  | .hbm, ⟨23, _⟩ => ⟨S2x16x32768x32768, .f32⟩
  | .hbm, ⟨24, _⟩ => ⟨S2x16x32768x32768, .f32⟩
  | .hbm, ⟨25, _⟩ => ⟨S_, .f32⟩
  | .hbm, ⟨26, _⟩ => ⟨S2x16x32768x32768, .f32⟩
  | .hbm, ⟨27, _⟩ => ⟨S2x16x32768x32768, .f32⟩
  | .hbm, ⟨28, _⟩ => ⟨S2x16x32768x32768, .f32⟩
  | .hbm, ⟨29, _⟩ => ⟨S32768, .i32⟩
  | .hbm, ⟨30, _⟩ => ⟨S1x32768, .i32⟩
  | .hbm, ⟨31, _⟩ => ⟨S32768x1, .i32⟩
  | .hbm, ⟨32, _⟩ => ⟨S32768x32768, .i32⟩
  | .hbm, ⟨33, _⟩ => ⟨S32768x32768, .i32⟩
  | .hbm, ⟨34, _⟩ => ⟨S32768x32768, .i1⟩
  | .hbm, ⟨35, _⟩ => ⟨S_, .f32⟩
  | .hbm, ⟨36, _⟩ => ⟨S_, .f32⟩
  | .hbm, ⟨37, _⟩ => ⟨S2x16x32768x32768, .i1⟩
  | .hbm, ⟨38, _⟩ => ⟨S2x16x32768x32768, .f32⟩
  | .hbm, ⟨39, _⟩ => ⟨S2x16x32768x32768, .f32⟩
  | .hbm, ⟨40, _⟩ => ⟨S_, .f32⟩
  | .hbm, ⟨41, _⟩ => ⟨S2x16x32768, .f32⟩
  | .hbm, ⟨42, _⟩ => ⟨S2x16x32768x1, .f32⟩
  | .hbm, ⟨43, _⟩ => ⟨S2x16x32768x32768, .f32⟩
  | .hbm, ⟨44, _⟩ => ⟨S2x16x32768x32768, .f32⟩
  | .hbm, ⟨45, _⟩ => ⟨S2x16x32768x32768, .f32⟩
  | .hbm, ⟨46, _⟩ => ⟨S_, .f32⟩
  | .hbm, ⟨47, _⟩ => ⟨S2x16x32768, .f32⟩
  | .hbm, ⟨48, _⟩ => ⟨S2x16x256, .f32⟩
  | .hbm, ⟨49, _⟩ => ⟨S2x16x256x1, .f32⟩
  | .hbm, ⟨50, _⟩ => ⟨S2x16x256x128, .f32⟩
  | .hbm, ⟨51, _⟩ => ⟨S2x16x32768, .f32⟩
  | .hbm, ⟨52, _⟩ => ⟨S2x16x1x32768, .f32⟩
  | .hbm, ⟨53, _⟩ => ⟨S2x16x128x32768, .f32⟩
  | .hbm, ⟨54, _⟩ => ⟨S2x16x128x32768, .f32⟩
  | .hbm, ⟨55, _⟩ => ⟨S2x16x32768x128, .f32⟩
  | .hbm, ⟨56, _⟩ => ⟨S2x16x32768x1, .f32⟩
  | .hbm, ⟨57, _⟩ => ⟨S2x16x32768x128, .f32⟩
  | .hbm, ⟨58, _⟩ => ⟨S2x16x32768x128, .f32⟩
  | .hbm, ⟨59, _⟩ => ⟨S2x32768x16x128, .f32⟩
  | .hbm, ⟨60, _⟩ => ⟨S2x32768x2048, .f32⟩
  | .hbm, ⟨61, _⟩ => ⟨S2x32768x2048, .bf16⟩
  | .local _ .vmem, ⟨0, _⟩ => ⟨S2x32768x2048, .fp8e4m3⟩
  | .local _ .vmem, ⟨1, _⟩ => ⟨S2x32768x2048, .fp8e4m3⟩
  | .local _ .vmem, ⟨2, _⟩ => ⟨S2x16x128x32768, .fp8e4m3⟩
  | .local _ .vmem, ⟨3, _⟩ => ⟨S2x32768x2048, .f32⟩
  | .local _ .vmem, ⟨4, _⟩ => ⟨S2x32768x2048, .f32⟩
  | .local _ .vmem, ⟨5, _⟩ => ⟨S2x16x128x32768, .f32⟩
  | _, _ => ⟨S2x32768x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

def κ : String → Option EReal := fun
  | "log2e" => some (((Real.log 2)⁻¹ : ℝ) : EReal)
  | "masked" => some ⊥
  | _ => none

abbrev grid0 : Pipeline.Grid := .none

abbrev stage0_0 : Fin 1 → Memref sig .tc .vmem S2x32768x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32768x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16x128x32768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32768x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32768x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x16x128x32768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KTrip1.lean ====
module

public import proofs.«01_k».proof.Defs
public import proofs.«01_k».proof.Proof.Gen.Kernel.Frame
public import proofs.«01_k».proof.Proof.Gen.Kernel.Skeleton
public import proofs.«01_k».proof.Proof.Gen.Kernel.Loops
public import Idealize.ShloMosaic.Lib.LoopRemainder
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Trip

variable (c : Dev nD) (i : grid0.Coords) (arg3 : Memref sig .tc .vmem S1x256x128 .fp8e4m3) (harg3 : arg3.IsWhole) (arg4 : Memref sig .tc .vmem S1x32768x128 .fp8e4m3) (harg4 : arg4.IsWhole) (arg5 : Memref sig .tc .vmem S1x1x128x32768 .fp8e4m3) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S1x1x256x128 .f32) (harg8 : arg8.IsWhole) (arg9 : Memref sig .tc .vmem S1x256x128 .bf16) (harg9 : arg9.IsWhole) (arg10 : Memref sig .tc .vmem S128x256 .f32) (harg10 : arg10.IsWhole) (arg11 : Memref sig .tc .vmem S8x256 .f32) (harg11 : arg11.IsWhole) (arg12 : Memref sig .tc .vmem S1x256 .f32) (harg12 : arg12.IsWhole) (arg13 : Memref sig .tc .vmem S1024x256 .f32) (harg13 : arg13.IsWhole) (arg14 : Memref sig .tc .vmem S1024x256 .fp8e4m3) (harg14 : arg14.IsWhole) (arg15 : Memref sig .tc .vmem S8x256 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole)
variable (arg2 : BitVec 32) (v1 : FVec F S256x128 .fp8e4m3) (v12 : FVec F S1x256 .f32) (v25 : BitVec 32) (c8_i32 : BitVec 32) (v26 : BitVec 32) (v28 : BitVec 32)

/-- The whole accumulator. -/
abbrev R10 : Rect S128x256 := Rect.unit (s := S128x256) ![0, 0] S128x256.size inb_S128x256_S128x256_0_0
/-- The whole buffer of partial sums. -/
abbrev R11 : Rect S8x256 := Rect.unit (s := S8x256) ![0, 0] S8x256.size inb_S8x256_S8x256_0_0
/-- The whole row of running maxima. -/
abbrev R12 : Rect S1x256 := Rect.unit (s := S1x256) ![0, 0] S1x256.size inb_S1x256_S1x256_0_0

/-- One whole buffer at given contents. -/
abbrev pt {sp : Space} {S : Shape} {e : EltTy} (c : Dev nD) (a : Memref sig .tc sp S e) (f : Buf (Elt F) (a.view.loc (c : Thread nD τ))) : sProp 𝕄 :=
  a.view.loc (c : Thread nD τ) ↦[a.view.set]{fullShare} f

set_option backward.proofsInPublic true in
/-- One trip of the loop over eight key blocks, at symbolic buffers: what it leaves in the accumulator, in the
    partial sums and in the running maximum (found by running the trip), whatever the other scratch held. -/
@[irreducible] def trip1 (k : Fin (k0_t1_loop i).trips)
    (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ)))
    (f10 : Buf (Elt F) (arg10.view.loc (c : Thread nD τ))) (f11 : Buf (Elt F) (arg11.view.loc (c : Thread nD τ))) (f12 : Buf (Elt F) (arg12.view.loc (c : Thread nD τ))) :
    { w : FVec F S128x256 .f32 × FVec F S8x256 .f32 × FVec F S1x256 .f32 //
      ∀ (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))),
    iprop(pt c arg4 f4 ∗ pt c arg5 f5 ∗ pt c arg7 f7 ∗ pt c arg8 f8 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18)
      ⊢ wp frame (wpE (defs₀ (F := F)) Variants.none (c : Thread nD τ) none) Set.univ
        (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 k ())
        (fun _ => iprop(pt c arg4 f4 ∗ pt c arg5 f5 ∗ pt c arg7 f7 ∗ pt c arg8 f8
          ∗ pt c arg10 (arg10.view.writes (Elt F) f10 [⟨R10, w.1⟩])
          ∗ pt c arg11 (arg11.view.writes (Elt F) f11 [⟨R11, w.2.1⟩])
          ∗ pt c arg12 (arg12.view.writes (Elt F) f12 [⟨R12, w.2.2⟩])
          ∗ (∃ g, pt c arg13 g) ∗ (∃ g, pt c arg14 g) ∗ (∃ g, pt c arg15 g) ∗ (∃ g, pt c arg16 g) ∗ (∃ g, pt c arg17 g) ∗ (∃ g, pt c arg18 g))) } := by
  refine ⟨⟨?_, ?_, ?_⟩, ?run⟩
  case run =>
    intro f13 f14 f15 f16 f17 f18
    iintro ⟨H4, H5, H7, H8, H10, H11, H12, H13, H14, H15, H16, H17, H18⟩
    unfold k0_t1_body
    sl_exec
    sl_step
    sl_close

/-- The three kept buffers before trip `k` of that loop, from their contents before the first. -/
def st1 (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) :
    ℕ → Buf (Elt F) (arg10.view.loc (c : Thread nD τ)) × Buf (Elt F) (arg11.view.loc (c : Thread nD τ)) × Buf (Elt F) (arg12.view.loc (c : Thread nD τ))
  | 0 => (f10, f11, f12)
  | k + 1 =>
    let s := st1 f4 f5 f7 f8 f10 f11 f12 k
    if h : k < (k0_t1_loop i).trips then
      let w := (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 ⟨k, h⟩ f4 f5 f7 f8 s.1 s.2.1 s.2.2).1
      (arg10.view.writes (Elt F) s.1 [⟨R10, w.1⟩], arg11.view.writes (Elt F) s.2.1 [⟨R11, w.2.1⟩], arg12.view.writes (Elt F) s.2.2 [⟨R12, w.2.2⟩])
    else s

/-- The loop state after one more trip. -/
theorem st1_succ (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : Fin (k0_t1_loop i).trips) :
    st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 (k.val + 1)
      = (let s := st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k.val
         let w := (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 k f4 f5 f7 f8 s.1 s.2.1 s.2.2).1
         (arg10.view.writes (Elt F) s.1 [⟨R10, w.1⟩], arg11.view.writes (Elt F) s.2.1 [⟨R11, w.2.1⟩], arg12.view.writes (Elt F) s.2.2 [⟨R12, w.2.2⟩])) := by
  rw [st1]; exact dif_pos k.isLt

/-- Buffer 10 of those. -/
def a1 (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) : ℕ → Buf (Elt F) (arg10.view.loc (c : Thread nD τ))
  | 0 => f10
  | k + 1 => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 (k + 1)).1

/-- The accumulator in the loop state. -/
theorem a1_eq (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : ℕ) :
    a1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k).1 := by
  cases k <;> rfl

/-- Buffer 11 of those. -/
def l1 (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) : ℕ → Buf (Elt F) (arg11.view.loc (c : Thread nD τ))
  | 0 => f11
  | k + 1 => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 (k + 1)).2.1

/-- The sums of the weights in the loop state. -/
theorem l1_eq (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : ℕ) :
    l1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k).2.1 := by
  cases k <;> rfl

/-- Buffer 12 of those. -/
def m1 (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) : ℕ → Buf (Elt F) (arg12.view.loc (c : Thread nD τ))
  | 0 => f12
  | k + 1 => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 (k + 1)).2.2

/-- The running maximum in the loop state. -/
theorem m1_eq (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : ℕ) :
    m1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k).2.2 := by
  cases k <;> rfl

/-- The resources of that loop before trip `k`. -/
def res1 (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : ℕ) : sProp 𝕄 :=
  iprop(pt c arg4 f4 ∗ pt c arg5 f5 ∗ pt c arg7 f7 ∗ pt c arg8 f8
    ∗ pt c arg10 (a1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k)
    ∗ pt c arg11 (l1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k)
    ∗ pt c arg12 (m1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k)
    ∗ (∃ g, pt c arg13 g) ∗ (∃ g, pt c arg14 g) ∗ (∃ g, pt c arg15 g) ∗ (∃ g, pt c arg16 g) ∗ (∃ g, pt c arg17 g) ∗ (∃ g, pt c arg18 g))

/-- The invariant of that loop: the kept buffers are what the trips so far left. -/
@[sl_loop, instance_reducible] def loopInv1 (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 where
  inv k _ := res1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k
  step k _ := by
    unfold res1
    rw [a1_eq, l1_eq, m1_eq, a1_eq, l1_eq, m1_eq, st1_succ]
    iintro ⟨H4, H5, H7, H8, H10, H11, H12, ⟨%g13, H13⟩, ⟨%g14, H14⟩, ⟨%g15, H15⟩, ⟨%g16, H16⟩, ⟨%g17, H17⟩, ⟨%g18, H18⟩⟩
    iapply ((trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 k f4 f5 f7 f8 _ _ _).2 g13 g14 g15 g16 g17 g18)
    isplitl [H4]; · iexact H4
    isplitl [H5]; · iexact H5
    isplitl [H7]; · iexact H7
    isplitl [H8]; · iexact H8
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

end Trip

end Cert.Kernel.Hand
end
-- ==== Proof.KTrip3.lean ====
module

public import proofs.«01_k».proof.Defs
public import proofs.«01_k».proof.Proof.Gen.Kernel.Frame
public import proofs.«01_k».proof.Proof.Gen.Kernel.Skeleton
public import proofs.«01_k».proof.Proof.KTrip1
public import Idealize.ShloMosaic.Lib.LoopRemainder
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Trip

variable (c : Dev nD) (i : grid0.Coords) (arg3 : Memref sig .tc .vmem S1x256x128 .fp8e4m3) (harg3 : arg3.IsWhole) (arg4 : Memref sig .tc .vmem S1x32768x128 .fp8e4m3) (harg4 : arg4.IsWhole) (arg5 : Memref sig .tc .vmem S1x1x128x32768 .fp8e4m3) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S1x1x256x128 .f32) (harg8 : arg8.IsWhole) (arg9 : Memref sig .tc .vmem S1x256x128 .bf16) (harg9 : arg9.IsWhole) (arg10 : Memref sig .tc .vmem S128x256 .f32) (harg10 : arg10.IsWhole) (arg11 : Memref sig .tc .vmem S8x256 .f32) (harg11 : arg11.IsWhole) (arg12 : Memref sig .tc .vmem S1x256 .f32) (harg12 : arg12.IsWhole) (arg13 : Memref sig .tc .vmem S1024x256 .f32) (harg13 : arg13.IsWhole) (arg14 : Memref sig .tc .vmem S1024x256 .fp8e4m3) (harg14 : arg14.IsWhole) (arg15 : Memref sig .tc .vmem S8x256 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole)
variable (arg2 : BitVec 32) (v1 : FVec F S256x128 .fp8e4m3) (v12 : FVec F S1x256 .f32) (v25 : BitVec 32) (c8_i32 : BitVec 32) (v26 : BitVec 32) (v28 : BitVec 32)

set_option backward.proofsInPublic true in
/-- One trip of the loop over two key blocks, at symbolic buffers: what it leaves in the accumulator, in the
    partial sums and in the running maximum (found by running the trip), whatever the other scratch held. -/
@[irreducible] def trip3 (v48 : BitVec 32) (k : Fin (k0_t3_loop i).trips)
    (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ)))
    (f10 : Buf (Elt F) (arg10.view.loc (c : Thread nD τ))) (f11 : Buf (Elt F) (arg11.view.loc (c : Thread nD τ))) (f12 : Buf (Elt F) (arg12.view.loc (c : Thread nD τ))) :
    { w : FVec F S128x256 .f32 × FVec F S8x256 .f32 × FVec F S1x256 .f32 //
      ∀ (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))),
    iprop(pt c arg4 f4 ∗ pt c arg5 f5 ∗ pt c arg7 f7 ∗ pt c arg8 f8 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18)
      ⊢ wp frame (wpE (defs₀ (F := F)) Variants.none (c : Thread nD τ) none) Set.univ
        (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 k ())
        (fun _ => iprop(pt c arg4 f4 ∗ pt c arg5 f5 ∗ pt c arg7 f7 ∗ pt c arg8 f8
          ∗ pt c arg10 (arg10.view.writes (Elt F) f10 [⟨R10, w.1⟩])
          ∗ pt c arg11 (arg11.view.writes (Elt F) f11 [⟨R11, w.2.1⟩])
          ∗ pt c arg12 (arg12.view.writes (Elt F) f12 [⟨R12, w.2.2⟩])
          ∗ (∃ g, pt c arg13 g) ∗ (∃ g, pt c arg14 g) ∗ (∃ g, pt c arg15 g) ∗ (∃ g, pt c arg16 g) ∗ (∃ g, pt c arg17 g) ∗ (∃ g, pt c arg18 g))) } := by
  refine ⟨⟨?_, ?_, ?_⟩, ?run⟩
  case run =>
    intro f13 f14 f15 f16 f17 f18
    iintro ⟨H4, H5, H7, H8, H10, H11, H12, H13, H14, H15, H16, H17, H18⟩
    unfold k0_t3_body
    sl_exec
    sl_step
    sl_close

/-- The three kept buffers before trip `k` of that loop, from their contents before the first. -/
def st3 (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) :
    ℕ → Buf (Elt F) (arg10.view.loc (c : Thread nD τ)) × Buf (Elt F) (arg11.view.loc (c : Thread nD τ)) × Buf (Elt F) (arg12.view.loc (c : Thread nD τ))
  | 0 => (f10, f11, f12)
  | k + 1 =>
    let s := st3 v48 f4 f5 f7 f8 f10 f11 f12 k
    if h : k < (k0_t3_loop i).trips then
      let w := (trip3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 ⟨k, h⟩ f4 f5 f7 f8 s.1 s.2.1 s.2.2).1
      (arg10.view.writes (Elt F) s.1 [⟨R10, w.1⟩], arg11.view.writes (Elt F) s.2.1 [⟨R11, w.2.1⟩], arg12.view.writes (Elt F) s.2.2 [⟨R12, w.2.2⟩])
    else s

/-- The loop state after one more trip. -/
theorem st3_succ (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : Fin (k0_t3_loop i).trips) :
    st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 (k.val + 1)
      = (let s := st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k.val
         let w := (trip3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 k f4 f5 f7 f8 s.1 s.2.1 s.2.2).1
         (arg10.view.writes (Elt F) s.1 [⟨R10, w.1⟩], arg11.view.writes (Elt F) s.2.1 [⟨R11, w.2.1⟩], arg12.view.writes (Elt F) s.2.2 [⟨R12, w.2.2⟩])) := by
  rw [st3]; exact dif_pos k.isLt

/-- Buffer 10 of those. -/
def a3 (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) : ℕ → Buf (Elt F) (arg10.view.loc (c : Thread nD τ))
  | 0 => f10
  | k + 1 => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 (k + 1)).1

/-- The accumulator in the loop state. -/
theorem a3_eq (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : ℕ) :
    a3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k).1 := by
  cases k <;> rfl

/-- Buffer 11 of those. -/
def l3 (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) : ℕ → Buf (Elt F) (arg11.view.loc (c : Thread nD τ))
  | 0 => f11
  | k + 1 => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 (k + 1)).2.1

/-- The sums of the weights in the loop state. -/
theorem l3_eq (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : ℕ) :
    l3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k).2.1 := by
  cases k <;> rfl

/-- Buffer 12 of those. -/
def m3 (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) : ℕ → Buf (Elt F) (arg12.view.loc (c : Thread nD τ))
  | 0 => f12
  | k + 1 => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 (k + 1)).2.2

/-- The running maximum in the loop state. -/
theorem m3_eq (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : ℕ) :
    m3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k).2.2 := by
  cases k <;> rfl

/-- The resources of that loop before trip `k`. -/
def res3 (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : ℕ) : sProp 𝕄 :=
  iprop(pt c arg4 f4 ∗ pt c arg5 f5 ∗ pt c arg7 f7 ∗ pt c arg8 f8
    ∗ pt c arg10 (a3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k)
    ∗ pt c arg11 (l3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k)
    ∗ pt c arg12 (m3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k)
    ∗ (∃ g, pt c arg13 g) ∗ (∃ g, pt c arg14 g) ∗ (∃ g, pt c arg15 g) ∗ (∃ g, pt c arg16 g) ∗ (∃ g, pt c arg17 g) ∗ (∃ g, pt c arg18 g))

/-- The invariant of that loop: the kept buffers are what the trips so far left. -/
@[sl_loop, instance_reducible] def loopInv3 (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) :
    LoopInvTy_k0_t3 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 where
  inv k _ := res3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k
  step k _ := by
    unfold res3
    rw [a3_eq, l3_eq, m3_eq, a3_eq, l3_eq, m3_eq, st3_succ]
    iintro ⟨H4, H5, H7, H8, H10, H11, H12, ⟨%g13, H13⟩, ⟨%g14, H14⟩, ⟨%g15, H15⟩, ⟨%g16, H16⟩, ⟨%g17, H17⟩, ⟨%g18, H18⟩⟩
    iapply ((trip3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 k f4 f5 f7 f8 _ _ _).2 g13 g14 g15 g16 g17 g18)
    isplitl [H4]; · iexact H4
    isplitl [H5]; · iexact H5
    isplitl [H7]; · iexact H7
    isplitl [H8]; · iexact H8
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

end Trip

end Cert.Kernel.Hand
end
-- ==== Proof.KBody.lean ====
module

public import proofs.«01_k».proof.Defs
public import proofs.«01_k».proof.Proof.Gen.Kernel.Frame
public import proofs.«01_k».proof.Proof.Gen.Kernel.Skeleton
public import proofs.«01_k».proof.Proof.KTrip3
public import Idealize.ShloMosaic.Lib.LoopRemainder
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Trip

variable (c : Dev nD) (i : grid0.Coords) (arg3 : Memref sig .tc .vmem S1x256x128 .fp8e4m3) (harg3 : arg3.IsWhole) (arg4 : Memref sig .tc .vmem S1x32768x128 .fp8e4m3) (harg4 : arg4.IsWhole) (arg5 : Memref sig .tc .vmem S1x1x128x32768 .fp8e4m3) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S1x1x256x128 .f32) (harg8 : arg8.IsWhole) (arg9 : Memref sig .tc .vmem S1x256x128 .bf16) (harg9 : arg9.IsWhole) (arg10 : Memref sig .tc .vmem S128x256 .f32) (harg10 : arg10.IsWhole) (arg11 : Memref sig .tc .vmem S8x256 .f32) (harg11 : arg11.IsWhole) (arg12 : Memref sig .tc .vmem S1x256 .f32) (harg12 : arg12.IsWhole) (arg13 : Memref sig .tc .vmem S1024x256 .f32) (harg13 : arg13.IsWhole) (arg14 : Memref sig .tc .vmem S1024x256 .fp8e4m3) (harg14 : arg14.IsWhole) (arg15 : Memref sig .tc .vmem S8x256 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole)

/-- The whole block of the result. -/
abbrev R9 : Rect S1x256x128 := Rect.unit (s := S1x256x128) ![0, 0, 0] S1x256x128.size inb_S1x256x128_S1x256x128_0_0_0

set_option backward.proofsInPublic true in
/-- The kernel body at one grid point, at symbolic buffers: the block it stores (found by running it), whatever the
    scratch and the result's buffer held; the operands' buffers are left as they were. -/
@[irreducible] def bodyRun (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) :
    { w : FVec F S1x256x128 .bf16 //
      ∀ (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))),
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18)
      ⊢ wp frame (wpE (defs₀ (F := F)) Variants.none (c : Thread nD τ) none) Set.univ
        (cc0_attend (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop(pt c arg3 f3 ∗ pt c arg4 f4 ∗ pt c arg5 f5 ∗ pt c arg6 f6 ∗ pt c arg7 f7 ∗ pt c arg8 f8
          ∗ pt c arg9 (arg9.view.writes (Elt F) f9 [⟨R9, w⟩])
          ∗ (∃ g, pt c arg10 g) ∗ (∃ g, pt c arg11 g) ∗ (∃ g, pt c arg12 g) ∗ (∃ g, pt c arg13 g) ∗ (∃ g, pt c arg14 g) ∗ (∃ g, pt c arg15 g) ∗ (∃ g, pt c arg16 g) ∗ (∃ g, pt c arg17 g) ∗ (∃ g, pt c arg18 g))) } := by
  refine ⟨?_, ?run⟩
  case run =>
    intro f9 f10 f11 f12 f13 f14 f15 f16 f17 f18
    iintro ⟨H3, H4, H5, H6, H7, H8, H9, H10, H11, H12, H13, H14, H15, H16, H17, H18⟩
    unfold cc0_attend
    sl_exec
    sl_step
    sl_close

end Trip

end Cert.Kernel.Hand
end
-- ==== Proof.KRun.lean ====
module

public import proofs.«01_k».proof.Defs
public import proofs.«01_k».proof.Proof.Gen.Kernel.Frame
public import proofs.«01_k».proof.Proof.Gen.Kernel.Skeleton
public import proofs.«01_k».proof.Proof.KBody
public import Idealize.ShloMosaic.Lib.LoopRemainder
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel body's run at point `t` on the point's staging buffers, the operands' holding their blocks. -/
abbrev runAt (c : Dev nD) (t : Fin cfg0.N) := bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t))

/-- The block the body leaves in the result's staging buffer at point `t`. -/
def out6 (c : Dev nD) (t : Fin cfg0.N) : Vec F S1x256x128 .bf16 := View.canon [⟨R9, (runAt m c t).1⟩]

/-- What the pipeline's windows hold: the operands' blocks as fetched, the result's block as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ _ := Pipeline.ΦA spec0 c
  q _ := fullShare
  owed _ := 0

/-- The arrays of the windows are those that the host operations leave. -/
theorem A_eq (c : Dev nD) (w : Fin cfg0.W) : (dats m 0 c).A w = V m c (Pipeline.arrRef spec0 w) := rfl

/-- What the body leaves in window 0's buffer. -/
theorem after0_0 (c : Dev nD) (t : Fin cfg0.N) : (dats m 0 c).after 0 t = iblk m c 0 t := by dsimp only [dats]
/-- What the body leaves in window 1's buffer. -/
theorem after0_1 (c : Dev nD) (t : Fin cfg0.N) : (dats m 0 c).after 1 t = iblk m c 1 t := by dsimp only [dats]
/-- What the body leaves in window 2's buffer. -/
theorem after0_2 (c : Dev nD) (t : Fin cfg0.N) : (dats m 0 c).after 2 t = iblk m c 2 t := by dsimp only [dats]
/-- What the body leaves in window 3's buffer. -/
theorem after0_3 (c : Dev nD) (t : Fin cfg0.N) : (dats m 0 c).after 3 t = iblk m c 3 t := by dsimp only [dats]
/-- What the body leaves in window 4's buffer. -/
theorem after0_4 (c : Dev nD) (t : Fin cfg0.N) : (dats m 0 c).after 4 t = iblk m c 4 t := by dsimp only [dats]
/-- What the body leaves in window 5's buffer. -/
theorem after0_5 (c : Dev nD) (t : Fin cfg0.N) : (dats m 0 c).after 5 t = iblk m c 5 t := by dsimp only [dats]
/-- What the body leaves in window 6's buffer. -/
theorem after0_6 (c : Dev nD) (t : Fin cfg0.N) : (dats m 0 c).after 6 t = out6 m c t := by dsimp only [dats]

/-- What the body finds in window 0's buffer. -/
theorem before0_0 (c : Dev nD) (t : Fin cfg0.N) (d) : (dats m 0 c).before 0 t d = iblk m c 0 t :=
  before0_0_of m (dats m 0 c) (A_eq m c 0) (after0_0 m c) t d
/-- What the body finds in window 1's buffer. -/
theorem before0_1 (c : Dev nD) (t : Fin cfg0.N) (d) : (dats m 0 c).before 1 t d = iblk m c 1 t :=
  before0_1_of m (dats m 0 c) (A_eq m c 1) (after0_1 m c) t d
/-- What the body finds in window 2's buffer. -/
theorem before0_2 (c : Dev nD) (t : Fin cfg0.N) (d) : (dats m 0 c).before 2 t d = iblk m c 2 t :=
  before0_2_of m (dats m 0 c) (A_eq m c 2) (after0_2 m c) t d
/-- What the body finds in window 3's buffer. -/
theorem before0_3 (c : Dev nD) (t : Fin cfg0.N) (d) : (dats m 0 c).before 3 t d = iblk m c 3 t :=
  before0_3_of m (dats m 0 c) (A_eq m c 3) (after0_3 m c) t d
/-- What the body finds in window 4's buffer. -/
theorem before0_4 (c : Dev nD) (t : Fin cfg0.N) (d) : (dats m 0 c).before 4 t d = iblk m c 4 t :=
  before0_4_of m (dats m 0 c) (A_eq m c 4) (after0_4 m c) t d
/-- What the body finds in window 5's buffer. -/
theorem before0_5 (c : Dev nD) (t : Fin cfg0.N) (d) : (dats m 0 c).before 5 t d = iblk m c 5 t :=
  before0_5_of m (dats m 0 c) (A_eq m c 5) (after0_5 m c) t d

/-- The store of the result fills its block. -/
theorem cover6 (p : Vec F S1x256x128 .bf16) (y : S1x256x128.Idx) :
    ∃ pc ∈ ([⟨R9, p⟩] : List (View.Piece (Elt F) S1x256x128 .bf16)), y ∈ pc.1.set :=
  View.cover_of_tiled [⟨R9, p⟩] S1x256x128.size (by rfl) y

/-- The body table's row at the point's staging buffers is the kernel's body on them. -/
theorem defs₀_row (t : Fin cfg0.N) : (defs₀ (F := F)) .tc cfg0.body (cfg0.bodyArgs t (cfg0.slots t)) = bodyAt0 t := by
  unfold defs₀; rw [Defs.onTc_tc]

/-- A whole buffer's points-to, through its whole memref or directly. -/
theorem pt_whole (c : Dev nD) (b : Ref sig .tc) (f : Buf (Elt F) ((c : Thread nD τ).loc b)) :
    pt (F := F) c (Memref.whole b) f = (((c : Thread nD τ).loc b) ↦{fullShare} f : sProp 𝕄) := by
  unfold pt; simp only [Memref.view_whole, View.set_whole]; try rfl

/-- A run with a frame, its postcondition weakened by the frame. -/
theorem wp_of {c : Dev nD} (E : Set ℕ) {P R : sProp 𝕄} {p : Prog (TpuEff nD τ sig (Elt F) Λ₀ .tc) PUnit} {Q K : PUnit → sProp 𝕄}
    (h : P ⊢ wp Idealize.ShloMosaic.frame (wpE (defs₀ (F := F)) Variants.none (c : Thread nD τ) none) E p Q) (hk : ∀ u, iprop(Q u ∗ R) ⊢ K u) :
    iprop(P ∗ R) ⊢ wp Idealize.ShloMosaic.frame (wpE (defs₀ (F := F)) Variants.none (c : Thread nD τ) none) E p K := by
  refine Idealize.SL.BI.Entails.trans ?_ ((wp_frame_r Idealize.ShloMosaic.frame (wpE (defs₀ (F := F)) Variants.none (c : Thread nD τ) none) E).trans (wp_mono Idealize.ShloMosaic.frame (wpE (defs₀ (F := F)) Variants.none (c : Thread nD τ) none) E hk))
  exact Idealize.SL.BI.sep_mono_l h

section K
variable (c : Dev nD) (i : grid0.Coords) (arg3 : Memref sig .tc .vmem S1x256x128 .fp8e4m3) (harg3 : arg3.IsWhole) (arg4 : Memref sig .tc .vmem S1x32768x128 .fp8e4m3) (harg4 : arg4.IsWhole) (arg5 : Memref sig .tc .vmem S1x1x128x32768 .fp8e4m3) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S1x1x256x128 .f32) (harg8 : arg8.IsWhole) (arg9 : Memref sig .tc .vmem S1x256x128 .bf16) (harg9 : arg9.IsWhole) (arg10 : Memref sig .tc .vmem S128x256 .f32) (harg10 : arg10.IsWhole) (arg11 : Memref sig .tc .vmem S8x256 .f32) (harg11 : arg11.IsWhole) (arg12 : Memref sig .tc .vmem S1x256 .f32) (harg12 : arg12.IsWhole) (arg13 : Memref sig .tc .vmem S1024x256 .f32) (harg13 : arg13.IsWhole) (arg14 : Memref sig .tc .vmem S1024x256 .fp8e4m3) (harg14 : arg14.IsWhole) (arg15 : Memref sig .tc .vmem S8x256 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole)
/-- The kernel's body from the operands' blocks: the operands kept, the result's buffer at the block it stores. -/
theorem sound_kernel (X3 : Vec F S1x256x128 .fp8e4m3) (X4 : Vec F S1x32768x128 .fp8e4m3) (X5 : Vec F S1x1x128x32768 .fp8e4m3) (X6 X7 X8 : Vec F S1x1x256x128 .f32) (K : PUnit → sProp 𝕄) :
    iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ (∃ d, owns (c : Thread nD τ) arg9 fullShare d) ∗ (∃ g, pt (F := F) c arg10 g) ∗ (∃ g, pt (F := F) c arg11 g) ∗ (∃ g, pt (F := F) c arg12 g) ∗ (∃ g, pt (F := F) c arg13 g) ∗ (∃ g, pt (F := F) c arg14 g) ∗ (∃ g, pt (F := F) c arg15 g) ∗ (∃ g, pt (F := F) c arg16 g) ∗ (∃ g, pt (F := F) c arg17 g) ∗ (∃ g, pt (F := F) c arg18 g)
      ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare (View.canon [⟨R9, (bodyRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread X3) (harg4.unread X4) (harg5.unread X5) (harg6.unread X6) (harg7.unread X7) (harg8.unread X8)).1⟩] : Vec F S1x256x128 .bf16) ∗ (∃ g, pt (F := F) c arg10 g) ∗ (∃ g, pt (F := F) c arg11 g) ∗ (∃ g, pt (F := F) c arg12 g) ∗ (∃ g, pt (F := F) c arg13 g) ∗ (∃ g, pt (F := F) c arg14 g) ∗ (∃ g, pt (F := F) c arg15 g) ∗ (∃ g, pt (F := F) c arg16 g) ∗ (∃ g, pt (F := F) c arg17 g) ∗ (∃ g, pt (F := F) c arg18 g)) -∗ K ⟨⟩))
      ⊢ wp frame (wpE (defs₀ (F := F)) Variants.none (c : Thread nD τ) none) Set.univ (cc0_attend (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, HK⟩
  obtain rfl := harg3.eq_unread h3
  obtain rfl := harg4.eq_unread h4
  obtain rfl := harg5.eq_unread h5
  obtain rfl := harg6.eq_unread h6
  obtain rfl := harg7.eq_unread h7
  obtain rfl := harg8.eq_unread h8
  have hk : ∀ u : PUnit, iprop((pt c arg3 (harg3.unread X3) ∗ pt c arg4 (harg4.unread X4) ∗ pt c arg5 (harg5.unread X5) ∗ pt c arg6 (harg6.unread X6) ∗ pt c arg7 (harg7.unread X7) ∗ pt c arg8 (harg8.unread X8) ∗ pt c arg9 (arg9.view.writes (Elt F) f9 [⟨R9, (bodyRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread X3) (harg4.unread X4) (harg5.unread X5) (harg6.unread X6) (harg7.unread X7) (harg8.unread X8)).1⟩]) ∗ (∃ g, pt (F := F) c arg10 g) ∗ (∃ g, pt (F := F) c arg11 g) ∗ (∃ g, pt (F := F) c arg12 g) ∗ (∃ g, pt (F := F) c arg13 g) ∗ (∃ g, pt (F := F) c arg14 g) ∗ (∃ g, pt (F := F) c arg15 g) ∗ (∃ g, pt (F := F) c arg16 g) ∗ (∃ g, pt (F := F) c arg17 g) ∗ (∃ g, pt (F := F) c arg18 g)) ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare (View.canon [⟨R9, (bodyRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread X3) (harg4.unread X4) (harg5.unread X5) (harg6.unread X6) (harg7.unread X7) (harg8.unread X8)).1⟩] : Vec F S1x256x128 .bf16) ∗ (∃ g, pt (F := F) c arg10 g) ∗ (∃ g, pt (F := F) c arg11 g) ∗ (∃ g, pt (F := F) c arg12 g) ∗ (∃ g, pt (F := F) c arg13 g) ∗ (∃ g, pt (F := F) c arg14 g) ∗ (∃ g, pt (F := F) c arg15 g) ∗ (∃ g, pt (F := F) c arg16 g) ∗ (∃ g, pt (F := F) c arg17 g) ∗ (∃ g, pt (F := F) c arg18 g)) -∗ K ⟨⟩)) ⊢ K u := by
    intro u
    iintro ⟨⟨H3, H4, H5, H6, H7, H8, H9, H10, H11, H12, H13, H14, H15, H16, H17, H18⟩, HK⟩
    iapply HK
    unfold owns
    isplitl [H3]
    · iexists (harg3.unread X3); isplitr; · ipureintro; exact harg3.read_unread _
      iexact H3
    isplitl [H4]
    · iexists (harg4.unread X4); isplitr; · ipureintro; exact harg4.read_unread _
      iexact H4
    isplitl [H5]
    · iexists (harg5.unread X5); isplitr; · ipureintro; exact harg5.read_unread _
      iexact H5
    isplitl [H6]
    · iexists (harg6.unread X6); isplitr; · ipureintro; exact harg6.read_unread _
      iexact H6
    isplitl [H7]
    · iexists (harg7.unread X7); isplitr; · ipureintro; exact harg7.read_unread _
      iexact H7
    isplitl [H8]
    · iexists (harg8.unread X8); isplitr; · ipureintro; exact harg8.read_unread _
      iexact H8
    isplitl [H9]
    · iexists (arg9.view.writes (Elt F) f9 [⟨R9, (bodyRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread X3) (harg4.unread X4) (harg5.unread X5) (harg6.unread X6) (harg7.unread X7) (harg8.unread X8)).1⟩]); isplitr
      swap; · iexact H9
      ipureintro
      exact View.read_writes_eq_canon _ _ _ (cover6 _)
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iapply (wp_of Set.univ ((bodyRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread X3) (harg4.unread X4) (harg5.unread X5) (harg6.unread X6) (harg7.unread X7) (harg8.unread X8)).2 f9 f10 f11 f12 f13 f14 f15 f16 f17 f18) hk)
  isplitl [H3 H4 H5 H6 H7 H8 H9 H10 H11 H12 H13 H14 H15 H16 H17 H18]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  unfold owns
  iexact HK

end K

/-- The scratch on core `c`, each buffer whole at some contents. -/
theorem scratch_eq (c : Dev nD) : (Pipeline.scopedRest (Ix := Unit) (Name := ℕ) (U := UR sig nD τ) (Lvl := ℕ) (Val := Elt F) spec0 c : sProp 𝕄)
    = iprop((∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g) ∗ (∃ g, pt (F := F) c (Memref.whole cc0_scratch5) g) ∗ (∃ g, pt (F := F) c (Memref.whole cc0_scratch6) g) ∗ (∃ g, pt (F := F) c (Memref.whole cc0_scratch7) g) ∗ (∃ g, pt (F := F) c (Memref.whole cc0_scratch8) g)) := by
  rw [scopedRest0_eq]; simp only [← pt_whole]; try rfl

/-- What the body holds before point `t`. -/
def bodyPre (c : Dev nD) (t : Fin cfg0.N) : sProp 𝕄 :=
  iprop((dats (F := F) m 0 c).Φ t.castSucc ∗ (dats (F := F) m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- What the body holds after point `t`. -/
def bodyPost (c : Dev nD) (t : Fin cfg0.N) : sProp 𝕄 :=
  iprop((dats (F := F) m 0 c).Φ t.succ ∗ (dats (F := F) m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at point `t`. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6]
  unfold Pipeline.ΦA out6
  rw [scratch_eq]
  iintro ⟨⟨⟨S0, S1, S2, S3, S4, S5, S6, S7, S8⟩, Hp⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, S0, S1, S2, S3, S4, S5, S6, S7, S8⟩
  isplitl [S0 S1 S2 S3 S4 S5 S6 S7 S8 Hp]
  · isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at every grid point: from the windows' buffers and the scratch to the same, the result's buffer at `out6`. -/
theorem body_obligation (c : Dev nD) : BodyObligation (dats (F := F) m 0 c) (defs₀ (F := F)) Variants.none () Set.univ := fun t => by
  rw [bigSep_W0, bigSep_W0, defs₀_row]
  exact sound_body m c t

set_option backward.isDefEq.respectTransparency.types false in
/-- @main runs to the end; every array ends at the write-backs' contents, every other argument as launched, every
    semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl) (Q' := _)

/-- The run with the arguments unchanged, the result's array at the write-backs' contents, the counters at zero. -/
theorem run_out : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ (∀ c : Dev nD, r.2.mem ((c.tc : Thread nD τ).loc main_v9) = (dats m 0 c).arrAt 6 cfg0.N)
      ∧ r.2.sem = fun _ => 0) :=
  (θ_run defs _ _).mono (fun _ h => ⟨fun c =>
      ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩,
      fun c => (h.1 c).1 6, h.2⟩) (run_main m ρ)

end Cert.Kernel.Hand

end
-- ==== Proof.Trip1.lean ====
module

public import proofs.«01_k».proof.Defs
public import proofs.«01_k».proof.Proof.Gen.KernelIdeal.Frame
public import proofs.«01_k».proof.Proof.Gen.KernelIdeal.Skeleton
public import proofs.«01_k».proof.Proof.Gen.KernelIdeal.Loops
public import Idealize.ShloMosaic.Lib.LoopRemainder
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Trip

variable (c : Dev nD) (i : grid0.Coords) (arg3 : Memref sig .tc .vmem S1x256x128 .fp8e4m3) (harg3 : arg3.IsWhole) (arg4 : Memref sig .tc .vmem S1x32768x128 .fp8e4m3) (harg4 : arg4.IsWhole) (arg5 : Memref sig .tc .vmem S1x1x128x32768 .fp8e4m3) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S1x1x256x128 .f32) (harg8 : arg8.IsWhole) (arg9 : Memref sig .tc .vmem S1x256x128 .bf16) (harg9 : arg9.IsWhole) (arg10 : Memref sig .tc .vmem S128x256 .f32) (harg10 : arg10.IsWhole) (arg11 : Memref sig .tc .vmem S8x256 .f32) (harg11 : arg11.IsWhole) (arg12 : Memref sig .tc .vmem S1x256 .f32) (harg12 : arg12.IsWhole) (arg13 : Memref sig .tc .vmem S1024x256 .f32) (harg13 : arg13.IsWhole) (arg14 : Memref sig .tc .vmem S1024x256 .fp8e4m3) (harg14 : arg14.IsWhole) (arg15 : Memref sig .tc .vmem S8x256 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole)
variable (arg2 : BitVec 32) (v1 : FVec F S256x128 .fp8e4m3) (v12 : FVec F S1x256 .f32) (v25 : BitVec 32) (c8_i32 : BitVec 32) (v26 : BitVec 32) (v28 : BitVec 32)

/-- The whole accumulator. -/
abbrev R10 : Rect S128x256 := Rect.unit (s := S128x256) ![0, 0] S128x256.size inb_S128x256_S128x256_0_0
/-- The whole buffer of partial sums. -/
abbrev R11 : Rect S8x256 := Rect.unit (s := S8x256) ![0, 0] S8x256.size inb_S8x256_S8x256_0_0
/-- The whole row of running maxima. -/
abbrev R12 : Rect S1x256 := Rect.unit (s := S1x256) ![0, 0] S1x256.size inb_S1x256_S1x256_0_0

/-- One whole buffer at given contents. -/
abbrev pt {sp : Space} {S : Shape} {e : EltTy} (c : Dev nD) (a : Memref sig .tc sp S e) (f : Buf (Elt F) (a.view.loc (c : Thread nD τ))) : sProp 𝕄 :=
  a.view.loc (c : Thread nD τ) ↦[a.view.set]{fullShare} f

set_option backward.proofsInPublic true in
/-- One trip of the loop over eight key blocks, at symbolic buffers: what it leaves in the accumulator, in the
    partial sums and in the running maximum (found by running the trip), whatever the other scratch held. -/
@[irreducible] def trip1 (k : Fin (k0_t1_loop i).trips)
    (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ)))
    (f10 : Buf (Elt F) (arg10.view.loc (c : Thread nD τ))) (f11 : Buf (Elt F) (arg11.view.loc (c : Thread nD τ))) (f12 : Buf (Elt F) (arg12.view.loc (c : Thread nD τ))) :
    { w : FVec F S128x256 .f32 × FVec F S8x256 .f32 × FVec F S1x256 .f32 //
      ∀ (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))),
    iprop(pt c arg4 f4 ∗ pt c arg5 f5 ∗ pt c arg7 f7 ∗ pt c arg8 f8 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18)
      ⊢ wp frame (wpE (defs₀ (F := F)) Variants.none (c : Thread nD τ) none) Set.univ
        (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 k ())
        (fun _ => iprop(pt c arg4 f4 ∗ pt c arg5 f5 ∗ pt c arg7 f7 ∗ pt c arg8 f8
          ∗ pt c arg10 (arg10.view.writes (Elt F) f10 [⟨R10, w.1⟩])
          ∗ pt c arg11 (arg11.view.writes (Elt F) f11 [⟨R11, w.2.1⟩])
          ∗ pt c arg12 (arg12.view.writes (Elt F) f12 [⟨R12, w.2.2⟩])
          ∗ (∃ g, pt c arg13 g) ∗ (∃ g, pt c arg14 g) ∗ (∃ g, pt c arg15 g) ∗ (∃ g, pt c arg16 g) ∗ (∃ g, pt c arg17 g) ∗ (∃ g, pt c arg18 g))) } := by
  refine ⟨⟨?_, ?_, ?_⟩, ?run⟩
  case run =>
    intro f13 f14 f15 f16 f17 f18
    iintro ⟨H4, H5, H7, H8, H10, H11, H12, H13, H14, H15, H16, H17, H18⟩
    unfold k0_t1_body
    sl_exec
    sl_step
    sl_close

/-- The three kept buffers before trip `k` of that loop, from their contents before the first. -/
def st1 (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) :
    ℕ → Buf (Elt F) (arg10.view.loc (c : Thread nD τ)) × Buf (Elt F) (arg11.view.loc (c : Thread nD τ)) × Buf (Elt F) (arg12.view.loc (c : Thread nD τ))
  | 0 => (f10, f11, f12)
  | k + 1 =>
    let s := st1 f4 f5 f7 f8 f10 f11 f12 k
    if h : k < (k0_t1_loop i).trips then
      let w := (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 ⟨k, h⟩ f4 f5 f7 f8 s.1 s.2.1 s.2.2).1
      (arg10.view.writes (Elt F) s.1 [⟨R10, w.1⟩], arg11.view.writes (Elt F) s.2.1 [⟨R11, w.2.1⟩], arg12.view.writes (Elt F) s.2.2 [⟨R12, w.2.2⟩])
    else s

/-- The loop state after one more trip. -/
theorem st1_succ (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : Fin (k0_t1_loop i).trips) :
    st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 (k.val + 1)
      = (let s := st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k.val
         let w := (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 k f4 f5 f7 f8 s.1 s.2.1 s.2.2).1
         (arg10.view.writes (Elt F) s.1 [⟨R10, w.1⟩], arg11.view.writes (Elt F) s.2.1 [⟨R11, w.2.1⟩], arg12.view.writes (Elt F) s.2.2 [⟨R12, w.2.2⟩])) := by
  rw [st1]; exact dif_pos k.isLt

/-- Buffer 10 of those. -/
def a1 (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) : ℕ → Buf (Elt F) (arg10.view.loc (c : Thread nD τ))
  | 0 => f10
  | k + 1 => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 (k + 1)).1

/-- The accumulator in the loop state. -/
theorem a1_eq (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : ℕ) :
    a1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k).1 := by
  cases k <;> rfl

/-- Buffer 11 of those. -/
def l1 (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) : ℕ → Buf (Elt F) (arg11.view.loc (c : Thread nD τ))
  | 0 => f11
  | k + 1 => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 (k + 1)).2.1

/-- The sums of the weights in the loop state. -/
theorem l1_eq (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : ℕ) :
    l1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k).2.1 := by
  cases k <;> rfl

/-- Buffer 12 of those. -/
def m1 (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) : ℕ → Buf (Elt F) (arg12.view.loc (c : Thread nD τ))
  | 0 => f12
  | k + 1 => (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 (k + 1)).2.2

/-- The running maximum in the loop state. -/
theorem m1_eq (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : ℕ) :
    m1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k = (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k).2.2 := by
  cases k <;> rfl

/-- The resources of that loop before trip `k`. -/
def res1 (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : ℕ) : sProp 𝕄 :=
  iprop(pt c arg4 f4 ∗ pt c arg5 f5 ∗ pt c arg7 f7 ∗ pt c arg8 f8
    ∗ pt c arg10 (a1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k)
    ∗ pt c arg11 (l1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k)
    ∗ pt c arg12 (m1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k)
    ∗ (∃ g, pt c arg13 g) ∗ (∃ g, pt c arg14 g) ∗ (∃ g, pt c arg15 g) ∗ (∃ g, pt c arg16 g) ∗ (∃ g, pt c arg17 g) ∗ (∃ g, pt c arg18 g))

/-- The invariant of that loop: the kept buffers are what the trips so far left. -/
@[sl_loop, instance_reducible] def loopInv1 (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 where
  inv k _ := res1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 f4 f5 f7 f8 f10 f11 f12 k
  step k _ := by
    unfold res1
    rw [a1_eq, l1_eq, m1_eq, a1_eq, l1_eq, m1_eq, st1_succ]
    iintro ⟨H4, H5, H7, H8, H10, H11, H12, ⟨%g13, H13⟩, ⟨%g14, H14⟩, ⟨%g15, H15⟩, ⟨%g16, H16⟩, ⟨%g17, H17⟩, ⟨%g18, H18⟩⟩
    iapply ((trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 k f4 f5 f7 f8 _ _ _).2 g13 g14 g15 g16 g17 g18)
    isplitl [H4]; · iexact H4
    isplitl [H5]; · iexact H5
    isplitl [H7]; · iexact H7
    isplitl [H8]; · iexact H8
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

end Trip

end Cert.KernelIdeal.Hand
end
-- ==== Proof.Trip3.lean ====
module

public import proofs.«01_k».proof.Defs
public import proofs.«01_k».proof.Proof.Gen.KernelIdeal.Frame
public import proofs.«01_k».proof.Proof.Gen.KernelIdeal.Skeleton
public import proofs.«01_k».proof.Proof.Trip1
public import Idealize.ShloMosaic.Lib.LoopRemainder
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Trip

variable (c : Dev nD) (i : grid0.Coords) (arg3 : Memref sig .tc .vmem S1x256x128 .fp8e4m3) (harg3 : arg3.IsWhole) (arg4 : Memref sig .tc .vmem S1x32768x128 .fp8e4m3) (harg4 : arg4.IsWhole) (arg5 : Memref sig .tc .vmem S1x1x128x32768 .fp8e4m3) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S1x1x256x128 .f32) (harg8 : arg8.IsWhole) (arg9 : Memref sig .tc .vmem S1x256x128 .bf16) (harg9 : arg9.IsWhole) (arg10 : Memref sig .tc .vmem S128x256 .f32) (harg10 : arg10.IsWhole) (arg11 : Memref sig .tc .vmem S8x256 .f32) (harg11 : arg11.IsWhole) (arg12 : Memref sig .tc .vmem S1x256 .f32) (harg12 : arg12.IsWhole) (arg13 : Memref sig .tc .vmem S1024x256 .f32) (harg13 : arg13.IsWhole) (arg14 : Memref sig .tc .vmem S1024x256 .fp8e4m3) (harg14 : arg14.IsWhole) (arg15 : Memref sig .tc .vmem S8x256 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole)
variable (arg2 : BitVec 32) (v1 : FVec F S256x128 .fp8e4m3) (v12 : FVec F S1x256 .f32) (v25 : BitVec 32) (c8_i32 : BitVec 32) (v26 : BitVec 32) (v28 : BitVec 32)

set_option backward.proofsInPublic true in
/-- One trip of the loop over two key blocks, at symbolic buffers: what it leaves in the accumulator, in the
    partial sums and in the running maximum (found by running the trip), whatever the other scratch held. -/
@[irreducible] def trip3 (v48 : BitVec 32) (k : Fin (k0_t3_loop i).trips)
    (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ)))
    (f10 : Buf (Elt F) (arg10.view.loc (c : Thread nD τ))) (f11 : Buf (Elt F) (arg11.view.loc (c : Thread nD τ))) (f12 : Buf (Elt F) (arg12.view.loc (c : Thread nD τ))) :
    { w : FVec F S128x256 .f32 × FVec F S8x256 .f32 × FVec F S1x256 .f32 //
      ∀ (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))),
    iprop(pt c arg4 f4 ∗ pt c arg5 f5 ∗ pt c arg7 f7 ∗ pt c arg8 f8 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18)
      ⊢ wp frame (wpE (defs₀ (F := F)) Variants.none (c : Thread nD τ) none) Set.univ
        (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 k ())
        (fun _ => iprop(pt c arg4 f4 ∗ pt c arg5 f5 ∗ pt c arg7 f7 ∗ pt c arg8 f8
          ∗ pt c arg10 (arg10.view.writes (Elt F) f10 [⟨R10, w.1⟩])
          ∗ pt c arg11 (arg11.view.writes (Elt F) f11 [⟨R11, w.2.1⟩])
          ∗ pt c arg12 (arg12.view.writes (Elt F) f12 [⟨R12, w.2.2⟩])
          ∗ (∃ g, pt c arg13 g) ∗ (∃ g, pt c arg14 g) ∗ (∃ g, pt c arg15 g) ∗ (∃ g, pt c arg16 g) ∗ (∃ g, pt c arg17 g) ∗ (∃ g, pt c arg18 g))) } := by
  refine ⟨⟨?_, ?_, ?_⟩, ?run⟩
  case run =>
    intro f13 f14 f15 f16 f17 f18
    iintro ⟨H4, H5, H7, H8, H10, H11, H12, H13, H14, H15, H16, H17, H18⟩
    unfold k0_t3_body
    sl_exec
    sl_step
    sl_close

/-- The three kept buffers before trip `k` of that loop, from their contents before the first. -/
def st3 (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) :
    ℕ → Buf (Elt F) (arg10.view.loc (c : Thread nD τ)) × Buf (Elt F) (arg11.view.loc (c : Thread nD τ)) × Buf (Elt F) (arg12.view.loc (c : Thread nD τ))
  | 0 => (f10, f11, f12)
  | k + 1 =>
    let s := st3 v48 f4 f5 f7 f8 f10 f11 f12 k
    if h : k < (k0_t3_loop i).trips then
      let w := (trip3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 ⟨k, h⟩ f4 f5 f7 f8 s.1 s.2.1 s.2.2).1
      (arg10.view.writes (Elt F) s.1 [⟨R10, w.1⟩], arg11.view.writes (Elt F) s.2.1 [⟨R11, w.2.1⟩], arg12.view.writes (Elt F) s.2.2 [⟨R12, w.2.2⟩])
    else s

/-- The loop state after one more trip. -/
theorem st3_succ (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : Fin (k0_t3_loop i).trips) :
    st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 (k.val + 1)
      = (let s := st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k.val
         let w := (trip3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 k f4 f5 f7 f8 s.1 s.2.1 s.2.2).1
         (arg10.view.writes (Elt F) s.1 [⟨R10, w.1⟩], arg11.view.writes (Elt F) s.2.1 [⟨R11, w.2.1⟩], arg12.view.writes (Elt F) s.2.2 [⟨R12, w.2.2⟩])) := by
  rw [st3]; exact dif_pos k.isLt

/-- Buffer 10 of those. -/
def a3 (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) : ℕ → Buf (Elt F) (arg10.view.loc (c : Thread nD τ))
  | 0 => f10
  | k + 1 => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 (k + 1)).1

/-- The accumulator in the loop state. -/
theorem a3_eq (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : ℕ) :
    a3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k).1 := by
  cases k <;> rfl

/-- Buffer 11 of those. -/
def l3 (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) : ℕ → Buf (Elt F) (arg11.view.loc (c : Thread nD τ))
  | 0 => f11
  | k + 1 => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 (k + 1)).2.1

/-- The sums of the weights in the loop state. -/
theorem l3_eq (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : ℕ) :
    l3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k).2.1 := by
  cases k <;> rfl

/-- Buffer 12 of those. -/
def m3 (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) : ℕ → Buf (Elt F) (arg12.view.loc (c : Thread nD τ))
  | 0 => f12
  | k + 1 => (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 (k + 1)).2.2

/-- The running maximum in the loop state. -/
theorem m3_eq (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : ℕ) :
    m3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k = (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k).2.2 := by
  cases k <;> rfl

/-- The resources of that loop before trip `k`. -/
def res3 (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) (k : ℕ) : sProp 𝕄 :=
  iprop(pt c arg4 f4 ∗ pt c arg5 f5 ∗ pt c arg7 f7 ∗ pt c arg8 f8
    ∗ pt c arg10 (a3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k)
    ∗ pt c arg11 (l3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k)
    ∗ pt c arg12 (m3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k)
    ∗ (∃ g, pt c arg13 g) ∗ (∃ g, pt c arg14 g) ∗ (∃ g, pt c arg15 g) ∗ (∃ g, pt c arg16 g) ∗ (∃ g, pt c arg17 g) ∗ (∃ g, pt c arg18 g))

/-- The invariant of that loop: the kept buffers are what the trips so far left. -/
@[sl_loop, instance_reducible] def loopInv3 (v48 : BitVec 32) (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ))) (f10 : Buf (Elt F) (arg10.view.loc (c : Thread nD τ))) (f11 : Buf (Elt F) (arg11.view.loc (c : Thread nD τ))) (f12 : Buf (Elt F) (arg12.view.loc (c : Thread nD τ))) :
    LoopInvTy_k0_t3 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 where
  inv k _ := res3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 f4 f5 f7 f8 f10 f11 f12 k
  step k _ := by
    unfold res3
    rw [a3_eq, l3_eq, m3_eq, a3_eq, l3_eq, m3_eq, st3_succ]
    iintro ⟨H4, H5, H7, H8, H10, H11, H12, ⟨%g13, H13⟩, ⟨%g14, H14⟩, ⟨%g15, H15⟩, ⟨%g16, H16⟩, ⟨%g17, H17⟩, ⟨%g18, H18⟩⟩
    iapply ((trip3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 k f4 f5 f7 f8 _ _ _).2 g13 g14 g15 g16 g17 g18)
    isplitl [H4]; · iexact H4
    isplitl [H5]; · iexact H5
    isplitl [H7]; · iexact H7
    isplitl [H8]; · iexact H8
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

end Trip

end Cert.KernelIdeal.Hand
end
-- ==== Proof.Body.lean ====
module

public import proofs.«01_k».proof.Defs
public import proofs.«01_k».proof.Proof.Gen.KernelIdeal.Frame
public import proofs.«01_k».proof.Proof.Gen.KernelIdeal.Skeleton
public import proofs.«01_k».proof.Proof.Trip3
public import Idealize.ShloMosaic.Lib.LoopRemainder
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Trip

variable (c : Dev nD) (i : grid0.Coords) (arg3 : Memref sig .tc .vmem S1x256x128 .fp8e4m3) (harg3 : arg3.IsWhole) (arg4 : Memref sig .tc .vmem S1x32768x128 .fp8e4m3) (harg4 : arg4.IsWhole) (arg5 : Memref sig .tc .vmem S1x1x128x32768 .fp8e4m3) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S1x1x256x128 .f32) (harg8 : arg8.IsWhole) (arg9 : Memref sig .tc .vmem S1x256x128 .bf16) (harg9 : arg9.IsWhole) (arg10 : Memref sig .tc .vmem S128x256 .f32) (harg10 : arg10.IsWhole) (arg11 : Memref sig .tc .vmem S8x256 .f32) (harg11 : arg11.IsWhole) (arg12 : Memref sig .tc .vmem S1x256 .f32) (harg12 : arg12.IsWhole) (arg13 : Memref sig .tc .vmem S1024x256 .f32) (harg13 : arg13.IsWhole) (arg14 : Memref sig .tc .vmem S1024x256 .fp8e4m3) (harg14 : arg14.IsWhole) (arg15 : Memref sig .tc .vmem S8x256 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole)

/-- The whole block of the result. -/
abbrev R9 : Rect S1x256x128 := Rect.unit (s := S1x256x128) ![0, 0, 0] S1x256x128.size inb_S1x256x128_S1x256x128_0_0_0

set_option backward.proofsInPublic true in
/-- The kernel body at one grid point, at symbolic buffers: the block it stores (found by running it), whatever the
    scratch and the result's buffer held; the operands' buffers are left as they were. -/
@[irreducible] def bodyRun (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) :
    { w : FVec F S1x256x128 .bf16 //
      ∀ (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))),
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18)
      ⊢ wp frame (wpE (defs₀ (F := F)) Variants.none (c : Thread nD τ) none) Set.univ
        (cc0_attend (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop(pt c arg3 f3 ∗ pt c arg4 f4 ∗ pt c arg5 f5 ∗ pt c arg6 f6 ∗ pt c arg7 f7 ∗ pt c arg8 f8
          ∗ pt c arg9 (arg9.view.writes (Elt F) f9 [⟨R9, w⟩])
          ∗ (∃ g, pt c arg10 g) ∗ (∃ g, pt c arg11 g) ∗ (∃ g, pt c arg12 g) ∗ (∃ g, pt c arg13 g) ∗ (∃ g, pt c arg14 g) ∗ (∃ g, pt c arg15 g) ∗ (∃ g, pt c arg16 g) ∗ (∃ g, pt c arg17 g) ∗ (∃ g, pt c arg18 g))) } := by
  refine ⟨?_, ?run⟩
  case run =>
    intro f9 f10 f11 f12 f13 f14 f15 f16 f17 f18
    iintro ⟨H3, H4, H5, H6, H7, H8, H9, H10, H11, H12, H13, H14, H15, H16, H17, H18⟩
    unfold cc0_attend
    sl_exec
    sl_step
    sl_close

end Trip

end Cert.KernelIdeal.Hand
end
-- ==== Proof.Run.lean ====
module

public import proofs.«01_k».proof.Defs
public import proofs.«01_k».proof.Proof.Gen.KernelIdeal.Frame
public import proofs.«01_k».proof.Proof.Gen.KernelIdeal.Skeleton
public import proofs.«01_k».proof.Proof.Body
public import Idealize.ShloMosaic.Lib.LoopRemainder
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The kernel body's run at point `t` on the point's staging buffers, the operands' holding their blocks. -/
abbrev runAt (c : Dev nD) (t : Fin cfg0.N) := bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t))

/-- The block the body leaves in the result's staging buffer at point `t`. -/
def out6 (c : Dev nD) (t : Fin cfg0.N) : Vec F S1x256x128 .bf16 := View.canon [⟨R9, (runAt m c t).1⟩]

/-- What the pipeline's windows hold: the operands' blocks as fetched, the result's block as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ _ := Pipeline.ΦA spec0 c
  q _ := fullShare
  owed _ := 0

/-- The arrays of the windows are those that the host operations leave. -/
theorem A_eq (c : Dev nD) (w : Fin cfg0.W) : (dats m 0 c).A w = V m c (Pipeline.arrRef spec0 w) := rfl

/-- What the body leaves in window 0's buffer. -/
theorem after0_0 (c : Dev nD) (t : Fin cfg0.N) : (dats m 0 c).after 0 t = iblk m c 0 t := by dsimp only [dats]
/-- What the body leaves in window 1's buffer. -/
theorem after0_1 (c : Dev nD) (t : Fin cfg0.N) : (dats m 0 c).after 1 t = iblk m c 1 t := by dsimp only [dats]
/-- What the body leaves in window 2's buffer. -/
theorem after0_2 (c : Dev nD) (t : Fin cfg0.N) : (dats m 0 c).after 2 t = iblk m c 2 t := by dsimp only [dats]
/-- What the body leaves in window 3's buffer. -/
theorem after0_3 (c : Dev nD) (t : Fin cfg0.N) : (dats m 0 c).after 3 t = iblk m c 3 t := by dsimp only [dats]
/-- What the body leaves in window 4's buffer. -/
theorem after0_4 (c : Dev nD) (t : Fin cfg0.N) : (dats m 0 c).after 4 t = iblk m c 4 t := by dsimp only [dats]
/-- What the body leaves in window 5's buffer. -/
theorem after0_5 (c : Dev nD) (t : Fin cfg0.N) : (dats m 0 c).after 5 t = iblk m c 5 t := by dsimp only [dats]
/-- What the body leaves in window 6's buffer. -/
theorem after0_6 (c : Dev nD) (t : Fin cfg0.N) : (dats m 0 c).after 6 t = out6 m c t := by dsimp only [dats]

/-- What the body finds in window 0's buffer. -/
theorem before0_0 (c : Dev nD) (t : Fin cfg0.N) (d) : (dats m 0 c).before 0 t d = iblk m c 0 t :=
  before0_0_of m (dats m 0 c) (A_eq m c 0) (after0_0 m c) t d
/-- What the body finds in window 1's buffer. -/
theorem before0_1 (c : Dev nD) (t : Fin cfg0.N) (d) : (dats m 0 c).before 1 t d = iblk m c 1 t :=
  before0_1_of m (dats m 0 c) (A_eq m c 1) (after0_1 m c) t d
/-- What the body finds in window 2's buffer. -/
theorem before0_2 (c : Dev nD) (t : Fin cfg0.N) (d) : (dats m 0 c).before 2 t d = iblk m c 2 t :=
  before0_2_of m (dats m 0 c) (A_eq m c 2) (after0_2 m c) t d
/-- What the body finds in window 3's buffer. -/
theorem before0_3 (c : Dev nD) (t : Fin cfg0.N) (d) : (dats m 0 c).before 3 t d = iblk m c 3 t :=
  before0_3_of m (dats m 0 c) (A_eq m c 3) (after0_3 m c) t d
/-- What the body finds in window 4's buffer. -/
theorem before0_4 (c : Dev nD) (t : Fin cfg0.N) (d) : (dats m 0 c).before 4 t d = iblk m c 4 t :=
  before0_4_of m (dats m 0 c) (A_eq m c 4) (after0_4 m c) t d
/-- What the body finds in window 5's buffer. -/
theorem before0_5 (c : Dev nD) (t : Fin cfg0.N) (d) : (dats m 0 c).before 5 t d = iblk m c 5 t :=
  before0_5_of m (dats m 0 c) (A_eq m c 5) (after0_5 m c) t d

/-- The store of the result fills its block. -/
theorem cover6 (p : Vec F S1x256x128 .bf16) (y : S1x256x128.Idx) :
    ∃ pc ∈ ([⟨R9, p⟩] : List (View.Piece (Elt F) S1x256x128 .bf16)), y ∈ pc.1.set :=
  View.cover_of_tiled [⟨R9, p⟩] S1x256x128.size (by rfl) y

/-- The body table's row at the point's staging buffers is the kernel's body on them. -/
theorem defs₀_row (t : Fin cfg0.N) : (defs₀ (F := F)) .tc cfg0.body (cfg0.bodyArgs t (cfg0.slots t)) = bodyAt0 t := by
  unfold defs₀; rw [Defs.onTc_tc]

/-- A whole buffer's points-to, through its whole memref or directly. -/
theorem pt_whole (c : Dev nD) (b : Ref sig .tc) (f : Buf (Elt F) ((c : Thread nD τ).loc b)) :
    pt (F := F) c (Memref.whole b) f = (((c : Thread nD τ).loc b) ↦{fullShare} f : sProp 𝕄) := by
  unfold pt; simp only [Memref.view_whole, View.set_whole]; try rfl

/-- A run with a frame, its postcondition weakened by the frame. -/
theorem wp_of {c : Dev nD} (E : Set ℕ) {P R : sProp 𝕄} {p : Prog (TpuEff nD τ sig (Elt F) Λ₀ .tc) PUnit} {Q K : PUnit → sProp 𝕄}
    (h : P ⊢ wp Idealize.ShloMosaic.frame (wpE (defs₀ (F := F)) Variants.none (c : Thread nD τ) none) E p Q) (hk : ∀ u, iprop(Q u ∗ R) ⊢ K u) :
    iprop(P ∗ R) ⊢ wp Idealize.ShloMosaic.frame (wpE (defs₀ (F := F)) Variants.none (c : Thread nD τ) none) E p K := by
  refine Idealize.SL.BI.Entails.trans ?_ ((wp_frame_r Idealize.ShloMosaic.frame (wpE (defs₀ (F := F)) Variants.none (c : Thread nD τ) none) E).trans (wp_mono Idealize.ShloMosaic.frame (wpE (defs₀ (F := F)) Variants.none (c : Thread nD τ) none) E hk))
  exact Idealize.SL.BI.sep_mono_l h

section K
variable (c : Dev nD) (i : grid0.Coords) (arg3 : Memref sig .tc .vmem S1x256x128 .fp8e4m3) (harg3 : arg3.IsWhole) (arg4 : Memref sig .tc .vmem S1x32768x128 .fp8e4m3) (harg4 : arg4.IsWhole) (arg5 : Memref sig .tc .vmem S1x1x128x32768 .fp8e4m3) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S1x1x256x128 .f32) (harg8 : arg8.IsWhole) (arg9 : Memref sig .tc .vmem S1x256x128 .bf16) (harg9 : arg9.IsWhole) (arg10 : Memref sig .tc .vmem S128x256 .f32) (harg10 : arg10.IsWhole) (arg11 : Memref sig .tc .vmem S8x256 .f32) (harg11 : arg11.IsWhole) (arg12 : Memref sig .tc .vmem S1x256 .f32) (harg12 : arg12.IsWhole) (arg13 : Memref sig .tc .vmem S1024x256 .f32) (harg13 : arg13.IsWhole) (arg14 : Memref sig .tc .vmem S1024x256 .fp8e4m3) (harg14 : arg14.IsWhole) (arg15 : Memref sig .tc .vmem S8x256 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole)
/-- The kernel's body from the operands' blocks: the operands kept, the result's buffer at the block it stores. -/
theorem sound_kernel (X3 : Vec F S1x256x128 .fp8e4m3) (X4 : Vec F S1x32768x128 .fp8e4m3) (X5 : Vec F S1x1x128x32768 .fp8e4m3) (X6 X7 X8 : Vec F S1x1x256x128 .f32) (K : PUnit → sProp 𝕄) :
    iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ (∃ d, owns (c : Thread nD τ) arg9 fullShare d) ∗ (∃ g, pt (F := F) c arg10 g) ∗ (∃ g, pt (F := F) c arg11 g) ∗ (∃ g, pt (F := F) c arg12 g) ∗ (∃ g, pt (F := F) c arg13 g) ∗ (∃ g, pt (F := F) c arg14 g) ∗ (∃ g, pt (F := F) c arg15 g) ∗ (∃ g, pt (F := F) c arg16 g) ∗ (∃ g, pt (F := F) c arg17 g) ∗ (∃ g, pt (F := F) c arg18 g)
      ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare (View.canon [⟨R9, (bodyRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread X3) (harg4.unread X4) (harg5.unread X5) (harg6.unread X6) (harg7.unread X7) (harg8.unread X8)).1⟩] : Vec F S1x256x128 .bf16) ∗ (∃ g, pt (F := F) c arg10 g) ∗ (∃ g, pt (F := F) c arg11 g) ∗ (∃ g, pt (F := F) c arg12 g) ∗ (∃ g, pt (F := F) c arg13 g) ∗ (∃ g, pt (F := F) c arg14 g) ∗ (∃ g, pt (F := F) c arg15 g) ∗ (∃ g, pt (F := F) c arg16 g) ∗ (∃ g, pt (F := F) c arg17 g) ∗ (∃ g, pt (F := F) c arg18 g)) -∗ K ⟨⟩))
      ⊢ wp frame (wpE (defs₀ (F := F)) Variants.none (c : Thread nD τ) none) Set.univ (cc0_attend (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, HK⟩
  obtain rfl := harg3.eq_unread h3
  obtain rfl := harg4.eq_unread h4
  obtain rfl := harg5.eq_unread h5
  obtain rfl := harg6.eq_unread h6
  obtain rfl := harg7.eq_unread h7
  obtain rfl := harg8.eq_unread h8
  have hk : ∀ u : PUnit, iprop((pt c arg3 (harg3.unread X3) ∗ pt c arg4 (harg4.unread X4) ∗ pt c arg5 (harg5.unread X5) ∗ pt c arg6 (harg6.unread X6) ∗ pt c arg7 (harg7.unread X7) ∗ pt c arg8 (harg8.unread X8) ∗ pt c arg9 (arg9.view.writes (Elt F) f9 [⟨R9, (bodyRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread X3) (harg4.unread X4) (harg5.unread X5) (harg6.unread X6) (harg7.unread X7) (harg8.unread X8)).1⟩]) ∗ (∃ g, pt (F := F) c arg10 g) ∗ (∃ g, pt (F := F) c arg11 g) ∗ (∃ g, pt (F := F) c arg12 g) ∗ (∃ g, pt (F := F) c arg13 g) ∗ (∃ g, pt (F := F) c arg14 g) ∗ (∃ g, pt (F := F) c arg15 g) ∗ (∃ g, pt (F := F) c arg16 g) ∗ (∃ g, pt (F := F) c arg17 g) ∗ (∃ g, pt (F := F) c arg18 g)) ∗ (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare (View.canon [⟨R9, (bodyRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread X3) (harg4.unread X4) (harg5.unread X5) (harg6.unread X6) (harg7.unread X7) (harg8.unread X8)).1⟩] : Vec F S1x256x128 .bf16) ∗ (∃ g, pt (F := F) c arg10 g) ∗ (∃ g, pt (F := F) c arg11 g) ∗ (∃ g, pt (F := F) c arg12 g) ∗ (∃ g, pt (F := F) c arg13 g) ∗ (∃ g, pt (F := F) c arg14 g) ∗ (∃ g, pt (F := F) c arg15 g) ∗ (∃ g, pt (F := F) c arg16 g) ∗ (∃ g, pt (F := F) c arg17 g) ∗ (∃ g, pt (F := F) c arg18 g)) -∗ K ⟨⟩)) ⊢ K u := by
    intro u
    iintro ⟨⟨H3, H4, H5, H6, H7, H8, H9, H10, H11, H12, H13, H14, H15, H16, H17, H18⟩, HK⟩
    iapply HK
    unfold owns
    isplitl [H3]
    · iexists (harg3.unread X3); isplitr; · ipureintro; exact harg3.read_unread _
      iexact H3
    isplitl [H4]
    · iexists (harg4.unread X4); isplitr; · ipureintro; exact harg4.read_unread _
      iexact H4
    isplitl [H5]
    · iexists (harg5.unread X5); isplitr; · ipureintro; exact harg5.read_unread _
      iexact H5
    isplitl [H6]
    · iexists (harg6.unread X6); isplitr; · ipureintro; exact harg6.read_unread _
      iexact H6
    isplitl [H7]
    · iexists (harg7.unread X7); isplitr; · ipureintro; exact harg7.read_unread _
      iexact H7
    isplitl [H8]
    · iexists (harg8.unread X8); isplitr; · ipureintro; exact harg8.read_unread _
      iexact H8
    isplitl [H9]
    · iexists (arg9.view.writes (Elt F) f9 [⟨R9, (bodyRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread X3) (harg4.unread X4) (harg5.unread X5) (harg6.unread X6) (harg7.unread X7) (harg8.unread X8)).1⟩]); isplitr
      swap; · iexact H9
      ipureintro
      exact View.read_writes_eq_canon _ _ _ (cover6 _)
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iapply (wp_of Set.univ ((bodyRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread X3) (harg4.unread X4) (harg5.unread X5) (harg6.unread X6) (harg7.unread X7) (harg8.unread X8)).2 f9 f10 f11 f12 f13 f14 f15 f16 f17 f18) hk)
  isplitl [H3 H4 H5 H6 H7 H8 H9 H10 H11 H12 H13 H14 H15 H16 H17 H18]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  unfold owns
  iexact HK

end K

/-- The scratch on core `c`, each buffer whole at some contents. -/
theorem scratch_eq (c : Dev nD) : (Pipeline.scopedRest (Ix := Unit) (Name := ℕ) (U := UR sig nD τ) (Lvl := ℕ) (Val := Elt F) spec0 c : sProp 𝕄)
    = iprop((∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g) ∗ (∃ g, pt (F := F) c (Memref.whole cc0_scratch5) g) ∗ (∃ g, pt (F := F) c (Memref.whole cc0_scratch6) g) ∗ (∃ g, pt (F := F) c (Memref.whole cc0_scratch7) g) ∗ (∃ g, pt (F := F) c (Memref.whole cc0_scratch8) g)) := by
  rw [scopedRest0_eq]; simp only [← pt_whole]; try rfl

/-- What the body holds before point `t`. -/
def bodyPre (c : Dev nD) (t : Fin cfg0.N) : sProp 𝕄 :=
  iprop((dats (F := F) m 0 c).Φ t.castSucc ∗ (dats (F := F) m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- What the body holds after point `t`. -/
def bodyPost (c : Dev nD) (t : Fin cfg0.N) : sProp 𝕄 :=
  iprop((dats (F := F) m 0 c).Φ t.succ ∗ (dats (F := F) m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at point `t`. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6]
  unfold Pipeline.ΦA out6
  rw [scratch_eq]
  iintro ⟨⟨⟨S0, S1, S2, S3, S4, S5, S6, S7, S8⟩, Hp⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, S0, S1, S2, S3, S4, S5, S6, S7, S8⟩
  isplitl [S0 S1 S2 S3 S4 S5 S6 S7 S8 Hp]
  · isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at every grid point: from the windows' buffers and the scratch to the same, the result's buffer at `out6`. -/
theorem body_obligation (c : Dev nD) : BodyObligation (dats (F := F) m 0 c) (defs₀ (F := F)) Variants.none () Set.univ := fun t => by
  rw [bigSep_W0, bigSep_W0, defs₀_row]
  exact sound_body m c t

set_option backward.isDefEq.respectTransparency.types false in
/-- @main runs to the end; every array ends at the write-backs' contents, every other argument as launched, every
    semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl) (Q' := _)

/-- The run with the arguments unchanged, the result's array at the write-backs' contents, the counters at zero. -/
theorem run_out : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ (∀ c : Dev nD, r.2.mem ((c.tc : Thread nD τ).loc main_v9) = (dats m 0 c).arrAt 6 cfg0.N)
      ∧ r.2.sem = fun _ => 0) :=
  (θ_run defs _ _).mono (fun _ h => ⟨fun c =>
      ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩,
      fun c => (h.1 c).1 6, h.2⟩) (run_main m ρ)

end Cert.KernelIdeal.Hand

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KRun
public import proofs.«01_k».proof.Proof.Run
public import Idealize.ShloMosaic.Adequacy
public import Idealize.ShloMosaic.Init

@[expose] public section

noncomputable section

namespace Cert.Proof

open Idealize.ShloMosaic Idealize.SL.Sem

/-- The kernel as printed runs to its end, changes no argument and leaves every semaphore at zero. -/
theorem frame_kernel : @Cert.quiescent_Kernel Cert.Kernel.Gen.facts :=
  fun m g _ => (θ_run _ _ _).mono (fun _ h => ⟨h.1, h.2.2⟩) (Cert.Kernel.Hand.run_out (F := Bits) m g)

/-- The kernel over the reals runs to its end, changes no argument and leaves every semaphore at zero. -/
theorem frame_kernel_ideal : @Cert.quiescent_KernelIdeal Cert.KernelIdeal.Gen.facts :=
  fun m g _ => (θ_run _ _ _).mono (fun _ h => ⟨h.1, h.2.2⟩) (Cert.KernelIdeal.Hand.run_out (F := Ideal) m g)

/-- The reference over the reals runs to its end, changes no argument and leaves every semaphore at zero. -/
theorem frame_reference_ideal : @Cert.quiescent_ReferenceIdeal Cert.ReferenceIdeal.Gen.facts :=
  fun m g _ => Cert.ReferenceIdeal.Gen.frame (F := Ideal) m g

/-- The precondition's one side condition: a number is repeated over the scales' shape. -/
theorem pre_facts : Cert.Pre_scales_positive.Facts := ⟨by decide⟩

/-- The frame of the idealised kernel where the scales are positive. -/
theorem frame_kernel_ideal_pre : @Cert.quiescent_KernelIdeal_pre_scales_positive Cert.KernelIdeal.Gen.facts pre_facts :=
  fun m g _ => (θ_run _ _ _).mono (fun _ h => ⟨h.1, h.2.2⟩) (Cert.KernelIdeal.Hand.run_out (F := Ideal) m g)

/-- The frame of the idealised reference where the scales are positive. -/
theorem frame_reference_ideal_pre : @Cert.quiescent_ReferenceIdeal_pre_scales_positive Cert.ReferenceIdeal.Gen.facts pre_facts :=
  fun m g _ => Cert.ReferenceIdeal.Gen.frame (F := Ideal) m g

/-- The two constants the idealised kernel names stand for the values the claim states. -/
theorem preserves_kernel : Cert.preserves_Kernel_KernelIdeal :=
  ⟨IdealRules.named_const.statement Cert.KernelIdeal.κ "masked" .f32 0xF149F2CA#32 ⊥ rfl,
   IdealRules.named_const.statement Cert.KernelIdeal.κ "log2e" .f32 0x3FB8AA3B#32 (((Real.log 2)⁻¹ : ℝ) : EReal) rfl⟩

end Cert.Proof

end
-- ==== Proof.SpecV.lean ====
module

public import proofs.«01_k».proof.Defs
public import proofs.«01_k».proof.Proof.Gen.KernelIdeal.Frame
public import proofs.«01_k».proof.Proof.Gen.KernelIdeal.Skeleton

public import Idealize.ShloMosaic.Lib.LoopRemainder
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- One step of the search for an exponent: the value, moved up where it is below `lim`. -/
def stX (S : Shape) (lim mul : BitVec 32) (x : FVec F S .f32) : FVec F S .f32 :=
  select (cmpf .olt x (broadcast S (Scalar.ofBits .f32 lim))) (mulf x (broadcast S (Scalar.ofBits .f32 mul))) x

/-- One step of the search for an exponent: the exponent, moved down where the value is below `lim`. -/
def stE (S : Shape) (lim : BitVec 32) (n : BitVec 32) (x : FVec F S .f32) (e : IVec S 32) : IVec S 32 :=
  select (cmpf .olt x (broadcast S (Scalar.ofBits .f32 lim))) (subi e (broadcast S n)) e

/-- The exponent search: the least of the exponents whose power of two is at least `x`. -/
def vSrch (S : Shape) (x : FVec F S .f32) : IVec S 32 :=
  let e0 : IVec S 32 := broadcast S 0#32
  let e1 := stE S 0x1F800000#32 64#32 x e0
  let x1 := stX S 0x1F800000#32 0x5F800000#32 x
  let e2 := stE S 0x2F800000#32 32#32 x1 e1
  let x2 := stX S 0x2F800000#32 0x4F800000#32 x1
  let e3 := stE S 0x37800000#32 16#32 x2 e2
  let x3 := stX S 0x37800000#32 0x47800000#32 x2
  let e4 := stE S 0x3B800000#32 8#32 x3 e3
  let x4 := stX S 0x3B800000#32 0x43800000#32 x3
  let e5 := stE S 0x3D800000#32 4#32 x4 e4
  let x5 := stX S 0x3D800000#32 0x41800000#32 x4
  let e6 := stE S 0x3E800000#32 2#32 x5 e5
  let x6 := stX S 0x3E800000#32 0x40800000#32 x5
  let e7 := stE S 0x3F000000#32 1#32 x6 e6
  select (cmpf .olt x (broadcast S (Scalar.ofBits .f32 0x00800000#32))) (broadcast S 0#32) e7

/-- The constant 1 / ln 2, spread. -/
def vL (S : Shape) : FVec F S .f32 := broadcast S (Named.named κ "log2e" 0x3FB8AA3B#32)

/-- The factor that takes a block's weights from its own running maximum to the chunk's last one and back from the
    block's exponent. -/
def vDecay (S : Shape) (h : S1x256.Broadcasts S) (last : FVec F S1x256 .f32) (rows : FVec F S .f32) (e : IVec S 32) : FVec F S .f32 :=
  mulf (exp2 (mulf (subf rows (broadcastTo S last h)) (vL S)))
    (bitcastToFloat .f32 (shli (addi e (broadcast S 127#32)) (broadcast S 23#32)))

/-- The offset of a block's exponents: its running maximum in base two and its exponent. -/
def vOff (S : Shape) (rows : FVec F S .f32) (e : IVec S 32) : FVec F S .f32 :=
  addf (mulf rows (vL S)) (sitofp .f32 e)

/-- A block's weights, scaled by its exponent. -/
def vP (s : FVec F S128x256 .f32) (c o : FVec F S1x256 .f32) : FVec F S128x256 .f32 :=
  exp2 (subf (mulf s (broadcastTo S128x256 c broadcasts_S1x256_S128x256)) (broadcastTo S128x256 o broadcasts_S1x256_S128x256))

/-- The partial sums after one more block. -/
def vLs (l : FVec F S8x256 .f32) (p : FVec F S128x256 .f32) (d : FVec F S1x256 .f32) : FVec F S8x256 .f32 :=
  addf l (mulf (multiReduction .add [0] S8x256 (shapeCast S16x8x256 p shapeCasts_S128x256_S16x8x256) 0x00000000#32 reduces_S16x8x256_S8x256 (.inl rfl) rfl)
    (broadcastTo S8x256 d broadcasts_S1x256_S8x256))

/-- A block's weights, clipped and narrowed to their codes. -/
def vCode (p : FVec F S128x256 .f32) : FVec F S128x256 .fp8e4m3 :=
  shapeCast S128x256 (truncf .fp8e4m3 (minimumf (broadcast S128x256 (Scalar.ofBits .f32 0x43E00000#32))
    (maximumf (broadcast S128x256 (Scalar.ofBits .f32 0xC3E00000#32)) p)) bitsLt_fp8e4m3_f32) shapeCasts_S128x256_S128x256

/-- The accumulator after one more block. -/
def vAcc (acc : FVec F S128x256 .f32) (vt : Vec F S1x1x128x128 .fp8e4m3) (code : FVec F S128x256 .fp8e4m3) (w : FVec F S1x256 .f32) : FVec F S128x256 .f32 :=
  addf acc (mulf (matmul dot_S128x128_S128x256_S128x256_1_0_0_1_n_n none (shapeCast S128x128 vt shapeCasts_S1x1x128x128_S128x128) code
    (constant S128x256 .f32 0x00000000#32)) (broadcastTo S128x256 w broadcasts_S1x256_S128x256))

/-- The factor that takes the kept sums to the new running maximum. -/
def vAlpha (m last : FVec F S1x256 .f32) : FVec F S1x256 .f32 := exp2 (mulf (subf m last) (vL S1x256))

/-- A block of 128 rows lies in its buffer. -/
theorem inb128 (b : Fin 8) : ∀ a, (![128 * b.val, 0] : Fin 2 → Nat) a + S128x256.size a ≤ S1024x256.size a := by
  intro a; have := b.isLt; fin_cases a <;> simp [S128x256, S1024x256]; omega

/-- A single row lies in its buffer. -/
theorem inb1 (b : Fin 8) : ∀ a, (![b.val, 0] : Fin 2 → Nat) a + S1x256.size a ≤ S8x256.size a := by
  intro a; have := b.isLt; fin_cases a <;> simp [S1x256, S8x256]

/-- A block of two, from a block's number. -/
def b2 (b : Fin 8) : Fin 2 := ⟨b.val % 2, Nat.mod_lt _ (by decide)⟩

/-- Block `b` of the scores, read back from where two blocks were stored. -/
def rdS2 (a : Memref sig .tc .vmem S1024x256 .f32) (x : FVec F S256x256 .f32) (b : Fin 8) : FVec F S128x256 .f32 :=
  a.view.readCov (Val := Elt F) [⟨Rect.unit ![0, 0] S256x256.size inb_S1024x256_S256x256_0_0, x⟩] (Rect.unit (s := S1024x256) ![128 * b.val, 0] S128x256.size (inb128 b)).toLoadRect

/-- Row `b`, read back from where two rows were stored. -/
def rdR2 (a : Memref sig .tc .vmem S8x256 .f32) (x : FVec F S2x256 .f32) (b : Fin 8) : FVec F S1x256 .f32 :=
  a.view.readCov (Val := Elt F) [⟨Rect.unit ![0, 0] S2x256.size inb_S8x256_S2x256_0_0, x⟩] (Rect.unit (s := S8x256) ![b.val, 0] S1x256.size (inb1 b)).toLoadRect

/-- Block `b` of the codes, read back from where two blocks were stored one by one. -/
def rdC2 (a : Memref sig .tc .vmem S1024x256 .fp8e4m3) (p : Fin 8 → FVec F S128x256 .fp8e4m3) (b : Fin 8) : FVec F S128x256 .fp8e4m3 :=
  a.view.readCov (Val := Elt F) [⟨Rect.unit (s := S1024x256) ![128 * 1, 0] S128x256.size (inb128 1), p 1⟩, ⟨Rect.unit (s := S1024x256) ![128 * 0, 0] S128x256.size (inb128 0), p 0⟩]
    (Rect.unit (s := S1024x256) ![128 * b.val, 0] S128x256.size (inb128 b)).toLoadRect

/-- Block `b` of the scores, read back from where eight blocks were stored. -/
def rdS8 (a : Memref sig .tc .vmem S1024x256 .f32) (x : FVec F S1024x256 .f32) (b : Fin 8) : FVec F S128x256 .f32 :=
  a.view.readCov (Val := Elt F) [⟨Rect.unit ![0, 0] S1024x256.size inb_S1024x256_S1024x256_0_0, x⟩] (Rect.unit (s := S1024x256) ![128 * b.val, 0] S128x256.size (inb128 b)).toLoadRect

/-- Row `b`, read back from where eight rows were stored. -/
def rdR8 (a : Memref sig .tc .vmem S8x256 .f32) (x : FVec F S8x256 .f32) (b : Fin 8) : FVec F S1x256 .f32 :=
  a.view.readCov (Val := Elt F) [⟨Rect.unit ![0, 0] S8x256.size inb_S8x256_S8x256_0_0, x⟩] (Rect.unit (s := S8x256) ![b.val, 0] S1x256.size (inb1 b)).toLoadRect

/-- Block `b` of the codes, read back from where eight blocks were stored one by one. -/
def rdC8 (a : Memref sig .tc .vmem S1024x256 .fp8e4m3) (p : Fin 8 → FVec F S128x256 .fp8e4m3) (b : Fin 8) : FVec F S128x256 .fp8e4m3 :=
  a.view.readCov (Val := Elt F) [⟨Rect.unit (s := S1024x256) ![128 * 7, 0] S128x256.size (inb128 7), p 7⟩, ⟨Rect.unit (s := S1024x256) ![128 * 6, 0] S128x256.size (inb128 6), p 6⟩, ⟨Rect.unit (s := S1024x256) ![128 * 5, 0] S128x256.size (inb128 5), p 5⟩, ⟨Rect.unit (s := S1024x256) ![128 * 4, 0] S128x256.size (inb128 4), p 4⟩, ⟨Rect.unit (s := S1024x256) ![128 * 3, 0] S128x256.size (inb128 3), p 3⟩, ⟨Rect.unit (s := S1024x256) ![128 * 2, 0] S128x256.size (inb128 2), p 2⟩, ⟨Rect.unit (s := S1024x256) ![128 * 1, 0] S128x256.size (inb128 1), p 1⟩, ⟨Rect.unit (s := S1024x256) ![128 * 0, 0] S128x256.size (inb128 0), p 0⟩]
    (Rect.unit (s := S1024x256) ![128 * b.val, 0] S128x256.size (inb128 b)).toLoadRect

/-- The accumulator after two blocks. -/
def acc2 (acc : FVec F S128x256 .f32) (s : Fin 8 → FVec F S128x256 .f32) (c o w : Fin 8 → FVec F S1x256 .f32)
    (rd : (Fin 8 → FVec F S128x256 .fp8e4m3) → Fin 8 → FVec F S128x256 .fp8e4m3) (vt : Fin 8 → Vec F S1x1x128x128 .fp8e4m3) : FVec F S128x256 .f32 :=
  shapeCast S128x256 (vAcc (vAcc acc (vt 0) (rd (fun b => vCode (vP (s b) (c b) (o b))) 0) (w 0))
    (vt 1) (rd (fun b => vCode (vP (s b) (c b) (o b))) 1) (w 1)) shapeCasts_S128x256_S128x256

/-- The partial sums after two blocks. -/
def ls2 (l : FVec F S8x256 .f32) (s : Fin 8 → FVec F S128x256 .f32) (c o d : Fin 8 → FVec F S1x256 .f32) : FVec F S8x256 .f32 :=
  shapeCast S8x256 (vLs (vLs l (vP (s 0) (c 0) (o 0)) (d 0)) (vP (s 1) (c 1) (o 1)) (d 1)) shapeCasts_S8x256_S8x256

/-- The accumulator after eight blocks. -/
def acc8 (acc : FVec F S128x256 .f32) (s : Fin 8 → FVec F S128x256 .f32) (c o w : Fin 8 → FVec F S1x256 .f32)
    (rd : (Fin 8 → FVec F S128x256 .fp8e4m3) → Fin 8 → FVec F S128x256 .fp8e4m3) (vt : Fin 8 → Vec F S1x1x128x128 .fp8e4m3) : FVec F S128x256 .f32 :=
  let k := fun (a : FVec F S128x256 .f32) (b : Fin 8) => vAcc a (vt b) (rd (fun b => vCode (vP (s b) (c b) (o b))) b) (w b)
  shapeCast S128x256 (k (k (k (k (k (k (k (k acc 0) 1) 2) 3) 4) 5) 6) 7) shapeCasts_S128x256_S128x256

/-- The partial sums after eight blocks. -/
def ls8 (l : FVec F S8x256 .f32) (s : Fin 8 → FVec F S128x256 .f32) (c o d : Fin 8 → FVec F S1x256 .f32) : FVec F S8x256 .f32 :=
  let k := fun (a : FVec F S8x256 .f32) (b : Fin 8) => vLs a (vP (s b) (c b) (o b)) (d b)
  shapeCast S8x256 (k (k (k (k (k (k (k (k l 0) 1) 2) 3) 4) 5) 6) 7) shapeCasts_S8x256_S8x256

variable (arg13 : Memref sig .tc .vmem S1024x256 .f32) (arg14 : Memref sig .tc .vmem S1024x256 .fp8e4m3)
  (arg15 arg16 arg17 arg18 : Memref sig .tc .vmem S8x256 .f32)

/-- What a trip over two key blocks leaves in the accumulator, the partial sums and the running maximum. -/
def T3 (v1 : FVec F S256x128 .fp8e4m3) (v12 : FVec F S1x256 .f32) (kb : Vec F S1x256x128 .fp8e4m3) (ksb vsb : Vec F S1x1x2x128 .f32)
    (vt : Fin 8 → Vec F S1x1x128x128 .fp8e4m3) (acc : Vec F S128x256 .f32) (l : Vec F S8x256 .f32) (m : Vec F S1x256 .f32) :
    FVec F S128x256 .f32 × FVec F S8x256 .f32 × FVec F S1x256 .f32 :=
  let last := k0_pay143 v1 v12 kb ksb m
  let rows := k0_pay144 v1 v12 kb ksb m
  let e := vSrch S2x256 (mulf (k0_pay145 v1 v12 kb ksb m) k0_pay146)
  let dec := vDecay S2x256 broadcasts_S1x256_S2x256 last rows e
  let s := rdS2 arg13 (k0_pay141 v1 kb)
  let c := rdR2 arg15 (k0_pay165 (k0_pay140 v12 ksb))
  let o := rdR2 arg16 (shapeCast S2x256 (vOff S2x256 rows e) shapeCasts_S2x256_S2x256)
  let d := rdR2 arg18 (k0_pay169 dec)
  let w := rdR2 arg17 (k0_pay168 (mulf dec (k0_pay137 vsb)))
  (acc2 (mulf acc (broadcastTo S128x256 (vAlpha m last) broadcasts_S1x256_S128x256)) s c o w (rdC2 arg14) vt,
   ls2 (mulf l (broadcastTo S8x256 (vAlpha m last) broadcasts_S1x256_S8x256)) s c o d, k0_pay171 last)

/-- What a trip over eight key blocks leaves in the accumulator, the partial sums and the running maximum. -/
def T1 (v1 : FVec F S256x128 .fp8e4m3) (v12 : FVec F S1x256 .f32) (kb : Vec F S1x1024x128 .fp8e4m3) (ksb vsb : Vec F S1x1x8x128 .f32)
    (vt : Fin 8 → Vec F S1x1x128x128 .fp8e4m3) (acc : Vec F S128x256 .f32) (l : Vec F S8x256 .f32) (m : Vec F S1x256 .f32) :
    FVec F S128x256 .f32 × FVec F S8x256 .f32 × FVec F S1x256 .f32 :=
  let bm := k0_pay7 v1 v12 kb ksb
  let r5 := k0_pay15 v1 v12 kb ksb m
  let last := k0_pay17 bm r5
  let rows := k0_pay18 bm (k0_pay10 v1 v12 kb ksb m) (k0_pay11 v1 v12 kb ksb m) (k0_pay12 v1 v12 kb ksb m) (k0_pay13 v1 v12 kb ksb m)
    (k0_pay14 v1 v12 kb ksb m) r5
  let e := vSrch S8x256 (mulf (exp2 (mulf (subf bm rows) (vL S8x256))) (broadcast S8x256 (Scalar.ofBits .f32 0x3B124925#32)))
  let dec := vDecay S8x256 broadcasts_S1x256_S8x256 last rows e
  let s := rdS8 arg13 (k0_pay9 v1 kb)
  let c := rdR8 arg15 (k0_pay31 (k0_pay8 v12 ksb))
  let o := rdR8 arg16 (shapeCast S8x256 (vOff S8x256 rows e) shapeCasts_S8x256_S8x256)
  let d := rdR8 arg18 (k0_pay35 dec)
  let w := rdR8 arg17 (k0_pay34 (k0_pay5 vsb) dec)
  (acc8 (mulf acc (broadcastTo S128x256 (vAlpha m last) broadcasts_S1x256_S128x256)) s c o w (rdC8 arg14) vt,
   ls8 (mulf l (broadcastTo S8x256 (vAlpha m last) broadcasts_S1x256_S8x256)) s c o d, k0_pay37 last)

/-- What the blocks on the diagonal leave in the accumulator, the partial sums and the running maximum. -/
def TD (i2 : BitVec 32) (v1 : FVec F S256x128 .fp8e4m3) (v12 : FVec F S1x256 .f32) (v55 : BitVec 32) (kb : Vec F S1x256x128 .fp8e4m3) (ksb vsb : Vec F S1x1x2x128 .f32)
    (vt : Fin 8 → Vec F S1x1x128x128 .fp8e4m3) (acc : Vec F S128x256 .f32) (l : Vec F S8x256 .f32) (m : Vec F S1x256 .f32) :
    FVec F S128x256 .f32 × FVec F S8x256 .f32 × FVec F S1x256 .f32 :=
  let sm := k0_pay239 v1 kb
  let ks := k0_pay240 ksb
  let last := k0_pay247 i2 v12 v55 sm ks m
  let rows := k0_pay248 i2 v12 v55 sm ks m
  let e := vSrch S2x256 (mulf (k0_pay249 i2 v12 v55 sm ks m) k0_pay250)
  let dec := vDecay S2x256 broadcasts_S1x256_S2x256 last rows e
  let s := rdS2 arg13 (k0_pay245 i2 v12 v55 sm ks)
  let c := rdR2 arg15 (k0_pay266 k0_pay244)
  let o := rdR2 arg16 (shapeCast S2x256 (vOff S2x256 rows e) shapeCasts_S2x256_S2x256)
  let d := rdR2 arg18 (k0_pay269 dec)
  let w := rdR2 arg17 (shapeCast S2x256 (mulf dec (k0_pay241 vsb)) shapeCasts_S2x256_S2x256)
  (acc2 (mulf acc (broadcastTo S128x256 (vAlpha m last) broadcasts_S1x256_S128x256)) s c o w (rdC2 arg14) vt,
   ls2 (mulf l (broadcastTo S8x256 (vAlpha m last) broadcasts_S1x256_S8x256)) s c o d, k0_pay271 last)

end Cert.KernelIdeal.Hand

end
-- ==== Proof.BEq.lean ====
module

public import proofs.«01_k».proof.Defs
public import proofs.«01_k».proof.Proof.Gen.KernelIdeal.Frame
public import proofs.«01_k».proof.Proof.Gen.KernelIdeal.Skeleton
public import proofs.«01_k».proof.Proof.SpecV
public import proofs.«01_k».proof.Proof.Body
public import Idealize.ShloMosaic.Lib.LoopRemainder
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

section Trip

variable (c : Dev nD) (i : grid0.Coords) (arg3 : Memref sig .tc .vmem S1x256x128 .fp8e4m3) (harg3 : arg3.IsWhole) (arg4 : Memref sig .tc .vmem S1x32768x128 .fp8e4m3) (harg4 : arg4.IsWhole) (arg5 : Memref sig .tc .vmem S1x1x128x32768 .fp8e4m3) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S1x1x256x128 .f32) (harg8 : arg8.IsWhole) (arg9 : Memref sig .tc .vmem S1x256x128 .bf16) (harg9 : arg9.IsWhole) (arg10 : Memref sig .tc .vmem S128x256 .f32) (harg10 : arg10.IsWhole) (arg11 : Memref sig .tc .vmem S8x256 .f32) (harg11 : arg11.IsWhole) (arg12 : Memref sig .tc .vmem S1x256 .f32) (harg12 : arg12.IsWhole) (arg13 : Memref sig .tc .vmem S1024x256 .f32) (harg13 : arg13.IsWhole) (arg14 : Memref sig .tc .vmem S1024x256 .fp8e4m3) (harg14 : arg14.IsWhole) (arg15 : Memref sig .tc .vmem S8x256 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole)
variable (arg2 : BitVec 32) (v1 : FVec F S256x128 .fp8e4m3) (v12 : FVec F S1x256 .f32) (v25 : BitVec 32) (c8_i32 : BitVec 32) (v26 : BitVec 32) (v28 : BitVec 32)

/-- The block the body leaves, from the sums and maximum it has kept: the accumulator over the sum of the partial sums. -/
def outV (acc : FVec F S128x256 .f32) (l : FVec F S8x256 .f32) : FVec F S1x256x128 .bf16 :=
  k0_pay3 (arg11.view.readCov (Val := Elt F) [⟨Rect.unit (s := S8x256) ![0, 0] S8x256.size inb_S8x256_S8x256_0_0, l⟩] (Rect.unit (s := S8x256) ![0, 0] S8x256.size inb_S8x256_S8x256_0_0).toLoadRect)
    (arg10.view.readCov (Val := Elt F) [⟨Rect.unit (s := S128x256) ![0, 0] S128x256.size inb_S128x256_S128x256_0_0, acc⟩] (Rect.unit (s := S128x256) ![0, 0] S128x256.size inb_S128x256_S128x256_0_0).toLoadRect)

/-- The body's block, from the two loops' last states, as the plain vector computation. -/
theorem bodyRun_eq (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) :
    (bodyRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8).1
      = (let t := TD arg13 arg14 arg15 arg16 arg17 arg18 (BitVec.ofNat 32 (i 2).val) (k0_pay226 (View.readAt (Elt F) arg3.view (Rect.unit (s := S1x256x128) ![0, 0, 0] S1x256x128.size inb_S1x256x128_S1x256x128_0_0_0).toLoadRect f3)) (k0_pay227 (View.readAt (Elt F) arg6.view (Rect.unit (s := S1x1x256x128) (k0_off1 i 0#32) S1x1x1x128.size (k0_off1_inb i 0)).toLoadRect f6) (View.readAt (Elt F) arg6.view (Rect.unit (s := S1x1x256x128) (k0_off1 i 1#32) S1x1x1x128.size (k0_off1_inb i 1)).toLoadRect f6)) (Scalar.muli (Scalar.muli (BitVec.ofNat 32 (i 2).val) 2#32) 128#32)
          (View.readAt (Elt F) arg4.view (Rect.unit (s := S1x32768x128) (k0_off14 i) S1x256x128.size (k0_off14_inb i)).toLoadRect f4)
          (View.readAt (Elt F) arg7.view (Rect.unit (s := S1x1x256x128) (k0_off15 i) S1x1x2x128.size (k0_off15_inb i)).toLoadRect f7)
          (View.readAt (Elt F) arg8.view (Rect.unit (s := S1x1x256x128) (k0_off15 i) S1x1x2x128.size (k0_off15_inb i)).toLoadRect f8)
          (fun b => View.readAt (Elt F) arg5.view (Rect.unit (s := S1x1x128x32768) (k0_off16 i (BitVec.ofNat 32 (128 * (b2 b).val))) S1x1x128x128.size (k0_off16_inb i (b2 b))).toLoadRect f5)
          (View.readAt (Elt F) arg10.view (Rect.unit (s := S128x256) ![0, 0] S128x256.size inb_S128x256_S128x256_0_0).toLoadRect (a3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (k0_pay226 (View.readAt (Elt F) arg3.view (Rect.unit (s := S1x256x128) ![0, 0, 0] S1x256x128.size inb_S1x256x128_S1x256x128_0_0_0).toLoadRect f3)) (k0_pay227 (View.readAt (Elt F) arg6.view (Rect.unit (s := S1x1x256x128) (k0_off1 i 0#32) S1x1x1x128.size (k0_off1_inb i 0)).toLoadRect f6) (View.readAt (Elt F) arg6.view (Rect.unit (s := S1x1x256x128) (k0_off1 i 1#32) S1x1x1x128.size (k0_off1_inb i 1)).toLoadRect f6)) (bodyRun.sl.v25 i) 8#32 (bodyRun.sl.v26 i) (bodyRun.sl.v28 i) (bodyRun.sl.v48 i) f4 f5 f7 f8 (a1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (k0_pay226 (View.readAt (Elt F) arg3.view (Rect.unit (s := S1x256x128) ![0, 0, 0] S1x256x128.size inb_S1x256x128_S1x256x128_0_0_0).toLoadRect f3)) (k0_pay227 (View.readAt (Elt F) arg6.view (Rect.unit (s := S1x1x256x128) (k0_off1 i 0#32) S1x1x1x128.size (k0_off1_inb i 0)).toLoadRect f6) (View.readAt (Elt F) arg6.view (Rect.unit (s := S1x1x256x128) (k0_off1 i 1#32) S1x1x1x128.size (k0_off1_inb i 1)).toLoadRect f6)) (bodyRun.sl.v25 i) 8#32 (bodyRun.sl.v26 i) (bodyRun.sl.v28 i) f4 f5 f7 f8 (arg10.view.writes (Elt F) arg10.view.junk [⟨R10, k0_pay228⟩]) (arg11.view.writes (Elt F) arg11.view.junk [⟨R11, k0_pay229⟩]) (arg12.view.writes (Elt F) arg12.view.junk [⟨R12, k0_pay230⟩]) (k0_t1_loop i).trips) (l1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (k0_pay226 (View.readAt (Elt F) arg3.view (Rect.unit (s := S1x256x128) ![0, 0, 0] S1x256x128.size inb_S1x256x128_S1x256x128_0_0_0).toLoadRect f3)) (k0_pay227 (View.readAt (Elt F) arg6.view (Rect.unit (s := S1x1x256x128) (k0_off1 i 0#32) S1x1x1x128.size (k0_off1_inb i 0)).toLoadRect f6) (View.readAt (Elt F) arg6.view (Rect.unit (s := S1x1x256x128) (k0_off1 i 1#32) S1x1x1x128.size (k0_off1_inb i 1)).toLoadRect f6)) (bodyRun.sl.v25 i) 8#32 (bodyRun.sl.v26 i) (bodyRun.sl.v28 i) f4 f5 f7 f8 (arg10.view.writes (Elt F) arg10.view.junk [⟨R10, k0_pay228⟩]) (arg11.view.writes (Elt F) arg11.view.junk [⟨R11, k0_pay229⟩]) (arg12.view.writes (Elt F) arg12.view.junk [⟨R12, k0_pay230⟩]) (k0_t1_loop i).trips) (m1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (k0_pay226 (View.readAt (Elt F) arg3.view (Rect.unit (s := S1x256x128) ![0, 0, 0] S1x256x128.size inb_S1x256x128_S1x256x128_0_0_0).toLoadRect f3)) (k0_pay227 (View.readAt (Elt F) arg6.view (Rect.unit (s := S1x1x256x128) (k0_off1 i 0#32) S1x1x1x128.size (k0_off1_inb i 0)).toLoadRect f6) (View.readAt (Elt F) arg6.view (Rect.unit (s := S1x1x256x128) (k0_off1 i 1#32) S1x1x1x128.size (k0_off1_inb i 1)).toLoadRect f6)) (bodyRun.sl.v25 i) 8#32 (bodyRun.sl.v26 i) (bodyRun.sl.v28 i) f4 f5 f7 f8 (arg10.view.writes (Elt F) arg10.view.junk [⟨R10, k0_pay228⟩]) (arg11.view.writes (Elt F) arg11.view.junk [⟨R11, k0_pay229⟩]) (arg12.view.writes (Elt F) arg12.view.junk [⟨R12, k0_pay230⟩]) (k0_t1_loop i).trips) (k0_t3_loop i).trips))
          (View.readAt (Elt F) arg11.view (Rect.unit (s := S8x256) ![0, 0] S8x256.size inb_S8x256_S8x256_0_0).toLoadRect (l3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (k0_pay226 (View.readAt (Elt F) arg3.view (Rect.unit (s := S1x256x128) ![0, 0, 0] S1x256x128.size inb_S1x256x128_S1x256x128_0_0_0).toLoadRect f3)) (k0_pay227 (View.readAt (Elt F) arg6.view (Rect.unit (s := S1x1x256x128) (k0_off1 i 0#32) S1x1x1x128.size (k0_off1_inb i 0)).toLoadRect f6) (View.readAt (Elt F) arg6.view (Rect.unit (s := S1x1x256x128) (k0_off1 i 1#32) S1x1x1x128.size (k0_off1_inb i 1)).toLoadRect f6)) (bodyRun.sl.v25 i) 8#32 (bodyRun.sl.v26 i) (bodyRun.sl.v28 i) (bodyRun.sl.v48 i) f4 f5 f7 f8 (a1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (k0_pay226 (View.readAt (Elt F) arg3.view (Rect.unit (s := S1x256x128) ![0, 0, 0] S1x256x128.size inb_S1x256x128_S1x256x128_0_0_0).toLoadRect f3)) (k0_pay227 (View.readAt (Elt F) arg6.view (Rect.unit (s := S1x1x256x128) (k0_off1 i 0#32) S1x1x1x128.size (k0_off1_inb i 0)).toLoadRect f6) (View.readAt (Elt F) arg6.view (Rect.unit (s := S1x1x256x128) (k0_off1 i 1#32) S1x1x1x128.size (k0_off1_inb i 1)).toLoadRect f6)) (bodyRun.sl.v25 i) 8#32 (bodyRun.sl.v26 i) (bodyRun.sl.v28 i) f4 f5 f7 f8 (arg10.view.writes (Elt F) arg10.view.junk [⟨R10, k0_pay228⟩]) (arg11.view.writes (Elt F) arg11.view.junk [⟨R11, k0_pay229⟩]) (arg12.view.writes (Elt F) arg12.view.junk [⟨R12, k0_pay230⟩]) (k0_t1_loop i).trips) (l1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (k0_pay226 (View.readAt (Elt F) arg3.view (Rect.unit (s := S1x256x128) ![0, 0, 0] S1x256x128.size inb_S1x256x128_S1x256x128_0_0_0).toLoadRect f3)) (k0_pay227 (View.readAt (Elt F) arg6.view (Rect.unit (s := S1x1x256x128) (k0_off1 i 0#32) S1x1x1x128.size (k0_off1_inb i 0)).toLoadRect f6) (View.readAt (Elt F) arg6.view (Rect.unit (s := S1x1x256x128) (k0_off1 i 1#32) S1x1x1x128.size (k0_off1_inb i 1)).toLoadRect f6)) (bodyRun.sl.v25 i) 8#32 (bodyRun.sl.v26 i) (bodyRun.sl.v28 i) f4 f5 f7 f8 (arg10.view.writes (Elt F) arg10.view.junk [⟨R10, k0_pay228⟩]) (arg11.view.writes (Elt F) arg11.view.junk [⟨R11, k0_pay229⟩]) (arg12.view.writes (Elt F) arg12.view.junk [⟨R12, k0_pay230⟩]) (k0_t1_loop i).trips) (m1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (k0_pay226 (View.readAt (Elt F) arg3.view (Rect.unit (s := S1x256x128) ![0, 0, 0] S1x256x128.size inb_S1x256x128_S1x256x128_0_0_0).toLoadRect f3)) (k0_pay227 (View.readAt (Elt F) arg6.view (Rect.unit (s := S1x1x256x128) (k0_off1 i 0#32) S1x1x1x128.size (k0_off1_inb i 0)).toLoadRect f6) (View.readAt (Elt F) arg6.view (Rect.unit (s := S1x1x256x128) (k0_off1 i 1#32) S1x1x1x128.size (k0_off1_inb i 1)).toLoadRect f6)) (bodyRun.sl.v25 i) 8#32 (bodyRun.sl.v26 i) (bodyRun.sl.v28 i) f4 f5 f7 f8 (arg10.view.writes (Elt F) arg10.view.junk [⟨R10, k0_pay228⟩]) (arg11.view.writes (Elt F) arg11.view.junk [⟨R11, k0_pay229⟩]) (arg12.view.writes (Elt F) arg12.view.junk [⟨R12, k0_pay230⟩]) (k0_t1_loop i).trips) (k0_t3_loop i).trips))
          (View.readAt (Elt F) arg12.view (Rect.unit (s := S1x256) ![0, 0] S1x256.size inb_S1x256_S1x256_0_0).toLoadRect (m3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (k0_pay226 (View.readAt (Elt F) arg3.view (Rect.unit (s := S1x256x128) ![0, 0, 0] S1x256x128.size inb_S1x256x128_S1x256x128_0_0_0).toLoadRect f3)) (k0_pay227 (View.readAt (Elt F) arg6.view (Rect.unit (s := S1x1x256x128) (k0_off1 i 0#32) S1x1x1x128.size (k0_off1_inb i 0)).toLoadRect f6) (View.readAt (Elt F) arg6.view (Rect.unit (s := S1x1x256x128) (k0_off1 i 1#32) S1x1x1x128.size (k0_off1_inb i 1)).toLoadRect f6)) (bodyRun.sl.v25 i) 8#32 (bodyRun.sl.v26 i) (bodyRun.sl.v28 i) (bodyRun.sl.v48 i) f4 f5 f7 f8 (a1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (k0_pay226 (View.readAt (Elt F) arg3.view (Rect.unit (s := S1x256x128) ![0, 0, 0] S1x256x128.size inb_S1x256x128_S1x256x128_0_0_0).toLoadRect f3)) (k0_pay227 (View.readAt (Elt F) arg6.view (Rect.unit (s := S1x1x256x128) (k0_off1 i 0#32) S1x1x1x128.size (k0_off1_inb i 0)).toLoadRect f6) (View.readAt (Elt F) arg6.view (Rect.unit (s := S1x1x256x128) (k0_off1 i 1#32) S1x1x1x128.size (k0_off1_inb i 1)).toLoadRect f6)) (bodyRun.sl.v25 i) 8#32 (bodyRun.sl.v26 i) (bodyRun.sl.v28 i) f4 f5 f7 f8 (arg10.view.writes (Elt F) arg10.view.junk [⟨R10, k0_pay228⟩]) (arg11.view.writes (Elt F) arg11.view.junk [⟨R11, k0_pay229⟩]) (arg12.view.writes (Elt F) arg12.view.junk [⟨R12, k0_pay230⟩]) (k0_t1_loop i).trips) (l1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (k0_pay226 (View.readAt (Elt F) arg3.view (Rect.unit (s := S1x256x128) ![0, 0, 0] S1x256x128.size inb_S1x256x128_S1x256x128_0_0_0).toLoadRect f3)) (k0_pay227 (View.readAt (Elt F) arg6.view (Rect.unit (s := S1x1x256x128) (k0_off1 i 0#32) S1x1x1x128.size (k0_off1_inb i 0)).toLoadRect f6) (View.readAt (Elt F) arg6.view (Rect.unit (s := S1x1x256x128) (k0_off1 i 1#32) S1x1x1x128.size (k0_off1_inb i 1)).toLoadRect f6)) (bodyRun.sl.v25 i) 8#32 (bodyRun.sl.v26 i) (bodyRun.sl.v28 i) f4 f5 f7 f8 (arg10.view.writes (Elt F) arg10.view.junk [⟨R10, k0_pay228⟩]) (arg11.view.writes (Elt F) arg11.view.junk [⟨R11, k0_pay229⟩]) (arg12.view.writes (Elt F) arg12.view.junk [⟨R12, k0_pay230⟩]) (k0_t1_loop i).trips) (m1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (k0_pay226 (View.readAt (Elt F) arg3.view (Rect.unit (s := S1x256x128) ![0, 0, 0] S1x256x128.size inb_S1x256x128_S1x256x128_0_0_0).toLoadRect f3)) (k0_pay227 (View.readAt (Elt F) arg6.view (Rect.unit (s := S1x1x256x128) (k0_off1 i 0#32) S1x1x1x128.size (k0_off1_inb i 0)).toLoadRect f6) (View.readAt (Elt F) arg6.view (Rect.unit (s := S1x1x256x128) (k0_off1 i 1#32) S1x1x1x128.size (k0_off1_inb i 1)).toLoadRect f6)) (bodyRun.sl.v25 i) 8#32 (bodyRun.sl.v26 i) (bodyRun.sl.v28 i) f4 f5 f7 f8 (arg10.view.writes (Elt F) arg10.view.junk [⟨R10, k0_pay228⟩]) (arg11.view.writes (Elt F) arg11.view.junk [⟨R11, k0_pay229⟩]) (arg12.view.writes (Elt F) arg12.view.junk [⟨R12, k0_pay230⟩]) (k0_t1_loop i).trips) (k0_t3_loop i).trips))
        outV arg10 arg11 t.1 t.2.1) := by
  unfold bodyRun
  rfl

end Trip

end Cert.KernelIdeal.Hand

end
-- ==== Proof.Weights.lean ====
module

public import Idealize.ShloMosaic.Lib.Pointwise

@[expose] public section

noncomputable section

namespace Cert.Attn

open Idealize.ShloMosaic

/-- The number 1 / ln 2. -/
def L : ℝ := (Real.log 2)⁻¹

/-- 1 / ln 2 is positive. -/
theorem L_pos : 0 < L := inv_pos.2 (Real.log_pos (by norm_num))

/-- The weight of a score against a maximum. -/
def W (a m : EReal) : EReal := Ideal.exp2 ((a - m) * (L : EReal))

/-- A weight is a number that is not negative. -/
theorem exp2_nonneg (x : EReal) : 0 ≤ Ideal.exp2 x := by
  induction x using EReal.rec with
  | bot => simp
  | top => simp
  | coe r => rw [Ideal.exp2_coe]; exact_mod_cast (Real.rpow_pos_of_pos (by norm_num) r).le

/-- A score at minus infinity weighs zero. -/
theorem W_bot (m : EReal) : W ⊥ m = 0 := by
  unfold W
  rw [EReal.bot_sub, EReal.bot_mul_coe_of_pos L_pos]; simp

/-- A weight against a maximum of plus infinity is zero. -/
theorem W_top (a : EReal) : W a ⊤ = 0 := by
  unfold W
  rw [EReal.sub_top, EReal.bot_mul_coe_of_pos L_pos]; simp

/-- The weight of a real score against a real maximum is a power of two. -/
theorem W_coe (a m : ℝ) : W a m = ((Real.rpow 2 ((a - m) * L) : ℝ) : EReal) := by
  unfold W
  rw [← EReal.coe_sub, ← EReal.coe_mul, Ideal.exp2_coe]

/-- A weight of a score at most the maximum is a real number in [0, 1]. -/
theorem W_real {a m : EReal} (h : a ≤ m) : ∃ r : ℝ, 0 ≤ r ∧ r ≤ 1 ∧ W a m = (r : EReal) := by
  induction a using EReal.rec with
  | bot => exact ⟨0, le_refl _, zero_le_one, by rw [W_bot]; rfl⟩
  | top => rw [top_le_iff.1 h]; exact ⟨0, le_refl _, zero_le_one, by rw [W_top]; rfl⟩
  | coe a =>
    induction m using EReal.rec with
    | bot => exact absurd h (by simp)
    | top => exact ⟨0, le_refl _, zero_le_one, by rw [W_top]; rfl⟩
    | coe m =>
      refine ⟨_, (Real.rpow_pos_of_pos (by norm_num) _).le, ?_, W_coe a m⟩
      refine Real.rpow_le_one_of_one_le_of_nonpos (by norm_num) ?_
      have : a ≤ m := by exact_mod_cast h
      exact mul_nonpos_of_nonpos_of_nonneg (by linarith) L_pos.le

/-- Weights compose along maxima. -/
theorem W_mul {a m m' : EReal} (h : a ≤ m) (h' : m ≤ m') : W a m * W m m' = W a m' := by
  induction a using EReal.rec with
  | bot => simp [W_bot]
  | top =>
    have hm := top_le_iff.1 h
    subst hm
    rw [top_le_iff.1 h']; simp [W_top]
  | coe a =>
    induction m using EReal.rec with
    | bot => exact absurd h (by simp)
    | top => rw [top_le_iff.1 h']; simp [W_top]
    | coe m =>
      induction m' using EReal.rec with
      | bot => exact absurd h' (by simp)
      | top => simp [W_top]
      | coe m' =>
        rw [W_coe, W_coe, W_coe, ← EReal.coe_mul]
        congr 1
        simp only [Real.rpow_eq_pow]
        rw [← Real.rpow_add (by norm_num)]
        congr 1; ring

/-- A power of two off an exponent. -/
theorem exp2_sub_int (z : EReal) (e : ℤ) :
    Ideal.exp2 (z - (e : ℝ)) = Ideal.exp2 z * (((2 : ℝ) ^ (-e) : ℝ) : EReal) := by
  have hp : (0 : ℝ) < (2 : ℝ) ^ (-e) := by positivity
  induction z using EReal.rec with
  | bot => rw [EReal.bot_sub]; simp
  | top => rw [EReal.top_sub_coe, Ideal.exp2_top, EReal.top_mul_coe_of_pos hp]
  | coe z =>
    rw [← EReal.coe_sub, Ideal.exp2_coe, Ideal.exp2_coe, ← EReal.coe_mul]
    congr 1
    simp only [Real.rpow_eq_pow]
    rw [← Real.rpow_intCast, ← Real.rpow_add (by norm_num)]
    congr 1; push_cast; ring

/-- The exponent of a score's weight, computed as the kernel does: score times factor, less the offset. -/
theorem offset_scaled (s : EReal) (c : ℝ) (hc : 0 < c) (m : EReal) (e : ℤ) (h : s * (c : EReal) ≤ m) :
    Ideal.exp2 (s * (((c * L : ℝ)) : EReal) - (m * (L : EReal) + ((e : ℝ) : EReal))) = W (s * (c : EReal)) m * (((2 : ℝ) ^ (-e) : ℝ) : EReal) := by
  have hcL : 0 < c * L := mul_pos hc L_pos
  rw [W, ← exp2_sub_int]
  congr 1
  induction s using EReal.rec with
  | bot => rw [EReal.bot_mul_coe_of_pos hc, EReal.bot_mul_coe_of_pos hcL]; simp [EReal.bot_mul_coe_of_pos L_pos]
  | top =>
    rw [EReal.top_mul_coe_of_pos hc] at h ⊢
    rw [top_le_iff.1 h, EReal.top_mul_coe_of_pos hcL, EReal.top_mul_coe_of_pos L_pos, EReal.top_add_coe]
    simp [EReal.bot_mul_coe_of_pos L_pos]
  | coe s =>
    induction m using EReal.rec with
    | bot => exact absurd h (by rw [← EReal.coe_mul, not_le]; exact EReal.bot_lt_coe _)
    | top => rw [EReal.top_mul_coe_of_pos L_pos, EReal.top_add_coe]; simp [EReal.bot_mul_coe_of_pos L_pos]
    | coe m =>
      norm_cast
      push_cast
      ring

/-- The same for a score that has its factor already. -/
theorem offset_plain (s : EReal) (m : EReal) (e : ℤ) (h : s ≤ m) :
    Ideal.exp2 (s * (L : EReal) - (m * (L : EReal) + ((e : ℝ) : EReal))) = W s m * (((2 : ℝ) ^ (-e) : ℝ) : EReal) := by
  have := offset_scaled s 1 one_pos m e (by simpa using h)
  simpa using this

/-- A sum times a real number that is not negative, inside. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- A sum times a weight, inside. -/
theorem sum_mul_W {ι : Type*} (s : Finset ι) (f : ι → EReal) {a m : EReal} (h : a ≤ m) :
    (∑ i ∈ s, f i) * W a m = ∑ i ∈ s, f i * W a m := by
  obtain ⟨r, hr, -, he⟩ := W_real h
  rw [he]; exact sum_mul_coe s f r hr

/-- The largest of a list times a positive number. -/
theorem max_mul_coe (a b : EReal) (c : ℝ) (hc : 0 < c) : max a b * (c : EReal) = max (a * c) (b * c) := by
  have hm : Monotone fun x : EReal => x * (c : EReal) := fun x y h => mul_le_mul_of_nonneg_right h (by exact_mod_cast hc.le)
  exact hm.map_max

/-- A power of two times its inverse is one. -/
theorem two_mul_neg (e : ℤ) : (((2 : ℝ) ^ (-e) : ℝ) : EReal) * (((2 : ℝ) ^ e : ℝ) : EReal) = 1 := by
  rw [← EReal.coe_mul, ← zpow_add₀ (by norm_num : (2:ℝ) ≠ 0)]; simp

/-- Clipping leaves a scaled weight alone. -/
theorem clip_id {a m bm : EReal} {e : ℤ} (h1 : a ≤ bm) (h2 : bm ≤ m) (hb : W bm m ≤ ((448 * (2 : ℝ) ^ e : ℝ) : EReal)) :
    min ((448 : ℝ) : EReal) (max ((-448 : ℝ) : EReal) (W a m * (((2 : ℝ) ^ (-e) : ℝ) : EReal))) = W a m * (((2 : ℝ) ^ (-e) : ℝ) : EReal) := by
  obtain ⟨x, hx0, hx1, hx⟩ := W_real h1
  obtain ⟨y, hy0, hy1, hy⟩ := W_real h2
  have hp : (0 : ℝ) < (2 : ℝ) ^ e := by positivity
  rw [← W_mul h1 h2, hx, hy, ← EReal.coe_mul, ← EReal.coe_mul]
  rw [hy] at hb
  have hb' : y ≤ 448 * (2 : ℝ) ^ e := by exact_mod_cast hb
  have h3 : x * y * (2 : ℝ) ^ (-e) ≤ 448 := by
    rw [zpow_neg, ← div_eq_mul_inv, div_le_iff₀ hp]
    nlinarith
  have h4 : 0 ≤ x * y * (2 : ℝ) ^ (-e) := by positivity
  rw [max_eq_right, min_eq_right]
  · exact_mod_cast h3
  · have : (-448 : ℝ) ≤ x * y * (2 : ℝ) ^ (-e) := by linarith
    exact_mod_cast this

/-- The exponential of the reference is a weight. -/
theorem exp_eq_W {a m : EReal} : Ideal.exp (a - m) = W a m := by
  unfold W
  generalize a - m = z
  have hL := L_pos
  induction z using EReal.rec with
  | bot => rw [EReal.bot_mul_coe_of_pos hL]; simp
  | top => rw [EReal.top_mul_coe_of_pos hL]; simp
  | coe z =>
    rw [← EReal.coe_mul, Ideal.exp2_coe, Ideal.exp_coe]
    congr 1
    simp only [Real.rpow_eq_pow]
    rw [Real.rpow_def_of_pos (by norm_num)]
    congr 1
    unfold L
    have : Real.log 2 ≠ 0 := (Real.log_pos (by norm_num)).ne'
    field_simp

end Cert.Attn

end
-- ==== Proof.Search.lean ====
module

public import proofs.«01_k».proof.Proof.SpecV
public import proofs.«01_k».proof.Proof.Weights
public import Idealize.ShloMosaic.Lib.Pointwise

@[expose] public section

set_option maxRecDepth 16384

noncomputable section

namespace Cert.KernelIdeal.Hand

open Cert.KernelIdeal Cert.KernelIdeal.Gen Cert.Attn
open Idealize.ShloMosaic

/-- One step keeps the value times its power of two, and keeps a value below one below one. -/
theorem step_spec (S : Shape) (lim mul n : BitVec 32) (nn : ℕ) (hl : Ideal.ofBits .f32 lim = (((2 : ℝ) ^ (-(nn : ℤ)) : ℝ) : EReal))
    (hm : Ideal.ofBits .f32 mul = (((2 : ℝ) ^ ((nn : ℤ)) : ℝ) : EReal)) (hn : n.toInt = nn)
    (x : FVec Ideal S .f32) (e : IVec S 32) (j : S.Idx) (x0 y : ℝ) (k : ℤ) (hx : x j = (y : EReal)) (hy : 0 ≤ y) (hy1 : y < 1)
    (he : (e j).toInt = k) (hk : -1000 ≤ k) (hk0 : k ≤ 0) (hnn : nn ≤ 64) (h : y * (2 : ℝ) ^ k = x0) :
    ∃ (y' : ℝ) (k' : ℤ), stX S lim mul x j = (y' : EReal) ∧ 0 ≤ y' ∧ y' < 1 ∧ (stE S lim n x e j).toInt = k' ∧ k' ≤ k ∧ k - nn ≤ k' ∧ y' * (2 : ℝ) ^ k' = x0 := by
  have h1 : stX S lim mul x j = if x j < Ideal.ofBits .f32 lim then x j * Ideal.ofBits .f32 mul else x j := by
    pointwise [stX]
  have h2 : stE S lim n x e j = if x j < Ideal.ofBits .f32 lim then e j - n else e j := by
    pointwise [stE]
    rfl
  rw [h1, h2, hl, hm, hx]
  have hp : (0 : ℝ) < (2 : ℝ) ^ (nn : ℤ) := by positivity
  by_cases hc : y < (2 : ℝ) ^ (-(nn : ℤ))
  · have hc' : ((y : ℝ) : EReal) < (((2 : ℝ) ^ (-(nn : ℤ)) : ℝ) : EReal) := by exact_mod_cast hc
    rw [if_pos hc', if_pos hc']
    refine ⟨y * (2 : ℝ) ^ (nn : ℤ), k - nn, by rw [EReal.coe_mul], by positivity, ?_, ?_, by omega, le_refl _, ?_⟩
    · rw [zpow_neg, ← one_div, lt_div_iff₀ hp] at hc; exact hc
    · rw [BitVec.toInt_sub, he, hn]
      apply Int.bmod_eq_of_le <;> omega
    · rw [← h, mul_assoc, ← zpow_add₀ (by norm_num : (2:ℝ) ≠ 0)]; congr 2; ring
  · have hc' : ¬ ((y : ℝ) : EReal) < (((2 : ℝ) ^ (-(nn : ℤ)) : ℝ) : EReal) := by
      intro h; exact hc (by exact_mod_cast h)
    rw [if_neg hc', if_neg hc']
    exact ⟨y, k, rfl, hy, hy1, he, le_refl _, by omega, h⟩

/-- The search's bound for 64 places, as a power of two. -/
theorem ob_lim64 : Ideal.ofBits .f32 0x1F800000#32 = (((2 : ℝ) ^ (-((64 : ℕ) : ℤ)) : ℝ) : EReal) := by
  simp [Ideal.ofBits, Ideal.ieee, -EReal.coe_mul]; norm_num
/-- The search's factor for 64 places, as a power of two. -/
theorem ob_mul64 : Ideal.ofBits .f32 0x5F800000#32 = (((2 : ℝ) ^ (((64 : ℕ) : ℤ)) : ℝ) : EReal) := by
  simp [Ideal.ofBits, Ideal.ieee, -EReal.coe_mul, -EReal.coe_pow]; norm_num
/-- The search's bound for 32 places, as a power of two. -/
theorem ob_lim32 : Ideal.ofBits .f32 0x2F800000#32 = (((2 : ℝ) ^ (-((32 : ℕ) : ℤ)) : ℝ) : EReal) := by
  simp [Ideal.ofBits, Ideal.ieee, -EReal.coe_mul]; norm_num
/-- The search's factor for 32 places, as a power of two. -/
theorem ob_mul32 : Ideal.ofBits .f32 0x4F800000#32 = (((2 : ℝ) ^ (((32 : ℕ) : ℤ)) : ℝ) : EReal) := by
  simp [Ideal.ofBits, Ideal.ieee, -EReal.coe_mul, -EReal.coe_pow]; norm_num
/-- The search's bound for 16 places, as a power of two. -/
theorem ob_lim16 : Ideal.ofBits .f32 0x37800000#32 = (((2 : ℝ) ^ (-((16 : ℕ) : ℤ)) : ℝ) : EReal) := by
  simp [Ideal.ofBits, Ideal.ieee, -EReal.coe_mul]; norm_num
/-- The search's factor for 16 places, as a power of two. -/
theorem ob_mul16 : Ideal.ofBits .f32 0x47800000#32 = (((2 : ℝ) ^ (((16 : ℕ) : ℤ)) : ℝ) : EReal) := by
  simp [Ideal.ofBits, Ideal.ieee, -EReal.coe_mul, -EReal.coe_pow]; norm_num
/-- The search's bound for 8 places, as a power of two. -/
theorem ob_lim8 : Ideal.ofBits .f32 0x3B800000#32 = (((2 : ℝ) ^ (-((8 : ℕ) : ℤ)) : ℝ) : EReal) := by
  simp [Ideal.ofBits, Ideal.ieee, -EReal.coe_mul]; norm_num
/-- The search's factor for 8 places, as a power of two. -/
theorem ob_mul8 : Ideal.ofBits .f32 0x43800000#32 = (((2 : ℝ) ^ (((8 : ℕ) : ℤ)) : ℝ) : EReal) := by
  simp [Ideal.ofBits, Ideal.ieee, -EReal.coe_mul, -EReal.coe_pow]; norm_num
/-- The search's bound for 4 places, as a power of two. -/
theorem ob_lim4 : Ideal.ofBits .f32 0x3D800000#32 = (((2 : ℝ) ^ (-((4 : ℕ) : ℤ)) : ℝ) : EReal) := by
  simp [Ideal.ofBits, Ideal.ieee, -EReal.coe_mul]; norm_num
/-- The search's factor for 4 places, as a power of two. -/
theorem ob_mul4 : Ideal.ofBits .f32 0x41800000#32 = (((2 : ℝ) ^ (((4 : ℕ) : ℤ)) : ℝ) : EReal) := by
  simp [Ideal.ofBits, Ideal.ieee, -EReal.coe_mul, -EReal.coe_pow]; norm_num
/-- The search's bound for 2 places, as a power of two. -/
theorem ob_lim2 : Ideal.ofBits .f32 0x3E800000#32 = (((2 : ℝ) ^ (-((2 : ℕ) : ℤ)) : ℝ) : EReal) := by
  simp [Ideal.ofBits, Ideal.ieee, -EReal.coe_mul]; norm_num
/-- The search's factor for 2 places, as a power of two. -/
theorem ob_mul2 : Ideal.ofBits .f32 0x40800000#32 = (((2 : ℝ) ^ (((2 : ℕ) : ℤ)) : ℝ) : EReal) := by
  simp [Ideal.ofBits, Ideal.ieee, -EReal.coe_mul, -EReal.coe_pow]; norm_num
/-- The search's bound for 1 places, as a power of two. -/
theorem ob_lim1 : Ideal.ofBits .f32 0x3F000000#32 = (((2 : ℝ) ^ (-((1 : ℕ) : ℤ)) : ℝ) : EReal) := by
  simp [Ideal.ofBits, Ideal.ieee, -EReal.coe_mul]; norm_num
/-- The search's factor for 1 places, as a power of two. -/
theorem ob_mul1 : Ideal.ofBits .f32 0x40000000#32 = (((2 : ℝ) ^ (((1 : ℕ) : ℤ)) : ℝ) : EReal) := by
  simp [Ideal.ofBits, Ideal.ieee, -EReal.coe_mul, -EReal.coe_pow]; norm_num
/-- The literal of the least normal number, as a power of two. -/
theorem ob_least : Ideal.ofBits .f32 0x00800000#32 = (((2 : ℝ) ^ (-(126 : ℤ)) : ℝ) : EReal) := by
  simp [Ideal.ofBits, Ideal.ieee, -EReal.coe_mul]; norm_num

/-- The search's exponent: one of -126 … 0, whose power of two is at least the value. -/
theorem vSrch_spec (S : Shape) (x : FVec Ideal S .f32) (j : S.Idx) (x0 : ℝ) (hx : x j = (x0 : EReal)) (h0 : 0 ≤ x0) (h1 : x0 < 1) :
    ∃ k : ℕ, k ≤ 126 ∧ vSrch S x j = BitVec.ofInt 32 (-(k : ℤ)) ∧ x0 ≤ (2 : ℝ) ^ (-(k : ℤ)) := by
  obtain ⟨y1, k1, a1, b1, c1, d1, e1, f1, g1⟩ := step_spec S 0x1F800000#32 0x5F800000#32 64#32 64 ob_lim64 ob_mul64 (by decide) x (broadcast S 0#32) j x0 x0 0 hx h0 h1 (by rfl) (by omega) (by omega) (by omega) (by simp)
  obtain ⟨y2, k2, a2, b2, c2, d2, e2, f2, g2⟩ := step_spec S 0x2F800000#32 0x4F800000#32 32#32 32 ob_lim32 ob_mul32 (by decide) _ _ j x0 y1 k1 a1 b1 c1 d1 (by omega) (by omega) (by omega) g1
  obtain ⟨y3, k3, a3, b3, c3, d3, e3, f3, g3⟩ := step_spec S 0x37800000#32 0x47800000#32 16#32 16 ob_lim16 ob_mul16 (by decide) _ _ j x0 y2 k2 a2 b2 c2 d2 (by omega) (by omega) (by omega) g2
  obtain ⟨y4, k4, a4, b4, c4, d4, e4, f4, g4⟩ := step_spec S 0x3B800000#32 0x43800000#32 8#32 8 ob_lim8 ob_mul8 (by decide) _ _ j x0 y3 k3 a3 b3 c3 d3 (by omega) (by omega) (by omega) g3
  obtain ⟨y5, k5, a5, b5, c5, d5, e5, f5, g5⟩ := step_spec S 0x3D800000#32 0x41800000#32 4#32 4 ob_lim4 ob_mul4 (by decide) _ _ j x0 y4 k4 a4 b4 c4 d4 (by omega) (by omega) (by omega) g4
  obtain ⟨y6, k6, a6, b6, c6, d6, e6, f6, g6⟩ := step_spec S 0x3E800000#32 0x40800000#32 2#32 2 ob_lim2 ob_mul2 (by decide) _ _ j x0 y5 k5 a5 b5 c5 d5 (by omega) (by omega) (by omega) g5
  obtain ⟨y7, k7, a7, b7, c7, d7, e7, f7, g7⟩ := step_spec S 0x3F000000#32 0x40000000#32 1#32 1 ob_lim1 ob_mul1 (by decide) _ _ j x0 y6 k6 a6 b6 c6 d6 (by omega) (by omega) (by omega) g6
  have hs : ∀ e : IVec S 32, select (cmpf .olt x (broadcast S (Scalar.ofBits .f32 0x00800000#32))) (broadcast S 0#32) e j
      = if x j < Ideal.ofBits .f32 0x00800000#32 then 0#32 else e j := by
    intro e; pointwise
  have hP : ∀ k7 : ℤ, k7 ≤ -127 → (2 : ℝ) ^ k7 < (2 : ℝ) ^ (-(126 : ℤ)) := fun k7 h => zpow_lt_zpow_right₀ (by norm_num) (by omega)
  unfold vSrch
  rw [hs, ob_least, hx]
  generalize (2 : ℝ) ^ (-(126 : ℤ)) = P at hP
  by_cases hc : x0 < P
  · rw [if_pos (EReal.coe_lt_coe_iff.2 hc)]
    exact ⟨0, by omega, by simp, by simpa using h1.le⟩
  · rw [if_neg (fun h => hc (EReal.coe_lt_coe_iff.1 h))]
    have hk : x0 ≤ (2 : ℝ) ^ k7 := by
      rw [← g7]
      have h2 : (0 : ℝ) < (2 : ℝ) ^ k7 := by positivity
      calc y7 * (2 : ℝ) ^ k7 ≤ 1 * (2 : ℝ) ^ k7 := mul_le_mul_of_nonneg_right c7.le h2.le
        _ = _ := one_mul _
    have hk126 : -126 ≤ k7 := by
      by_contra hcon
      exact hc (lt_of_le_of_lt hk (hP k7 (by omega)))
    have hn : -(k7.natAbs : ℤ) = k7 := by omega
    refine ⟨k7.natAbs, by omega, ?_, by rw [hn]; exact hk⟩
    rw [hn, ← d7, BitVec.ofInt_toInt]

/-- The word of a power of two, built from the exponent. -/
theorem pow2_bits (k : ℕ) (hk : k ≤ 126) :
    Ideal.ofBits .f32 ((BitVec.ofInt 32 (-(k : ℤ)) + 127#32) <<< 23) = (((2 : ℝ) ^ (-(k : ℤ)) : ℝ) : EReal) := by
  have h1 : ∀ k : Fin 127, (((BitVec.ofInt 32 (-(k.val : ℤ)) + 127#32) <<< 23).extractLsb' 23 8).toNat = 127 - k.val
      ∧ (((BitVec.ofInt 32 (-(k.val : ℤ)) + 127#32) <<< 23).extractLsb' 0 23).toNat = 0
      ∧ (((BitVec.ofInt 32 (-(k.val : ℤ)) + 127#32) <<< 23).extractLsb' 31 1 == 1#1) = false := by decide +kernel
  obtain ⟨e1, e2, e3⟩ := h1 ⟨k, by omega⟩
  dsimp only at e1 e2 e3
  show Ideal.ieee 8 23 _ = _
  unfold Ideal.ieee
  dsimp only
  rw [e1, e2, e3, if_neg (by omega), if_neg (by omega)]
  rw [EReal.coe_eq_coe_iff]
  have h3 : (((127 - k : ℕ) : ℤ)) - (2 ^ (8 - 1) - 1) - ((23 : ℕ) : ℤ) = -k + -23 := by
    rw [Nat.cast_sub (by omega)]; norm_num; ring
  rw [h3, zpow_add₀ (by norm_num : (2:ℝ) ≠ 0)]
  generalize (2 : ℝ) ^ (-(k : ℤ)) = P
  norm_num
  ring

end Cert.KernelIdeal.Hand

end
-- ==== Proof.Block.lean ====
module

public import proofs.«01_k».proof.Proof.Search

@[expose] public section

set_option maxRecDepth 16384

noncomputable section

namespace Cert.KernelIdeal.Hand

open Cert.KernelIdeal Cert.KernelIdeal.Gen Cert.Attn
open Idealize.ShloMosaic Idealize.ShloMosaic.Tactic

/-- The literal that divides by 448, as a real number. -/
theorem ob_r : Ideal.ofBits .f32 0x3B124925#32 = ((9586981 / 4294967296 : ℝ) : EReal) := by
  simp [Ideal.ofBits, Ideal.ieee, -EReal.coe_mul, -EReal.coe_div]; norm_num

/-- The literal 448, as a real number. -/
theorem ob_448 : Ideal.ofBits .f32 0x43E00000#32 = ((448 : ℝ) : EReal) := by
  simp [Ideal.ofBits, Ideal.ieee, -EReal.coe_mul]; norm_num

/-- The literal -448, as a real number. -/
theorem ob_n448 : Ideal.ofBits .f32 0xC3E00000#32 = ((-448 : ℝ) : EReal) := by
  simp [Ideal.ofBits, Ideal.ieee, -EReal.coe_mul, -EReal.coe_neg]; norm_num

/-- The named constant log2(e) stands for 1 / ln 2. -/
theorem named_L : (Named.named κ "log2e" 0x3FB8AA3B#32 : Idealize.ShloMosaic.Ideal .f32) = (L : EReal) :=
  IdealRules.named_const.ideal_named_scalar _ _ _ _ rfl

/-- The named mask stands for minus infinity. -/
theorem named_masked : (Named.named κ "masked" 0xF149F2CA#32 : Idealize.ShloMosaic.Ideal .f32) = (⊥ : EReal) :=
  IdealRules.named_const.ideal_named_scalar _ _ _ _ rfl

/-- What is needed of one block at one query: its scores, its scaled scores, the running maximum after it and the last one. -/
structure BlockOK (S : Fin 128 → EReal) (C O D Wt : EReal) (sc : Fin 128 → EReal) (run last : EReal) (vs : ℝ) : Prop where
  hvs : 0 ≤ vs
  hrl : run ≤ last
  hr : ∀ j, sc j ≤ run
  hp : ∃ e : ℤ, ∃ bm, (∀ j, sc j ≤ bm) ∧ bm ≤ run ∧ W bm run ≤ ((448 * (2 : ℝ) ^ e : ℝ) : EReal)
    ∧ (∀ j, Ideal.exp2 (S j * C - O) = W (sc j) run * (((2 : ℝ) ^ (-e) : ℝ) : EReal))
    ∧ D = W run last * (((2 : ℝ) ^ e : ℝ) : EReal) ∧ Wt = D * (vs : EReal)

/-- The weights of a block before they are coded, at an index. -/
theorem vP_apply (s : FVec Ideal S128x256 .f32) (c o : FVec Ideal S1x256 .f32) (j : Fin 128) (q : Fin 256) :
    vP s c o (ix2 j q) = Ideal.exp2 (s (ix2 j q) * c (ix2 0 q) - o (ix2 0 q)) := by
  pointwise [vP]
  rfl

/-- The codes of a block of weights, at an index. -/
theorem vCode_apply (p : FVec Ideal S128x256 .f32) (j : Fin 128) (q : Fin 256) :
    vCode p (ix2 j q) = min ((448 : ℝ) : EReal) (max ((-448 : ℝ) : EReal) (p (ix2 j q))) := by
  rw [← ob_448, ← ob_n448]
  pointwise [vCode]

/-- The sums of the weights after a block, at an index. -/
theorem vLs_apply (l : FVec Ideal S8x256 .f32) (p : FVec Ideal S128x256 .f32) (d : FVec Ideal S1x256 .f32) (r : Fin 8) (q : Fin 256) :
    vLs l p d (ix2 r q) = l (ix2 r q) + (∑ i : Fin 16, p (ix2 ⟨i.val * 8 + r.val, by omega⟩ q)) * d (ix2 0 q) := by
  pointwise [vLs]

/-- The accumulator after a block, at an index. -/
theorem vAcc_apply (acc : FVec Ideal S128x256 .f32) (vt : Vec Ideal S1x1x128x128 .fp8e4m3) (code : FVec Ideal S128x256 .fp8e4m3) (w : FVec Ideal S1x256 .f32)
    (d : Fin 128) (q : Fin 256) :
    vAcc acc vt code w (ix2 d q) = acc (ix2 d q) + (∑ j : Fin 128, vt (ix4 0 0 d j) * code (ix2 j q)) * w (ix2 0 q) := by
  pointwise [vAcc]

/-- The factor that takes older sums to the new maximum. -/
theorem vAlpha_apply (m last : FVec Ideal S1x256 .f32) (q : Fin 256) :
    vAlpha m last (ix2 0 q) = W (m (ix2 0 q)) (last (ix2 0 q)) := by
  unfold W
  pointwise [vAlpha, vL, named_L]
  rfl

/-- A block's factor: the weight of its own maximum times its power of two, at an index. -/
theorem vDecay_apply (n : ℕ) (h : S1x256.Broadcasts ⟨2, ![n, 256]⟩) (last : FVec Ideal S1x256 .f32) (rows : FVec Ideal ⟨2, ![n, 256]⟩ .f32)
    (e : IVec ⟨2, ![n, 256]⟩ 32) (b : Fin n) (q : Fin 256) :
    vDecay _ h last rows e (ix2 b q) = W (rows (ix2 b q)) (last (ix2 0 q)) * Ideal.ofBits .f32 ((e (ix2 b q) + 127#32) <<< 23) := by
  unfold W
  pointwise [vDecay, vL, named_L]
  rfl

/-- The offset taken off a block's exponents, at an index. -/
theorem vOff_apply (n : ℕ) (rows : FVec Ideal ⟨2, ![n, 256]⟩ .f32)
    (e : IVec ⟨2, ![n, 256]⟩ 32) (b : Fin n) (q : Fin 256) :
    vOff _ rows e (ix2 b q) = rows (ix2 b q) * (L : EReal) + (((e (ix2 b q)).toInt : ℝ) : EReal) := by
  pointwise [vOff, vL, named_L]
  rfl

/-- From the running maxima of a block at a query: its exponent, its offset and its factor. -/
theorem exp_spec (n : ℕ) (h : S1x256.Broadcasts ⟨2, ![n, 256]⟩) (last : FVec Ideal S1x256 .f32) (rows x : FVec Ideal ⟨2, ![n, 256]⟩ .f32)
    (b : Fin n) (q : Fin 256) (bm : EReal) (hb : bm ≤ rows (ix2 b q))
    (hx : x (ix2 b q) = W bm (rows (ix2 b q)) * ((9586981 / 4294967296 : ℝ) : EReal)) :
    ∃ e : ℤ, W bm (rows (ix2 b q)) ≤ ((448 * (2 : ℝ) ^ e : ℝ) : EReal)
      ∧ vOff _ rows (vSrch _ x) (ix2 b q) = rows (ix2 b q) * (L : EReal) + ((e : ℝ) : EReal)
      ∧ vDecay _ h last rows (vSrch _ x) (ix2 b q) = W (rows (ix2 b q)) (last (ix2 0 q)) * (((2 : ℝ) ^ e : ℝ) : EReal) := by
  obtain ⟨y, hy0, hy1, hy⟩ := W_real hb
  rw [hy, ← EReal.coe_mul] at hx
  obtain ⟨k, hk, hk1, hk2⟩ := vSrch_spec _ x _ _ hx (by positivity) (by linarith)
  refine ⟨-(k : ℤ), ?_, ?_, ?_⟩
  · rw [hy, EReal.coe_le_coe_iff]; linarith
  · rw [vOff_apply, hk1]
    congr 3
    rw [BitVec.toInt_ofInt]
    have : (-(k : ℤ)).bmod (2 ^ 32) = -(k : ℤ) := by apply Int.bmod_eq_of_le <;> norm_num <;> omega
    rw [this]
  · rw [vDecay_apply, hk1, pow2_bits k hk]

section Sums

variable {S : Fin 128 → EReal} {C O D Wt : EReal} {run last : EReal} {vs : ℝ}

/-- The partial sums so far, against a maximum. -/
def PL (sc : ℕ → EReal) (n : ℕ) (last : EReal) (l : FVec Ideal S8x256 .f32) (q : Fin 256) : Prop :=
  ∀ r : Fin 8, l (ix2 r q) = ∑ i ∈ Finset.range (16 * n), W (sc (i * 8 + r.val)) last

/-- The accumulator so far, against a maximum. -/
def PA (sc : ℕ → EReal) (vh : Fin 128 → ℕ → EReal) (n : ℕ) (last : EReal) (acc : FVec Ideal S128x256 .f32) (q : Fin 256) : Prop :=
  ∀ d : Fin 128, acc (ix2 d q) = ∑ k ∈ Finset.range (128 * n), W (sc k) last * vh d k

/-- What one block adds to the sum of the weights. -/
theorem PL_block {sc : ℕ → EReal} {n : ℕ} {l : FVec Ideal S8x256 .f32} {q : Fin 256} {s : FVec Ideal S128x256 .f32} {c o d : FVec Ideal S1x256 .f32}
    {Wt : EReal} (hl : PL sc n last l q)
    (hb : BlockOK (fun j => s (ix2 j q)) (c (ix2 0 q)) (o (ix2 0 q)) (d (ix2 0 q)) Wt (fun j => sc (128 * n + j.val)) run last vs) :
    PL sc (n + 1) last (vLs l (vP s c o) d) q := by
  obtain ⟨hvs, hrl, hr, e, bm, h1, h2, h3, h4, h5, h6⟩ := hb
  intro r
  obtain ⟨y, hy0, hy1, hy⟩ := W_real hrl
  have hpe : (0 : ℝ) < (2 : ℝ) ^ e := by positivity
  rw [vLs_apply, hl r, show 16 * (n + 1) = 16 * n + 16 by ring, Finset.sum_range_add, Finset.sum_range (n := 16)]
  congr 1
  rw [h5, hy, ← EReal.coe_mul, sum_mul_coe _ _ _ (by positivity)]
  refine Finset.sum_congr rfl fun i _ => ?_
  have hj := h4 ⟨i.val * 8 + r.val, by omega⟩
  have hrj := hr ⟨i.val * 8 + r.val, by omega⟩
  dsimp only at hj hrj
  rw [vP_apply, hj, EReal.coe_mul, ← hy]
  have e1 : (16 * n + i.val) * 8 + r.val = 128 * n + (i.val * 8 + r.val) := by ring
  rw [e1, ← W_mul hrj hrl]
  calc _ = W (sc (128 * n + (i.val * 8 + r.val))) run * W run last * ((((2 : ℝ) ^ (-e) : ℝ) : EReal) * (((2 : ℝ) ^ e : ℝ) : EReal)) := by ac_rfl
    _ = _ := by rw [two_mul_neg, mul_one]

/-- What one block adds to the accumulator. -/
theorem PA_block {sc : ℕ → EReal} {vh : Fin 128 → ℕ → EReal} {n : ℕ} {acc : FVec Ideal S128x256 .f32} {q : Fin 256} {s : FVec Ideal S128x256 .f32}
    {c o w : FVec Ideal S1x256 .f32} {D : EReal} {vt : Vec Ideal S1x1x128x128 .fp8e4m3} {code : FVec Ideal S128x256 .fp8e4m3}
    (hl : PA sc vh n last acc q) (hcode : code = vCode (vP s c o))
    (hb : BlockOK (fun j => s (ix2 j q)) (c (ix2 0 q)) (o (ix2 0 q)) D (w (ix2 0 q)) (fun j => sc (128 * n + j.val)) run last vs)
    (hv : ∀ d j : Fin 128, vh d (128 * n + j.val) = vt (ix4 0 0 d j) * (vs : EReal)) :
    PA sc vh (n + 1) last (vAcc acc vt code w) q := by
  obtain ⟨hvs, hrl, hr, e, bm, h1, h2, h3, h4, h5, h6⟩ := hb
  intro d
  obtain ⟨y, hy0, hy1, hy⟩ := W_real hrl
  have hpe : (0 : ℝ) < (2 : ℝ) ^ e := by positivity
  rw [vAcc_apply, hl d, show 128 * (n + 1) = 128 * n + 128 by ring, Finset.sum_range_add, Finset.sum_range (n := 128)]
  congr 1
  rw [h6, h5, hy, ← EReal.coe_mul, ← EReal.coe_mul, sum_mul_coe _ _ _ (by positivity)]
  refine Finset.sum_congr rfl fun j _ => ?_
  have hj := h4 j
  have hrj := hr j
  have h1j := h1 j

  rw [hcode, vCode_apply, vP_apply, hj, clip_id h1j h2 h3, EReal.coe_mul, EReal.coe_mul, ← hy, hv, ← W_mul hrj hrl]
  calc _ = W (sc (128 * n + j.val)) run * W run last * (vt (ix4 0 0 d j) * (vs : EReal)) * ((((2 : ℝ) ^ (-e) : ℝ) : EReal) * (((2 : ℝ) ^ e : ℝ) : EReal)) := by ac_rfl
    _ = _ := by rw [two_mul_neg, mul_one]

/-- The kept partial sums, moved to a later maximum. -/
theorem PL_alpha {sc : ℕ → EReal} {n : ℕ} {l : FVec Ideal S8x256 .f32} {q : Fin 256} {m last : FVec Ideal S1x256 .f32} {h : S1x256.Broadcasts S8x256}
    (hl : PL sc n (m (ix2 0 q)) l q) (hm : m (ix2 0 q) ≤ last (ix2 0 q)) (hs : ∀ k < 128 * n, sc k ≤ m (ix2 0 q)) :
    PL sc n (last (ix2 0 q)) (mulf l (broadcastTo S8x256 (vAlpha m last) h)) q := by
  intro r
  have e : mulf l (broadcastTo S8x256 (vAlpha m last) h) (ix2 r q) = l (ix2 r q) * vAlpha m last (ix2 0 q) := by pointwise
  rw [e, vAlpha_apply, hl r, sum_mul_W _ _ hm]
  refine Finset.sum_congr rfl fun i hi => ?_
  rw [W_mul (hs _ ?_) hm]
  have := Finset.mem_range.1 hi
  omega

/-- The kept accumulator, moved to a later maximum. -/
theorem PA_alpha {sc : ℕ → EReal} {vh : Fin 128 → ℕ → EReal} {n : ℕ} {acc : FVec Ideal S128x256 .f32} {q : Fin 256} {m last : FVec Ideal S1x256 .f32}
    {h : S1x256.Broadcasts S128x256}
    (hl : PA sc vh n (m (ix2 0 q)) acc q) (hm : m (ix2 0 q) ≤ last (ix2 0 q)) (hs : ∀ k < 128 * n, sc k ≤ m (ix2 0 q)) :
    PA sc vh n (last (ix2 0 q)) (mulf acc (broadcastTo S128x256 (vAlpha m last) h)) q := by
  intro d
  have e : mulf acc (broadcastTo S128x256 (vAlpha m last) h) (ix2 d q) = acc (ix2 d q) * vAlpha m last (ix2 0 q) := by pointwise
  rw [e, vAlpha_apply, hl d, sum_mul_W _ _ hm]
  refine Finset.sum_congr rfl fun k hk => ?_
  rw [← W_mul (hs _ (Finset.mem_range.1 hk)) hm]
  ac_rfl

end Sums

end Cert.KernelIdeal.Hand

end
-- ==== Proof.Pays.lean ====
module

public import proofs.«01_k».proof.Proof.Block

@[expose] public section

set_option maxRecDepth 16384

noncomputable section

namespace Cert.KernelIdeal.Hand

open Cert.KernelIdeal Cert.KernelIdeal.Gen Cert.Attn
open Idealize.ShloMosaic Idealize.ShloMosaic.Tactic

/-- The scale of the scores, as the kernel rounds it. -/
def SM : ℝ := 11863283 / 134217728

/-- The softmax scale is positive. -/
theorem SM_pos : 0 < SM := by unfold SM; norm_num

/-- The softmax scale's literal, as a real number. -/
theorem ob_SM : Ideal.ofBits .f32 0x3DB504F3#32 = (SM : EReal) := by
  unfold SM
  simp [Ideal.ofBits, Ideal.ieee, -EReal.coe_mul, -EReal.coe_div]; norm_num

/-- The literal for minus infinity is the bottom. -/
theorem ob_bot : Ideal.ofBits .f32 0xFF800000#32 = (⊥ : EReal) := by
  simp [Ideal.ofBits, Ideal.ieee]

/-- A selection on a signed comparison. -/
theorem select_sle (a b : BitVec 32) (x y : EReal) : Scalar.select (IntOp.cmpi .sle a b) x y = if a.sle b = true then x else y := by
  show (if BitVec.ofBool (a.sle b) = 1 then x else y) = _
  cases a.sle b <;> simp

section Two

variable (v1 : FVec Ideal S256x128 .fp8e4m3) (v12 : FVec Ideal S1x256 .f32) (kb : Vec Ideal S1x256x128 .fp8e4m3) (ksb : Vec Ideal S1x1x2x128 .f32)
  (m : Vec Ideal S1x256 .f32) (q : Fin 256)

/-- The value 141 that the body computes, at an index. -/
theorem pay141_apply (j : Fin 256) : k0_pay141 v1 kb (ix2 j q) = ∑ k : Fin 128, kb (ix3 0 j k) * v1 (ix2 q k) := by
  pointwise [k0_pay141, k0_pay136]

/-- The value 138 that the body computes, at an index. -/
theorem pay138_apply (ks : Fin 2 → EReal) (hks : ∀ b l, ksb (ix4 0 0 b l) = ks b) (b : Fin 2) :
    k0_pay138 v12 ksb (ix2 b q) = v12 (ix2 0 q) * ks b * (SM : EReal) := by
  pointwise [k0_pay138, hks, ob_SM]
  simp only [dite_eq_ite, ite_self]

/-- The value 139 that the body computes, at an index. -/
theorem pay139_apply (b : Fin 2) :
    k0_pay139 v1 v12 kb ksb (ix2 b q) = (Finset.univ.sup fun j : Fin 128 => ∑ k : Fin 128, kb (ix3 0 ⟨b.val * 128 + j.val, by omega⟩ k) * v1 (ix2 q k)) * k0_pay138 v12 ksb (ix2 b q) := by
  pointwise [k0_pay139, k0_pay136]
  rw [ob_bot]; rfl

/-- The value 140 that the body computes, at an index. -/
theorem pay140_apply (b : Fin 2) : k0_pay165 (k0_pay140 v12 ksb) (ix2 b q) = k0_pay138 v12 ksb (ix2 b q) * (L : EReal) := by
  pointwise [k0_pay165, k0_pay140, named_L]

/-- The value 142 that the body computes, at an index. -/
theorem pay142_apply : k0_pay142 v1 v12 kb ksb m (ix2 0 q) = max (m (ix2 0 q)) (k0_pay139 v1 v12 kb ksb (ix2 0 q)) := by
  pointwise [k0_pay142]

/-- The value 143 that the body computes, at an index. -/
theorem pay143_apply : k0_pay143 v1 v12 kb ksb m (ix2 0 q) = max (k0_pay142 v1 v12 kb ksb m (ix2 0 q)) (k0_pay139 v1 v12 kb ksb (ix2 1 q)) := by
  pointwise [k0_pay143]

/-- The value 144 that the body computes, at an index. -/
theorem pay144_apply0 : k0_pay144 v1 v12 kb ksb m (ix2 0 q) = k0_pay142 v1 v12 kb ksb m (ix2 0 q) := by
  pointwise [k0_pay144]

/-- The value 144 that the body computes, at an index. -/
theorem pay144_apply1 : k0_pay144 v1 v12 kb ksb m (ix2 1 q) = k0_pay143 v1 v12 kb ksb m (ix2 0 q) := by
  pointwise [k0_pay144]

/-- The value 145 that the body computes, at an index. -/
theorem pay145_apply (b : Fin 2) : mulf (k0_pay145 v1 v12 kb ksb m) k0_pay146 (ix2 b q)
    = W (k0_pay139 v1 v12 kb ksb (ix2 b q)) (k0_pay144 v1 v12 kb ksb m (ix2 b q)) * ((9586981 / 4294967296 : ℝ) : EReal) := by
  rw [← ob_r]; unfold W
  pointwise [k0_pay145, k0_pay146, named_L]
  rfl

/-- The value 137 that the body computes, at an index. -/
theorem pay137_apply (vsb : Vec Ideal S1x1x2x128 .f32) (vs : Fin 2 → EReal) (hvs : ∀ b l, vsb (ix4 0 0 b l) = vs b) (b : Fin 2) :
    k0_pay137 vsb (ix2 b q) = vs b := by
  pointwise [k0_pay137, hvs]
  simp only [dite_eq_ite, ite_self]

end Two

section Eight

variable (v1 : FVec Ideal S256x128 .fp8e4m3) (v12 : FVec Ideal S1x256 .f32) (kb : Vec Ideal S1x1024x128 .fp8e4m3) (ksb : Vec Ideal S1x1x8x128 .f32)
  (m : Vec Ideal S1x256 .f32) (q : Fin 256)

/-- The value 9 that the body computes, at an index. -/
theorem pay9_apply (j : Fin 1024) : k0_pay9 v1 kb (ix2 j q) = ∑ k : Fin 128, kb (ix3 0 j k) * v1 (ix2 q k) := by
  pointwise [k0_pay9, k0_pay4]

/-- The value 6 that the body computes, at an index. -/
theorem pay6_apply (ks : Fin 8 → EReal) (hks : ∀ b l, ksb (ix4 0 0 b l) = ks b) (b : Fin 8) :
    k0_pay6 v12 ksb (ix2 b q) = v12 (ix2 0 q) * ks b * (SM : EReal) := by
  pointwise [k0_pay6, hks, ob_SM]
  simp only [dite_eq_ite, ite_self]

/-- The value 7 that the body computes, at an index. -/
theorem pay7_apply (b : Fin 8) :
    k0_pay7 v1 v12 kb ksb (ix2 b q) = (Finset.univ.sup fun j : Fin 128 => ∑ k : Fin 128, kb (ix3 0 ⟨b.val * 128 + j.val, by omega⟩ k) * v1 (ix2 q k)) * k0_pay6 v12 ksb (ix2 b q) := by
  pointwise [k0_pay7, k0_pay4]
  rw [ob_bot]; rfl

/-- The value 8 that the body computes, at an index. -/
theorem pay8_apply (b : Fin 8) : k0_pay31 (k0_pay8 v12 ksb) (ix2 b q) = k0_pay6 v12 ksb (ix2 b q) * (L : EReal) := by
  pointwise [k0_pay31, k0_pay8, named_L]

/-- The value 5 that the body computes, at an index. -/
theorem pay5_apply (vsb : Vec Ideal S1x1x8x128 .f32) (vs : Fin 8 → EReal) (hvs : ∀ b l, vsb (ix4 0 0 b l) = vs b) (b : Fin 8) :
    k0_pay5 vsb (ix2 b q) = vs b := by
  pointwise [k0_pay5, hvs]
  simp only [dite_eq_ite, ite_self]

/-- The value 10 that the body computes, at an index. -/
theorem pay10_apply : k0_pay10 v1 v12 kb ksb m (ix2 0 q) = max (m (ix2 0 q)) (k0_pay7 v1 v12 kb ksb (ix2 0 q)) := by
  pointwise [k0_pay10]
/-- The value 11 that the body computes, at an index. -/
theorem pay11_apply : k0_pay11 v1 v12 kb ksb m (ix2 0 q) = max (k0_pay10 v1 v12 kb ksb m (ix2 0 q)) (k0_pay7 v1 v12 kb ksb (ix2 1 q)) := by
  pointwise [k0_pay11]
/-- The value 12 that the body computes, at an index. -/
theorem pay12_apply : k0_pay12 v1 v12 kb ksb m (ix2 0 q) = max (k0_pay11 v1 v12 kb ksb m (ix2 0 q)) (k0_pay7 v1 v12 kb ksb (ix2 2 q)) := by
  pointwise [k0_pay12]
/-- The value 13 that the body computes, at an index. -/
theorem pay13_apply : k0_pay13 v1 v12 kb ksb m (ix2 0 q) = max (k0_pay12 v1 v12 kb ksb m (ix2 0 q)) (k0_pay7 v1 v12 kb ksb (ix2 3 q)) := by
  pointwise [k0_pay13]
/-- The value 14 that the body computes, at an index. -/
theorem pay14_apply : k0_pay14 v1 v12 kb ksb m (ix2 0 q) = max (k0_pay13 v1 v12 kb ksb m (ix2 0 q)) (k0_pay7 v1 v12 kb ksb (ix2 4 q)) := by
  pointwise [k0_pay14]
/-- The value 15 that the body computes, at an index. -/
theorem pay15_apply : k0_pay15 v1 v12 kb ksb m (ix2 0 q) = max (k0_pay14 v1 v12 kb ksb m (ix2 0 q)) (k0_pay7 v1 v12 kb ksb (ix2 5 q)) := by
  pointwise [k0_pay15]
/-- The value 16 that the body computes, at an index. -/
theorem pay16_apply (bm : FVec Ideal S8x256 .f32) (r : FVec Ideal S1x256 .f32) : k0_pay16 bm r (ix2 0 q) = max (r (ix2 0 q)) (bm (ix2 6 q)) := by
  pointwise [k0_pay16]
/-- The value 17 that the body computes, at an index. -/
theorem pay17_apply (bm : FVec Ideal S8x256 .f32) (r : FVec Ideal S1x256 .f32) : k0_pay17 bm r (ix2 0 q) = max (k0_pay16 bm r (ix2 0 q)) (bm (ix2 7 q)) := by
  pointwise [k0_pay17]

variable (bm : FVec Ideal S8x256 .f32) (r0 r1 r2 r3 r4 r5 : FVec Ideal S1x256 .f32)
/-- The value 18 that the body computes, at row 0. -/
theorem pay18_0 : k0_pay18 bm r0 r1 r2 r3 r4 r5 (ix2 0 q) = r0 (ix2 0 q) := by pointwise [k0_pay18]
/-- The value 18 that the body computes, at row 1. -/
theorem pay18_1 : k0_pay18 bm r0 r1 r2 r3 r4 r5 (ix2 1 q) = r1 (ix2 0 q) := by pointwise [k0_pay18]
/-- The value 18 that the body computes, at row 2. -/
theorem pay18_2 : k0_pay18 bm r0 r1 r2 r3 r4 r5 (ix2 2 q) = r2 (ix2 0 q) := by pointwise [k0_pay18]
/-- The value 18 that the body computes, at row 3. -/
theorem pay18_3 : k0_pay18 bm r0 r1 r2 r3 r4 r5 (ix2 3 q) = r3 (ix2 0 q) := by pointwise [k0_pay18]
/-- The value 18 that the body computes, at row 4. -/
theorem pay18_4 : k0_pay18 bm r0 r1 r2 r3 r4 r5 (ix2 4 q) = r4 (ix2 0 q) := by pointwise [k0_pay18]
/-- The value 18 that the body computes, at row 5. -/
theorem pay18_5 : k0_pay18 bm r0 r1 r2 r3 r4 r5 (ix2 5 q) = r5 (ix2 0 q) := by pointwise [k0_pay18]
/-- The value 18 that the body computes, at row 6. -/
theorem pay18_6 : k0_pay18 bm r0 r1 r2 r3 r4 r5 (ix2 6 q) = k0_pay16 bm r5 (ix2 0 q) := by pointwise [k0_pay18]
/-- The value 18 that the body computes, at row 7. -/
theorem pay18_7 : k0_pay18 bm r0 r1 r2 r3 r4 r5 (ix2 7 q) = k0_pay17 bm r5 (ix2 0 q) := by pointwise [k0_pay18]

/-- The largest weight of each of eight blocks, divided by 448: the number whose exponent is searched for. -/
theorem x8_apply (bm rows : FVec Ideal S8x256 .f32) (b : Fin 8) : mulf (exp2 (mulf (subf bm rows) (vL S8x256))) (broadcast S8x256 (Scalar.ofBits .f32 0x3B124925#32)) (ix2 b q)
    = W (bm (ix2 b q)) (rows (ix2 b q)) * ((9586981 / 4294967296 : ℝ) : EReal) := by
  rw [← ob_r]; unfold W
  pointwise [vL, named_L]
  rfl

end Eight

section Diagonal

variable (i2 : BitVec 32) (v1 : FVec Ideal S256x128 .fp8e4m3) (v12 : FVec Ideal S1x256 .f32) (v55 : BitVec 32) (kb : Vec Ideal S1x256x128 .fp8e4m3) (ksb : Vec Ideal S1x1x2x128 .f32)
  (sm : FVec Ideal S256x256 .f32) (ksv : FVec Ideal S2x128 .f32) (m : Vec Ideal S1x256 .f32) (q : Fin 256)

/-- The value 239 that the body computes, at an index. -/
theorem pay239_apply (j : Fin 256) : k0_pay239 v1 kb (ix2 j q) = ∑ k : Fin 128, kb (ix3 0 j k) * v1 (ix2 q k) := by
  pointwise [k0_pay239]

/-- The value 240 that the body computes, at an index. -/
theorem pay240_apply (b : Fin 2) (l : Fin 128) : k0_pay240 ksb (ix2 b l) = ksb (ix4 0 0 b l) := by
  pointwise [k0_pay240]

/-- The value 242 that the body computes, at an index. -/
theorem pay242_apply (ks : Fin 2 → EReal) (hks : ∀ b l, ksv (ix2 b l) = ks b) (b : Fin 2) (j : Fin 128) :
    k0_pay242 i2 v12 v55 sm ksv (ix2 ⟨b.val * 128 + j.val, by omega⟩ q) = if (v55 + BitVec.ofNat 32 (b.val * 128 + j.val)).sle (i2 * 256#32 + BitVec.ofNat 32 q.val)
      then sm (ix2 ⟨b.val * 128 + j.val, by omega⟩ q) * (v12 (ix2 0 q) * ks b * (SM : EReal)) else ⊥ := by
  fin_cases b
  · pointwise [k0_pay242, hks, ob_SM, named_masked]
    simp only [dite_eq_ite, ite_self]
    exact select_sle _ _ _ _
  · pointwise [k0_pay242, hks, ob_SM, named_masked]
    simp only [dite_eq_ite, ite_self]
    exact select_sle _ _ _ _

/-- The value 243 that the body computes, at an index. -/
theorem pay243_apply (b : Fin 2) :
    k0_pay243 i2 v12 v55 sm ksv (ix2 b q) = Finset.univ.sup fun j : Fin 128 => k0_pay242 i2 v12 v55 sm ksv (ix2 ⟨b.val * 128 + j.val, by omega⟩ q) := by
  pointwise [k0_pay243]
  rw [ob_bot]; rfl

/-- The value 245 that the body computes, at an index. -/
theorem pay245_apply (j : Fin 256) : k0_pay245 i2 v12 v55 sm ksv (ix2 j q) = k0_pay242 i2 v12 v55 sm ksv (ix2 j q) := by
  pointwise [k0_pay245]

/-- The value 244 that the body computes, at an index. -/
theorem pay244_apply (b : Fin 2) : k0_pay266 (k0_pay244 : FVec Ideal S2x256 .f32) (ix2 b q) = (L : EReal) := by
  pointwise [k0_pay266, k0_pay244, named_L]

/-- The value 246 that the body computes, at an index. -/
theorem pay246_apply : k0_pay246 i2 v12 v55 sm ksv m (ix2 0 q) = max (m (ix2 0 q)) (k0_pay243 i2 v12 v55 sm ksv (ix2 0 q)) := by
  pointwise [k0_pay246]

/-- The value 247 that the body computes, at an index. -/
theorem pay247_apply : k0_pay247 i2 v12 v55 sm ksv m (ix2 0 q) = max (k0_pay246 i2 v12 v55 sm ksv m (ix2 0 q)) (k0_pay243 i2 v12 v55 sm ksv (ix2 1 q)) := by
  pointwise [k0_pay247]

/-- The value 248 that the body computes, at an index. -/
theorem pay248_apply0 : k0_pay248 i2 v12 v55 sm ksv m (ix2 0 q) = k0_pay246 i2 v12 v55 sm ksv m (ix2 0 q) := by
  pointwise [k0_pay248]

/-- The value 248 that the body computes, at an index. -/
theorem pay248_apply1 : k0_pay248 i2 v12 v55 sm ksv m (ix2 1 q) = k0_pay247 i2 v12 v55 sm ksv m (ix2 0 q) := by
  pointwise [k0_pay248]

/-- The value 249 that the body computes, at an index. -/
theorem pay249_apply (b : Fin 2) : mulf (k0_pay249 i2 v12 v55 sm ksv m) k0_pay250 (ix2 b q)
    = W (k0_pay243 i2 v12 v55 sm ksv (ix2 b q)) (k0_pay248 i2 v12 v55 sm ksv m (ix2 b q)) * ((9586981 / 4294967296 : ℝ) : EReal) := by
  rw [← ob_r]; unfold W
  pointwise [k0_pay249, k0_pay250, named_L]
  rfl

/-- The value 241 that the body computes, at an index. -/
theorem pay241_apply (vsb : Vec Ideal S1x1x2x128 .f32) (vs : Fin 2 → EReal) (hvs : ∀ b l, vsb (ix4 0 0 b l) = vs b) (b : Fin 2) :
    k0_pay241 vsb (ix2 b q) = vs b := by
  pointwise [k0_pay241, hvs]
  simp only [dite_eq_ite, ite_self]

end Diagonal

section Ends

/-- The value 226 that the body computes, at an index. -/
theorem pay226_apply (x : Vec Ideal S1x256x128 .fp8e4m3) (q : Fin 256) (k : Fin 128) : k0_pay226 x (ix2 q k) = x (ix3 0 q k) := by
  pointwise [k0_pay226]

/-- The value 227 that the body computes, at an index. -/
theorem pay227_apply (x y : Vec Ideal S1x1x1x128 .f32) (q : Fin 256) :
    k0_pay227 x y (ix2 0 q) = if h : q.val < 128 then x (ix4 0 0 0 ⟨q.val, h⟩) else y (ix4 0 0 0 ⟨q.val - 128, by omega⟩) := by
  pointwise [k0_pay227]

/-- The value 228 that the body computes, at an index. -/
theorem pay228_apply (d : Fin 128) (q : Fin 256) : (k0_pay228 : FVec Ideal S128x256 .f32) (ix2 d q) = 0 := by
  pointwise [k0_pay228]

/-- The value 229 that the body computes, at an index. -/
theorem pay229_apply (r : Fin 8) (q : Fin 256) : (k0_pay229 : FVec Ideal S8x256 .f32) (ix2 r q) = 0 := by
  pointwise [k0_pay229]

/-- The value 230 that the body computes, at an index. -/
theorem pay230_apply (q : Fin 256) : (k0_pay230 : FVec Ideal S1x256 .f32) (ix2 0 q) = ⊥ := by
  pointwise [k0_pay230, named_masked]

/-- The value 3 that the body computes, at an index. -/
theorem pay3_apply (l : FVec Ideal S8x256 .f32) (acc : FVec Ideal S128x256 .f32) (q : Fin 256) (d : Fin 128) :
    (k0_pay3 l acc : FVec Ideal S1x256x128 .bf16) (ix3 0 q d) = Ideal.div (acc (ix2 d q)) (∑ r : Fin 8, l (ix2 r q)) := by
  pointwise [k0_pay3]

end Ends

end Cert.KernelIdeal.Hand

end
-- ==== Proof.Reads.lean ====
module

public import proofs.«01_k».proof.Proof.SpecV
public import Idealize.ShloMosaic.Lib.Pointwise
public import Idealize.ShloMosaic.Lib.Pipeline.RowLoads

@[expose] public section

set_option maxRecDepth 16384

noncomputable section

namespace Cert.KernelIdeal.Hand

open Cert.KernelIdeal Cert.KernelIdeal.Gen
open Idealize.ShloMosaic Idealize.ShloMosaic.Tactic

variable {F : FTy → Type} [FloatOps F] [Named F]

/-- Rows read back from where a block of rows was stored from row 0 on. -/
theorem readCov_rows {Val : EltTy → Type} {e : EltTy} [∀ e, Nonempty (Val e)] {sig : RefSig} {κ : Kind} {sp : Space} {m n k k' : ℕ}
    (v : View sig κ sp (⟨2, ![m, n]⟩ : Shape) e)
    (x : (⟨2, ![k, n]⟩ : Shape).Idx → Val e) (o : ℕ) (inb) (inb') (j : Fin k') (q : Fin n) (h : o + j.val < k) :
    v.readCov [(⟨Rect.unit (s := (⟨2, ![m, n]⟩ : Shape)) ![0, 0] (⟨2, ![k, n]⟩ : Shape).size inb, x⟩ : View.Piece Val (⟨2, ![m, n]⟩ : Shape) e)]
      (Rect.unit (s := (⟨2, ![m, n]⟩ : Shape)) ![o, 0] (⟨2, ![k', n]⟩ : Shape).size inb').toLoadRect (ix2 j q) = x (ix2 ⟨o + j.val, h⟩ q) := by
  rw [View.readCov_eq_canon']
  have e1 : (Rect.unit (s := (⟨2, ![m, n]⟩ : Shape)) ![o, 0] (⟨2, ![k', n]⟩ : Shape).size inb').toLoadRect.idx (ix2 j q)
      = (Rect.unit (s := (⟨2, ![m, n]⟩ : Shape)) ![0, 0] (⟨2, ![k, n]⟩ : Shape).size inb).emb (ix2 ⟨o + j.val, h⟩ q) := by
    funext a
    apply Fin.ext
    fin_cases a
    · show o + 1 * j.val = 0 + 1 * (o + j.val)
      omega
    · show 0 + 1 * q.val = 0 + 1 * q.val
      rfl
  dsimp only
  rw [e1]
  exact View.canon_cons_emb (Rect.unit (s := (⟨2, ![m, n]⟩ : Shape)) ![0, 0] (⟨2, ![k, n]⟩ : Shape).size inb) x [] (ix2 ⟨o + j.val, h⟩ q)

variable (a : Memref sig .tc .vmem S1024x256 .f32) (a8 : Memref sig .tc .vmem S8x256 .f32) (ac : Memref sig .tc .vmem S1024x256 .fp8e4m3)

/-- A read of stored rows, at an index. -/
theorem rdS2_apply (x : FVec F S256x256 .f32) (b : Fin 8) (hb : b.val < 2) (j : Fin 128) (q : Fin 256) :
    rdS2 a x b (ix2 j q) = x (ix2 ⟨128 * b.val + j.val, by omega⟩ q) :=
  readCov_rows (Val := Elt F) a.view x _ _ _ j q _

/-- A read of stored rows, at an index. -/
theorem rdS8_apply (x : FVec F S1024x256 .f32) (b : Fin 8) (j : Fin 128) (q : Fin 256) :
    rdS8 a x b (ix2 j q) = x (ix2 ⟨128 * b.val + j.val, by omega⟩ q) :=
  readCov_rows (Val := Elt F) a.view x _ _ _ j q _

/-- A read of stored rows, at an index. -/
theorem rdR2_apply (x : FVec F S2x256 .f32) (b : Fin 8) (hb : b.val < 2) (q : Fin 256) :
    rdR2 a8 x b (ix2 0 q) = x (ix2 ⟨b.val, hb⟩ q) :=
  readCov_rows (Val := Elt F) a8.view x _ _ _ (0 : Fin 1) q _

/-- A read of stored rows, at an index. -/
theorem rdR8_apply (x : FVec F S8x256 .f32) (b : Fin 8) (q : Fin 256) :
    rdR8 a8 x b (ix2 0 q) = x (ix2 b q) :=
  readCov_rows (Val := Elt F) a8.view x _ _ _ (0 : Fin 1) q _

/-- A read passes over a store to other rows. -/
theorem readCov_skip' (p : FVec F S128x256 .fp8e4m3) (b b' : Fin 8) (h : b.val ≠ b'.val) (L : List (View.Piece (Elt F) S1024x256 .fp8e4m3)) :
    ac.view.readCov (Val := Elt F) (⟨Rect.unit (s := S1024x256) ![128 * b.val, 0] S128x256.size (inb128 b), p⟩ :: L) (Rect.unit (s := S1024x256) ![128 * b'.val, 0] S128x256.size (inb128 b')).toLoadRect
      = ac.view.readCov (Val := Elt F) L (Rect.unit (s := S1024x256) ![128 * b'.val, 0] S128x256.size (inb128 b')).toLoadRect :=
  View.readCov_cons_of_rows_disjoint (Val := Elt F) ac.view (128 * b.val) (128 * b'.val) (by omega) p L _ _

/-- A read of the rows just stored gives what was stored. -/
theorem readCov_hit' (p : FVec F S128x256 .fp8e4m3) (b : Fin 8) (L : List (View.Piece (Elt F) S1024x256 .fp8e4m3)) :
    ac.view.readCov (Val := Elt F) (⟨Rect.unit (s := S1024x256) ![128 * b.val, 0] S128x256.size (inb128 b), p⟩ :: L) (Rect.unit (s := S1024x256) ![128 * b.val, 0] S128x256.size (inb128 b)).toLoadRect = p :=
  View.readCov_cons_toLoadRect (Val := Elt F) ac.view (Rect.unit (s := S1024x256) ![128 * b.val, 0] S128x256.size (inb128 b)) p L

variable (p : Fin 8 → FVec F S128x256 .fp8e4m3)

/-- A read of stored rows, at an index. -/
theorem rdC2_0 : rdC2 ac p 0 = p 0 := (readCov_skip' ac (p 1) 1 0 (by decide) _).trans (readCov_hit' ac (p 0) 0 _)
/-- A read of stored rows, at an index. -/
theorem rdC2_1 : rdC2 ac p 1 = p 1 := readCov_hit' ac (p 1) 1 _
/-- A read of stored rows, at an index. -/
theorem rdC8_7 : rdC8 ac p 7 = p 7 := readCov_hit' ac (p 7) 7 _
/-- A read of stored rows, at an index. -/
theorem rdC8_6 : rdC8 ac p 6 = p 6 := (readCov_skip' ac (p 7) 7 6 (by decide) _).trans (readCov_hit' ac (p 6) 6 _)
/-- A read of stored rows, at an index. -/
theorem rdC8_5 : rdC8 ac p 5 = p 5 := (readCov_skip' ac (p 7) 7 5 (by decide) _).trans ((readCov_skip' ac (p 6) 6 5 (by decide) _).trans (readCov_hit' ac (p 5) 5 _))
/-- A read of stored rows, at an index. -/
theorem rdC8_4 : rdC8 ac p 4 = p 4 := (readCov_skip' ac (p 7) 7 4 (by decide) _).trans ((readCov_skip' ac (p 6) 6 4 (by decide) _).trans
  ((readCov_skip' ac (p 5) 5 4 (by decide) _).trans (readCov_hit' ac (p 4) 4 _)))
/-- A read of stored rows, at an index. -/
theorem rdC8_3 : rdC8 ac p 3 = p 3 := (readCov_skip' ac (p 7) 7 3 (by decide) _).trans ((readCov_skip' ac (p 6) 6 3 (by decide) _).trans
  ((readCov_skip' ac (p 5) 5 3 (by decide) _).trans ((readCov_skip' ac (p 4) 4 3 (by decide) _).trans (readCov_hit' ac (p 3) 3 _))))
/-- A read of stored rows, at an index. -/
theorem rdC8_2 : rdC8 ac p 2 = p 2 := (readCov_skip' ac (p 7) 7 2 (by decide) _).trans ((readCov_skip' ac (p 6) 6 2 (by decide) _).trans
  ((readCov_skip' ac (p 5) 5 2 (by decide) _).trans ((readCov_skip' ac (p 4) 4 2 (by decide) _).trans
  ((readCov_skip' ac (p 3) 3 2 (by decide) _).trans (readCov_hit' ac (p 2) 2 _)))))
/-- A read of stored rows, at an index. -/
theorem rdC8_1 : rdC8 ac p 1 = p 1 := (readCov_skip' ac (p 7) 7 1 (by decide) _).trans ((readCov_skip' ac (p 6) 6 1 (by decide) _).trans
  ((readCov_skip' ac (p 5) 5 1 (by decide) _).trans ((readCov_skip' ac (p 4) 4 1 (by decide) _).trans
  ((readCov_skip' ac (p 3) 3 1 (by decide) _).trans ((readCov_skip' ac (p 2) 2 1 (by decide) _).trans (readCov_hit' ac (p 1) 1 _))))))
/-- A read of stored rows, at an index. -/
theorem rdC8_0 : rdC8 ac p 0 = p 0 := (readCov_skip' ac (p 7) 7 0 (by decide) _).trans ((readCov_skip' ac (p 6) 6 0 (by decide) _).trans
  ((readCov_skip' ac (p 5) 5 0 (by decide) _).trans ((readCov_skip' ac (p 4) 4 0 (by decide) _).trans
  ((readCov_skip' ac (p 3) 3 0 (by decide) _).trans ((readCov_skip' ac (p 2) 2 0 (by decide) _).trans
  ((readCov_skip' ac (p 1) 1 0 (by decide) _).trans (readCov_hit' ac (p 0) 0 _)))))))

end Cert.KernelIdeal.Hand

end
-- ==== Proof.Chunk.lean ====
module

public import proofs.«01_k».proof.Proof.Pays
public import proofs.«01_k».proof.Proof.Reads

@[expose] public section

set_option maxRecDepth 16384

noncomputable section

namespace Cert.KernelIdeal.Hand

open Cert.KernelIdeal Cert.KernelIdeal.Gen Cert.Attn
open Idealize.ShloMosaic Idealize.ShloMosaic.Tactic

/-- The largest of a family times a positive number. -/
theorem sup_mul_coe {ι : Type*} (s : Finset ι) (f : ι → EReal) (c : ℝ) (hc : 0 < c) :
    (s.sup f) * (c : EReal) = s.sup fun i => f i * (c : EReal) := by
  classical
  induction s using Finset.induction_on with
  | empty => simp [EReal.bot_mul_coe_of_pos hc]
  | insert a s ha ih => rw [Finset.sup_insert, Finset.sup_insert, ← ih]; exact max_mul_coe _ _ c hc

/-- The largest score over one more block. -/
theorem sup_step (sc : ℕ → EReal) (n : ℕ) :
    (Finset.range (128 * (n + 1))).sup sc = max ((Finset.range (128 * n)).sup sc) (Finset.univ.sup fun j : Fin 128 => sc (128 * n + j.val)) := by
  apply le_antisymm
  · apply Finset.sup_le
    intro k hk
    have hk := Finset.mem_range.1 hk
    by_cases h : k < 128 * n
    · exact le_max_of_le_left (Finset.le_sup (f := sc) (Finset.mem_range.2 h))
    · apply le_max_of_le_right
      have := Finset.le_sup (f := fun j : Fin 128 => sc (128 * n + j.val)) (Finset.mem_univ ⟨k - 128 * n, by omega⟩)
      have e : 128 * n + (k - 128 * n) = k := by omega
      dsimp only at this
      rwa [e] at this
  · apply max_le
    · exact Finset.sup_mono (Finset.range_subset_range.2 (by omega))
    · apply Finset.sup_le
      intro j _
      exact Finset.le_sup (f := sc) (Finset.mem_range.2 (by omega))

/-- One block at a query, from its running maxima. -/
theorem blockOK_mk (n : ℕ) (h : S1x256.Broadcasts ⟨2, ![n, 256]⟩) (last : FVec Ideal S1x256 .f32) (rows x : FVec Ideal ⟨2, ![n, 256]⟩ .f32)
    (b : Fin n) (q : Fin 256) (sc : Fin 128 → EReal) (vs : ℝ) (hvs : 0 ≤ vs) (bm : EReal) (hbm : bm = Finset.univ.sup sc) (hb : bm ≤ rows (ix2 b q))
    (hl : rows (ix2 b q) ≤ last (ix2 0 q))
    (hx : x (ix2 b q) = W bm (rows (ix2 b q)) * ((9586981 / 4294967296 : ℝ) : EReal))
    (S : Fin 128 → EReal) (C O D Wt : EReal) (hO : O = vOff _ rows (vSrch _ x) (ix2 b q)) (hD : D = vDecay _ h last rows (vSrch _ x) (ix2 b q))
    (hW : Wt = vDecay _ h last rows (vSrch _ x) (ix2 b q) * (vs : EReal))
    (hexp : ∀ j (e : ℤ) (m : EReal), sc j ≤ m → Ideal.exp2 (S j * C - (m * (L : EReal) + ((e : ℝ) : EReal))) = W (sc j) m * (((2 : ℝ) ^ (-e) : ℝ) : EReal)) :
    BlockOK S C O D Wt sc (rows (ix2 b q)) (last (ix2 0 q)) vs := by
  have hj : ∀ j, sc j ≤ bm := fun j => by rw [hbm]; exact Finset.le_sup (f := sc) (Finset.mem_univ j)
  obtain ⟨e, e1, e2, e3⟩ := exp_spec n h last rows x b q bm hb hx
  refine ⟨hvs, hl, fun j => (hj j).trans hb, e, bm, hj, hb, e1, fun j => ?_, by rw [hD, e3], by rw [hW, hD]⟩
  rw [hO, e2]
  exact hexp j e _ ((hj j).trans hb)

/-- The kept sums and maximum after `n` blocks of keys, at a query. -/
def St (sc : ℕ → EReal) (vh : Fin 128 → ℕ → EReal) (n : ℕ) (acc : FVec Ideal S128x256 .f32) (l : FVec Ideal S8x256 .f32) (m : FVec Ideal S1x256 .f32)
    (q : Fin 256) : Prop :=
  m (ix2 0 q) = (Finset.range (128 * n)).sup sc ∧ PL sc n (m (ix2 0 q)) l q ∧ PA sc vh n (m (ix2 0 q)) acc q

/-- No score read so far exceeds the kept maximum. -/
theorem St_le {sc : ℕ → EReal} {vh : Fin 128 → ℕ → EReal} {n : ℕ} {acc : FVec Ideal S128x256 .f32} {l : FVec Ideal S8x256 .f32} {m : FVec Ideal S1x256 .f32}
    {q : Fin 256} (h : St sc vh n acc l m q) : ∀ k < 128 * n, sc k ≤ m (ix2 0 q) := fun k hk => by
  rw [h.1]; exact Finset.le_sup (f := sc) (Finset.mem_range.2 hk)

section Trips

variable (arg13 : Memref sig .tc .vmem S1024x256 .f32) (arg14 : Memref sig .tc .vmem S1024x256 .fp8e4m3)
  (arg15 arg16 arg17 arg18 : Memref sig .tc .vmem S8x256 .f32)

/-- A trip over two blocks keeps the sums and the maximum. -/
theorem T3_step {sc : ℕ → EReal} {vh : Fin 128 → ℕ → EReal} {n : ℕ}
    (v1 : FVec Ideal S256x128 .fp8e4m3) (v12 : FVec Ideal S1x256 .f32) (kb : Vec Ideal S1x256x128 .fp8e4m3) (ksb vsb : Vec Ideal S1x1x2x128 .f32)
    (vt : Fin 8 → Vec Ideal S1x1x128x128 .fp8e4m3) (acc : Vec Ideal S128x256 .f32) (l : Vec Ideal S8x256 .f32) (m : Vec Ideal S1x256 .f32) (q : Fin 256)
    (hst : St sc vh n acc l m q) (qs : ℝ) (hqs : 0 < qs) (hq : v12 (ix2 0 q) = (qs : EReal))
    (ks vs : Fin 2 → ℝ) (hks0 : ∀ b, 0 < ks b) (hvs0 : ∀ b, 0 < vs b) (hks : ∀ b l, ksb (ix4 0 0 b l) = (ks b : EReal)) (hvs : ∀ b l, vsb (ix4 0 0 b l) = (vs b : EReal))
    (hsc : ∀ (b : Fin 2) (j : Fin 128), sc (128 * (n + b.val) + j.val)
      = (∑ k : Fin 128, kb (ix3 0 ⟨b.val * 128 + j.val, by omega⟩ k) * v1 (ix2 q k)) * ((qs * ks b * SM : ℝ) : EReal))
    (hvh : ∀ (b : Fin 8) (hb : b.val < 2) (d j : Fin 128), vh d (128 * (n + b.val) + j.val) = vt b (ix4 0 0 d j) * (vs ⟨b.val, hb⟩ : EReal)) :
    St sc vh (n + 2) (T3 arg13 arg14 arg15 arg16 arg17 arg18 v1 v12 kb ksb vsb vt acc l m).1
      (T3 arg13 arg14 arg15 arg16 arg17 arg18 v1 v12 kb ksb vsb vt acc l m).2.1 (T3 arg13 arg14 arg15 arg16 arg17 arg18 v1 v12 kb ksb vsb vt acc l m).2.2 q := by
  have hc0 : ∀ b, 0 < qs * ks b * SM := fun b => mul_pos (mul_pos hqs (hks0 b)) SM_pos
  have hc : ∀ b : Fin 2, k0_pay138 v12 ksb (ix2 b q) = ((qs * ks b * SM : ℝ) : EReal) := fun b => by
    rw [pay138_apply v12 ksb q (fun b => (ks b : EReal)) hks b, hq, EReal.coe_mul, EReal.coe_mul]
  have hbm : ∀ b : Fin 2, k0_pay139 v1 v12 kb ksb (ix2 b q) = Finset.univ.sup fun j : Fin 128 => sc (128 * (n + b.val) + j.val) := fun b => by
    rw [pay139_apply, hc, sup_mul_coe _ _ _ (hc0 b)]
    exact congrArg _ (funext fun j => (hsc b j).symm)
  have hr0 := pay142_apply v1 v12 kb ksb m q
  have hr1 := pay143_apply v1 v12 kb ksb m q
  have hm2 : k0_pay143 v1 v12 kb ksb m (ix2 0 q) = (Finset.range (128 * (n + 2))).sup sc := by
    rw [hr1, hr0, hbm 0, hbm 1, hst.1, sup_step sc (n + 1), sup_step sc n]
    rfl
  have hml : m (ix2 0 q) ≤ k0_pay143 v1 v12 kb ksb m (ix2 0 q) := by rw [hr1, hr0]; exact le_max_of_le_left (le_max_left _ _)
  have hB : ∀ (b : Fin 8) (hb : b.val < 2), BlockOK (fun j => rdS2 arg13 (k0_pay141 v1 kb) b (ix2 j q)) (rdR2 arg15 (k0_pay165 (k0_pay140 v12 ksb)) b (ix2 0 q))
      (rdR2 arg16 (shapeCast S2x256 (vOff S2x256 (k0_pay144 v1 v12 kb ksb m) (vSrch S2x256 (mulf (k0_pay145 v1 v12 kb ksb m) k0_pay146))) shapeCasts_S2x256_S2x256) b (ix2 0 q))
      (rdR2 arg18 (k0_pay169 (vDecay S2x256 broadcasts_S1x256_S2x256 (k0_pay143 v1 v12 kb ksb m) (k0_pay144 v1 v12 kb ksb m) (vSrch S2x256 (mulf (k0_pay145 v1 v12 kb ksb m) k0_pay146)))) b (ix2 0 q))
      (rdR2 arg17 (k0_pay168 (mulf (vDecay S2x256 broadcasts_S1x256_S2x256 (k0_pay143 v1 v12 kb ksb m) (k0_pay144 v1 v12 kb ksb m) (vSrch S2x256 (mulf (k0_pay145 v1 v12 kb ksb m) k0_pay146))) (k0_pay137 vsb))) b (ix2 0 q))
      (fun j => sc (128 * (n + b.val) + j.val)) (k0_pay144 v1 v12 kb ksb m (ix2 ⟨b.val, hb⟩ q)) (k0_pay143 v1 v12 kb ksb m (ix2 0 q)) (vs ⟨b.val, hb⟩) := by
    intro b hb
    refine blockOK_mk 2 broadcasts_S1x256_S2x256 _ _ _ ⟨b.val, hb⟩ q _ _ (hvs0 _).le _ (hbm ⟨b.val, hb⟩) ?_ ?_ (pay145_apply v1 v12 kb ksb m q ⟨b.val, hb⟩) _ _ _ _ _ ?_ ?_ ?_ ?_
    · obtain h | h : b.val = 0 ∨ b.val = 1 := by omega
      · have : (⟨b.val, hb⟩ : Fin 2) = 0 := Fin.ext h
        rw [this, pay144_apply0, hr0]; exact le_max_right _ _
      · have : (⟨b.val, hb⟩ : Fin 2) = 1 := Fin.ext h
        rw [this, pay144_apply1, hr1]; exact le_max_right _ _
    · obtain h | h : b.val = 0 ∨ b.val = 1 := by omega
      · have : (⟨b.val, hb⟩ : Fin 2) = 0 := Fin.ext h
        rw [this, pay144_apply0, hr1]; exact le_max_left _ _
      · have : (⟨b.val, hb⟩ : Fin 2) = 1 := Fin.ext h
        rw [this, pay144_apply1]
    · rw [rdR2_apply arg16 _ b hb, shapeCast_self]
    · rw [rdR2_apply arg18 _ b hb, k0_pay169, shapeCast_self]
    · rw [rdR2_apply arg17 _ b hb, k0_pay168, shapeCast_self, ← pay137_apply q vsb (fun b => (vs b : EReal)) hvs ⟨b.val, hb⟩]
      rfl
    · intro j e m' hj
      dsimp only at hj ⊢
      have e5 : (⟨128 * b.val + j.val, by omega⟩ : Fin 256) = ⟨b.val * 128 + j.val, by omega⟩ := Fin.ext (by simp only; ring)
      rw [rdS2_apply arg13 _ b hb, rdR2_apply arg15 _ b hb, e5, pay141_apply, pay140_apply, hc]
      rw [hsc ⟨b.val, hb⟩ j] at hj ⊢
      rw [← EReal.coe_mul, ← offset_scaled _ _ (hc0 _) m' e hj]
  have hlast : (T3 arg13 arg14 arg15 arg16 arg17 arg18 v1 v12 kb ksb vsb vt acc l m).2.2 = k0_pay143 v1 v12 kb ksb m := by
    show k0_pay171 (k0_pay143 v1 v12 kb ksb m) = _
    rw [k0_pay171, shapeCast_self]
  refine ⟨by rw [hlast]; exact hm2, ?_, ?_⟩
  · rw [hlast]
    show PL sc (n + 1 + 1) _ (ls2 _ _ _ _ _) q
    rw [ls2, shapeCast_self]
    exact PL_block (PL_block (PL_alpha hst.2.1 hml (St_le hst)) (hB 0 (by decide))) (hB 1 (by decide))
  · rw [hlast]
    show PA sc vh (n + 1 + 1) _ (acc2 _ _ _ _ _ _ _) q
    rw [acc2, shapeCast_self]
    exact PA_block (PA_block (PA_alpha hst.2.2 hml (St_le hst)) (rdC2_0 arg14 _) (hB 0 (by decide)) (hvh 0 (by decide))) (rdC2_1 arg14 _) (hB 1 (by decide)) (hvh 1 (by decide))

end Trips

end Cert.KernelIdeal.Hand

end
-- ==== Proof.ChunkD.lean ====
module

public import proofs.«01_k».proof.Proof.Chunk

@[expose] public section

set_option maxRecDepth 16384

noncomputable section

namespace Cert.KernelIdeal.Hand

open Cert.KernelIdeal Cert.KernelIdeal.Gen Cert.Attn
open Idealize.ShloMosaic Idealize.ShloMosaic.Tactic

section Trips

variable (arg13 : Memref sig .tc .vmem S1024x256 .f32) (arg14 : Memref sig .tc .vmem S1024x256 .fp8e4m3)
  (arg15 arg16 arg17 arg18 : Memref sig .tc .vmem S8x256 .f32)

/-- The blocks on the diagonal keep the sums and the maximum. -/
theorem TD_step {sc : ℕ → EReal} {vh : Fin 128 → ℕ → EReal} {n : ℕ}
    (i2 : BitVec 32) (v1 : FVec Ideal S256x128 .fp8e4m3) (v12 : FVec Ideal S1x256 .f32) (v55 : BitVec 32) (kb : Vec Ideal S1x256x128 .fp8e4m3) (ksb vsb : Vec Ideal S1x1x2x128 .f32)
    (vt : Fin 8 → Vec Ideal S1x1x128x128 .fp8e4m3) (acc : Vec Ideal S128x256 .f32) (l : Vec Ideal S8x256 .f32) (m : Vec Ideal S1x256 .f32) (q : Fin 256)
    (hst : St sc vh n acc l m q) (qs : ℝ) (hqs : 0 < qs) (hq : v12 (ix2 0 q) = (qs : EReal))
    (ks vs : Fin 2 → ℝ) (hks0 : ∀ b, 0 < ks b) (hvs0 : ∀ b, 0 < vs b) (hks : ∀ b l, ksb (ix4 0 0 b l) = (ks b : EReal)) (hvs : ∀ b l, vsb (ix4 0 0 b l) = (vs b : EReal))
    (hsc : ∀ (b : Fin 2) (j : Fin 128), sc (128 * (n + b.val) + j.val)
      = if (v55 + BitVec.ofNat 32 (b.val * 128 + j.val)).sle (i2 * 256#32 + BitVec.ofNat 32 q.val) then
        (∑ k : Fin 128, kb (ix3 0 ⟨b.val * 128 + j.val, by omega⟩ k) * v1 (ix2 q k)) * ((qs * ks b * SM : ℝ) : EReal) else ⊥)
    (hvh : ∀ (b : Fin 8) (hb : b.val < 2) (d j : Fin 128), vh d (128 * (n + b.val) + j.val) = vt b (ix4 0 0 d j) * (vs ⟨b.val, hb⟩ : EReal)) :
    St sc vh (n + 2) (TD arg13 arg14 arg15 arg16 arg17 arg18 i2 v1 v12 v55 kb ksb vsb vt acc l m).1
      (TD arg13 arg14 arg15 arg16 arg17 arg18 i2 v1 v12 v55 kb ksb vsb vt acc l m).2.1 (TD arg13 arg14 arg15 arg16 arg17 arg18 i2 v1 v12 v55 kb ksb vsb vt acc l m).2.2 q := by
  have hS : ∀ (b : Fin 2) (j : Fin 128), k0_pay242 i2 v12 v55 (k0_pay239 v1 kb) (k0_pay240 ksb) (ix2 ⟨b.val * 128 + j.val, by omega⟩ q) = sc (128 * (n + b.val) + j.val) := fun b j => by
    rw [hsc, pay242_apply i2 v12 v55 _ _ q (fun b => (ks b : EReal)) (fun b l => by rw [pay240_apply]; exact hks b l) b j, pay239_apply, hq, EReal.coe_mul, EReal.coe_mul]
  have hbm : ∀ b : Fin 2, k0_pay243 i2 v12 v55 (k0_pay239 v1 kb) (k0_pay240 ksb) (ix2 b q) = Finset.univ.sup fun j : Fin 128 => sc (128 * (n + b.val) + j.val) := fun b => by
    rw [pay243_apply]
    exact congrArg _ (funext fun j => hS b j)
  have hr0 := pay246_apply i2 v12 v55 (k0_pay239 v1 kb) (k0_pay240 ksb) m q
  have hr1 := pay247_apply i2 v12 v55 (k0_pay239 v1 kb) (k0_pay240 ksb) m q
  have hm2 : k0_pay247 i2 v12 v55 (k0_pay239 v1 kb) (k0_pay240 ksb) m (ix2 0 q) = (Finset.range (128 * (n + 2))).sup sc := by
    rw [hr1, hr0, hbm 0, hbm 1, hst.1, sup_step sc (n + 1), sup_step sc n]
    rfl
  have hml : m (ix2 0 q) ≤ k0_pay247 i2 v12 v55 (k0_pay239 v1 kb) (k0_pay240 ksb) m (ix2 0 q) := by rw [hr1, hr0]; exact le_max_of_le_left (le_max_left _ _)
  have hB : ∀ (b : Fin 8) (hb : b.val < 2), BlockOK (fun j => rdS2 arg13 (k0_pay245 i2 v12 v55 (k0_pay239 v1 kb) (k0_pay240 ksb)) b (ix2 j q)) (rdR2 arg15 (k0_pay266 (k0_pay244 : FVec Ideal S2x256 .f32)) b (ix2 0 q))
      (rdR2 arg16 (shapeCast S2x256 (vOff S2x256 (k0_pay248 i2 v12 v55 (k0_pay239 v1 kb) (k0_pay240 ksb) m) (vSrch S2x256 (mulf (k0_pay249 i2 v12 v55 (k0_pay239 v1 kb) (k0_pay240 ksb) m) k0_pay250))) shapeCasts_S2x256_S2x256) b (ix2 0 q))
      (rdR2 arg18 (k0_pay269 (vDecay S2x256 broadcasts_S1x256_S2x256 (k0_pay247 i2 v12 v55 (k0_pay239 v1 kb) (k0_pay240 ksb) m) (k0_pay248 i2 v12 v55 (k0_pay239 v1 kb) (k0_pay240 ksb) m) (vSrch S2x256 (mulf (k0_pay249 i2 v12 v55 (k0_pay239 v1 kb) (k0_pay240 ksb) m) k0_pay250)))) b (ix2 0 q))
      (rdR2 arg17 (shapeCast S2x256 (mulf (vDecay S2x256 broadcasts_S1x256_S2x256 (k0_pay247 i2 v12 v55 (k0_pay239 v1 kb) (k0_pay240 ksb) m) (k0_pay248 i2 v12 v55 (k0_pay239 v1 kb) (k0_pay240 ksb) m) (vSrch S2x256 (mulf (k0_pay249 i2 v12 v55 (k0_pay239 v1 kb) (k0_pay240 ksb) m) k0_pay250))) (k0_pay241 vsb)) shapeCasts_S2x256_S2x256) b (ix2 0 q))
      (fun j => sc (128 * (n + b.val) + j.val)) (k0_pay248 i2 v12 v55 (k0_pay239 v1 kb) (k0_pay240 ksb) m (ix2 ⟨b.val, hb⟩ q)) (k0_pay247 i2 v12 v55 (k0_pay239 v1 kb) (k0_pay240 ksb) m (ix2 0 q)) (vs ⟨b.val, hb⟩) := by
    intro b hb
    refine blockOK_mk 2 broadcasts_S1x256_S2x256 _ _ _ ⟨b.val, hb⟩ q _ _ (hvs0 _).le _ (hbm ⟨b.val, hb⟩) ?_ ?_ (pay249_apply i2 v12 v55 (k0_pay239 v1 kb) (k0_pay240 ksb) m q ⟨b.val, hb⟩) _ _ _ _ _ ?_ ?_ ?_ ?_
    · obtain h | h : b.val = 0 ∨ b.val = 1 := by omega
      · have : (⟨b.val, hb⟩ : Fin 2) = 0 := Fin.ext h
        rw [this, pay248_apply0, hr0]; exact le_max_right _ _
      · have : (⟨b.val, hb⟩ : Fin 2) = 1 := Fin.ext h
        rw [this, pay248_apply1, hr1]; exact le_max_right _ _
    · obtain h | h : b.val = 0 ∨ b.val = 1 := by omega
      · have : (⟨b.val, hb⟩ : Fin 2) = 0 := Fin.ext h
        rw [this, pay248_apply0, hr1]; exact le_max_left _ _
      · have : (⟨b.val, hb⟩ : Fin 2) = 1 := Fin.ext h
        rw [this, pay248_apply1]
    · rw [rdR2_apply arg16 _ b hb, shapeCast_self]
    · rw [rdR2_apply arg18 _ b hb, k0_pay269, shapeCast_self]
    · rw [rdR2_apply arg17 _ b hb, shapeCast_self, ← pay241_apply q vsb (fun b => (vs b : EReal)) hvs ⟨b.val, hb⟩]
      rfl
    · intro j e m' hj
      dsimp only at hj ⊢
      have e5 : (⟨128 * b.val + j.val, by omega⟩ : Fin 256) = ⟨b.val * 128 + j.val, by omega⟩ := Fin.ext (by simp only; ring)
      rw [rdS2_apply arg13 _ b hb, rdR2_apply arg15 _ b hb, e5, pay245_apply, pay244_apply, hS ⟨b.val, hb⟩ j]
      exact offset_plain _ _ _ hj
  have hlast : (TD arg13 arg14 arg15 arg16 arg17 arg18 i2 v1 v12 v55 kb ksb vsb vt acc l m).2.2 = k0_pay247 i2 v12 v55 (k0_pay239 v1 kb) (k0_pay240 ksb) m := by
    show k0_pay271 (k0_pay247 i2 v12 v55 (k0_pay239 v1 kb) (k0_pay240 ksb) m) = _
    rw [k0_pay271, shapeCast_self]
  refine ⟨by rw [hlast]; exact hm2, ?_, ?_⟩
  · rw [hlast]
    show PL sc (n + 1 + 1) _ (ls2 _ _ _ _ _) q
    rw [ls2, shapeCast_self]
    exact PL_block (PL_block (PL_alpha hst.2.1 hml (St_le hst)) (hB 0 (by decide))) (hB 1 (by decide))
  · rw [hlast]
    show PA sc vh (n + 1 + 1) _ (acc2 _ _ _ _ _ _ _) q
    rw [acc2, shapeCast_self]
    exact PA_block (PA_block (PA_alpha hst.2.2 hml (St_le hst)) (rdC2_0 arg14 _) (hB 0 (by decide)) (hvh 0 (by decide))) (rdC2_1 arg14 _) (hB 1 (by decide)) (hvh 1 (by decide))

end Trips

end Cert.KernelIdeal.Hand

end
-- ==== Proof.T1Eq.lean ====
module

public import proofs.«01_k».proof.Defs
public import proofs.«01_k».proof.Proof.Gen.KernelIdeal.Frame
public import proofs.«01_k».proof.Proof.Gen.KernelIdeal.Skeleton
public import proofs.«01_k».proof.Proof.SpecV
public import proofs.«01_k».proof.Proof.Trip1
public import Idealize.ShloMosaic.Lib.LoopRemainder
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

section Trip

variable (c : Dev nD) (i : grid0.Coords) (arg3 : Memref sig .tc .vmem S1x256x128 .fp8e4m3) (harg3 : arg3.IsWhole) (arg4 : Memref sig .tc .vmem S1x32768x128 .fp8e4m3) (harg4 : arg4.IsWhole) (arg5 : Memref sig .tc .vmem S1x1x128x32768 .fp8e4m3) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S1x1x256x128 .f32) (harg8 : arg8.IsWhole) (arg9 : Memref sig .tc .vmem S1x256x128 .bf16) (harg9 : arg9.IsWhole) (arg10 : Memref sig .tc .vmem S128x256 .f32) (harg10 : arg10.IsWhole) (arg11 : Memref sig .tc .vmem S8x256 .f32) (harg11 : arg11.IsWhole) (arg12 : Memref sig .tc .vmem S1x256 .f32) (harg12 : arg12.IsWhole) (arg13 : Memref sig .tc .vmem S1024x256 .f32) (harg13 : arg13.IsWhole) (arg14 : Memref sig .tc .vmem S1024x256 .fp8e4m3) (harg14 : arg14.IsWhole) (arg15 : Memref sig .tc .vmem S8x256 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole)
variable (arg2 : BitVec 32) (v1 : FVec F S256x128 .fp8e4m3) (v12 : FVec F S1x256 .f32) (v25 : BitVec 32) (c8_i32 : BitVec 32) (v26 : BitVec 32) (v28 : BitVec 32)

/-- The trip over eight key blocks, as the plain vector computation. -/
theorem trip1_eq (k : Fin (k0_t1_loop i).trips)
    (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ)))
    (f10 : Buf (Elt F) (arg10.view.loc (c : Thread nD τ))) (f11 : Buf (Elt F) (arg11.view.loc (c : Thread nD τ))) (f12 : Buf (Elt F) (arg12.view.loc (c : Thread nD τ))) :
    (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 k f4 f5 f7 f8 f10 f11 f12).1
      = T1 arg13 arg14 arg15 arg16 arg17 arg18 v1 v12 (View.readAt (Elt F) arg4.view (Rect.unit (s := S1x32768x128) (k0_off2 i k) S1x1024x128.size (k0_off2_inb i k)).toLoadRect f4)
          (View.readAt (Elt F) arg7.view (Rect.unit (s := S1x1x256x128) (k0_off3 i k) S1x1x8x128.size (k0_off3_inb i k)).toLoadRect f7)
          (View.readAt (Elt F) arg8.view (Rect.unit (s := S1x1x256x128) (k0_off3 i k) S1x1x8x128.size (k0_off3_inb i k)).toLoadRect f8)
          (fun b => View.readAt (Elt F) arg5.view (Rect.unit (s := S1x1x128x32768) (k0_off4 i k (BitVec.ofNat 32 (128 * b.val))) S1x1x128x128.size (k0_off4_inb i k b)).toLoadRect f5)
          (View.readAt (Elt F) arg10.view (Rect.unit (s := S128x256) ![0, 0] S128x256.size inb_S128x256_S128x256_0_0).toLoadRect f10)
          (View.readAt (Elt F) arg11.view (Rect.unit (s := S8x256) ![0, 0] S8x256.size inb_S8x256_S8x256_0_0).toLoadRect f11)
          (View.readAt (Elt F) arg12.view (Rect.unit (s := S1x256) ![0, 0] S1x256.size inb_S1x256_S1x256_0_0).toLoadRect f12) := by
  unfold trip1
  rfl

end Trip

end Cert.KernelIdeal.Hand

end
-- ==== Proof.T3Eq.lean ====
module

public import proofs.«01_k».proof.Defs
public import proofs.«01_k».proof.Proof.Gen.KernelIdeal.Frame
public import proofs.«01_k».proof.Proof.Gen.KernelIdeal.Skeleton
public import proofs.«01_k».proof.Proof.SpecV
public import proofs.«01_k».proof.Proof.Trip3
public import Idealize.ShloMosaic.Lib.LoopRemainder
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

section Trip

variable (c : Dev nD) (i : grid0.Coords) (arg3 : Memref sig .tc .vmem S1x256x128 .fp8e4m3) (harg3 : arg3.IsWhole) (arg4 : Memref sig .tc .vmem S1x32768x128 .fp8e4m3) (harg4 : arg4.IsWhole) (arg5 : Memref sig .tc .vmem S1x1x128x32768 .fp8e4m3) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S1x1x256x128 .f32) (harg8 : arg8.IsWhole) (arg9 : Memref sig .tc .vmem S1x256x128 .bf16) (harg9 : arg9.IsWhole) (arg10 : Memref sig .tc .vmem S128x256 .f32) (harg10 : arg10.IsWhole) (arg11 : Memref sig .tc .vmem S8x256 .f32) (harg11 : arg11.IsWhole) (arg12 : Memref sig .tc .vmem S1x256 .f32) (harg12 : arg12.IsWhole) (arg13 : Memref sig .tc .vmem S1024x256 .f32) (harg13 : arg13.IsWhole) (arg14 : Memref sig .tc .vmem S1024x256 .fp8e4m3) (harg14 : arg14.IsWhole) (arg15 : Memref sig .tc .vmem S8x256 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole)
variable (arg2 : BitVec 32) (v1 : FVec F S256x128 .fp8e4m3) (v12 : FVec F S1x256 .f32) (v25 : BitVec 32) (c8_i32 : BitVec 32) (v26 : BitVec 32) (v28 : BitVec 32)

/-- The trip over two key blocks, as the plain vector computation. -/
theorem trip3_eq (v48 : BitVec 32) (k : Fin (k0_t3_loop i).trips)
    (f4 : Buf (Elt F) (arg4.view.loc (c : Thread nD τ))) (f5 : Buf (Elt F) (arg5.view.loc (c : Thread nD τ))) (f7 : Buf (Elt F) (arg7.view.loc (c : Thread nD τ))) (f8 : Buf (Elt F) (arg8.view.loc (c : Thread nD τ)))
    (f10 : Buf (Elt F) (arg10.view.loc (c : Thread nD τ))) (f11 : Buf (Elt F) (arg11.view.loc (c : Thread nD τ))) (f12 : Buf (Elt F) (arg12.view.loc (c : Thread nD τ))) :
    (trip3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 k f4 f5 f7 f8 f10 f11 f12).1
      = T3 arg13 arg14 arg15 arg16 arg17 arg18 v1 v12 (View.readAt (Elt F) arg4.view (Rect.unit (s := S1x32768x128) (k0_off8 i k) S1x256x128.size (k0_off8_inb i k)).toLoadRect f4)
          (View.readAt (Elt F) arg7.view (Rect.unit (s := S1x1x256x128) (k0_off9 i k) S1x1x2x128.size (k0_off9_inb i k)).toLoadRect f7)
          (View.readAt (Elt F) arg8.view (Rect.unit (s := S1x1x256x128) (k0_off9 i k) S1x1x2x128.size (k0_off9_inb i k)).toLoadRect f8)
          (fun b => View.readAt (Elt F) arg5.view (Rect.unit (s := S1x1x128x32768) (k0_off10 i k (BitVec.ofNat 32 (128 * (b2 b).val))) S1x1x128x128.size (k0_off10_inb i k (b2 b))).toLoadRect f5)
          (View.readAt (Elt F) arg10.view (Rect.unit (s := S128x256) ![0, 0] S128x256.size inb_S128x256_S128x256_0_0).toLoadRect f10)
          (View.readAt (Elt F) arg11.view (Rect.unit (s := S8x256) ![0, 0] S8x256.size inb_S8x256_S8x256_0_0).toLoadRect f11)
          (View.readAt (Elt F) arg12.view (Rect.unit (s := S1x256) ![0, 0] S1x256.size inb_S1x256_S1x256_0_0).toLoadRect f12) := by
  unfold trip3
  rfl

end Trip

end Cert.KernelIdeal.Hand

end
-- ==== Proof.ChunkW.lean ====
module

public import proofs.«01_k».proof.Proof.Chunk

@[expose] public section

set_option maxRecDepth 16384

noncomputable section

namespace Cert.KernelIdeal.Hand

open Cert.KernelIdeal Cert.KernelIdeal.Gen Cert.Attn
open Idealize.ShloMosaic Idealize.ShloMosaic.Tactic

section Trips

variable (arg13 : Memref sig .tc .vmem S1024x256 .f32) (arg14 : Memref sig .tc .vmem S1024x256 .fp8e4m3)
  (arg15 arg16 arg17 arg18 : Memref sig .tc .vmem S8x256 .f32)

/-- A trip over eight blocks keeps the sums and the maximum. -/
theorem T1_step {sc : ℕ → EReal} {vh : Fin 128 → ℕ → EReal} {n : ℕ}
    (v1 : FVec Ideal S256x128 .fp8e4m3) (v12 : FVec Ideal S1x256 .f32) (kb : Vec Ideal S1x1024x128 .fp8e4m3) (ksb vsb : Vec Ideal S1x1x8x128 .f32)
    (vt : Fin 8 → Vec Ideal S1x1x128x128 .fp8e4m3) (acc : Vec Ideal S128x256 .f32) (l : Vec Ideal S8x256 .f32) (m : Vec Ideal S1x256 .f32) (q : Fin 256)
    (hst : St sc vh n acc l m q) (qs : ℝ) (hqs : 0 < qs) (hq : v12 (ix2 0 q) = (qs : EReal))
    (ks vs : Fin 8 → ℝ) (hks0 : ∀ b, 0 < ks b) (hvs0 : ∀ b, 0 < vs b) (hks : ∀ b l, ksb (ix4 0 0 b l) = (ks b : EReal)) (hvs : ∀ b l, vsb (ix4 0 0 b l) = (vs b : EReal))
    (hsc : ∀ (b : Fin 8) (j : Fin 128), sc (128 * (n + b.val) + j.val)
      = (∑ k : Fin 128, kb (ix3 0 ⟨b.val * 128 + j.val, by omega⟩ k) * v1 (ix2 q k)) * ((qs * ks b * SM : ℝ) : EReal))
    (hvh : ∀ (b : Fin 8) (d j : Fin 128), vh d (128 * (n + b.val) + j.val) = vt b (ix4 0 0 d j) * (vs b : EReal)) :
    St sc vh (n + 8) (T1 arg13 arg14 arg15 arg16 arg17 arg18 v1 v12 kb ksb vsb vt acc l m).1
      (T1 arg13 arg14 arg15 arg16 arg17 arg18 v1 v12 kb ksb vsb vt acc l m).2.1 (T1 arg13 arg14 arg15 arg16 arg17 arg18 v1 v12 kb ksb vsb vt acc l m).2.2 q := by
  have hc0 : ∀ b, 0 < qs * ks b * SM := fun b => mul_pos (mul_pos hqs (hks0 b)) SM_pos
  have hc : ∀ b : Fin 8, k0_pay6 v12 ksb (ix2 b q) = ((qs * ks b * SM : ℝ) : EReal) := fun b => by
    rw [pay6_apply v12 ksb q (fun b => (ks b : EReal)) hks b, hq, EReal.coe_mul, EReal.coe_mul]
  have hbm : ∀ b : Fin 8, k0_pay7 v1 v12 kb ksb (ix2 b q) = Finset.univ.sup fun j : Fin 128 => sc (128 * (n + b.val) + j.val) := fun b => by
    rw [pay7_apply, hc, sup_mul_coe _ _ _ (hc0 b)]
    exact congrArg _ (funext fun j => (hsc b j).symm)
  have hr0 := pay10_apply v1 v12 kb ksb m q
  have hr1 := pay11_apply v1 v12 kb ksb m q
  have hr2 := pay12_apply v1 v12 kb ksb m q
  have hr3 := pay13_apply v1 v12 kb ksb m q
  have hr4 := pay14_apply v1 v12 kb ksb m q
  have hr5 := pay15_apply v1 v12 kb ksb m q
  have hr6 := pay16_apply q (k0_pay7 v1 v12 kb ksb) (k0_pay15 v1 v12 kb ksb m)
  have hr7 := pay17_apply q (k0_pay7 v1 v12 kb ksb) (k0_pay15 v1 v12 kb ksb m)
  have hm2 : k0_pay17 (k0_pay7 v1 v12 kb ksb) (k0_pay15 v1 v12 kb ksb m) (ix2 0 q) = (Finset.range (128 * (n + 8))).sup sc := by
    rw [hr7, hr6, hr5, hr4, hr3, hr2, hr1, hr0, hbm 0, hbm 1, hbm 2, hbm 3, hbm 4, hbm 5, hbm 6, hbm 7, hst.1, sup_step sc (n + 7), sup_step sc (n + 6),
      sup_step sc (n + 5), sup_step sc (n + 4), sup_step sc (n + 3), sup_step sc (n + 2), sup_step sc (n + 1), sup_step sc n]
    rfl
  have g7 : k0_pay17 (k0_pay7 v1 v12 kb ksb) (k0_pay15 v1 v12 kb ksb m) (ix2 0 q) ≤ k0_pay17 (k0_pay7 v1 v12 kb ksb) (k0_pay15 v1 v12 kb ksb m) (ix2 0 q) := le_refl _
  have g6 : k0_pay16 (k0_pay7 v1 v12 kb ksb) (k0_pay15 v1 v12 kb ksb m) (ix2 0 q) ≤ k0_pay17 (k0_pay7 v1 v12 kb ksb) (k0_pay15 v1 v12 kb ksb m) (ix2 0 q) := le_trans (by rw [hr7]; exact le_max_left _ _) g7
  have g5 : k0_pay15 v1 v12 kb ksb m (ix2 0 q) ≤ k0_pay17 (k0_pay7 v1 v12 kb ksb) (k0_pay15 v1 v12 kb ksb m) (ix2 0 q) := le_trans (by rw [hr6]; exact le_max_left _ _) g6
  have g4 : k0_pay14 v1 v12 kb ksb m (ix2 0 q) ≤ k0_pay17 (k0_pay7 v1 v12 kb ksb) (k0_pay15 v1 v12 kb ksb m) (ix2 0 q) := le_trans (by rw [hr5]; exact le_max_left _ _) g5
  have g3 : k0_pay13 v1 v12 kb ksb m (ix2 0 q) ≤ k0_pay17 (k0_pay7 v1 v12 kb ksb) (k0_pay15 v1 v12 kb ksb m) (ix2 0 q) := le_trans (by rw [hr4]; exact le_max_left _ _) g4
  have g2 : k0_pay12 v1 v12 kb ksb m (ix2 0 q) ≤ k0_pay17 (k0_pay7 v1 v12 kb ksb) (k0_pay15 v1 v12 kb ksb m) (ix2 0 q) := le_trans (by rw [hr3]; exact le_max_left _ _) g3
  have g1 : k0_pay11 v1 v12 kb ksb m (ix2 0 q) ≤ k0_pay17 (k0_pay7 v1 v12 kb ksb) (k0_pay15 v1 v12 kb ksb m) (ix2 0 q) := le_trans (by rw [hr2]; exact le_max_left _ _) g2
  have g0 : k0_pay10 v1 v12 kb ksb m (ix2 0 q) ≤ k0_pay17 (k0_pay7 v1 v12 kb ksb) (k0_pay15 v1 v12 kb ksb m) (ix2 0 q) := le_trans (by rw [hr1]; exact le_max_left _ _) g1
  have hml : m (ix2 0 q) ≤ k0_pay17 (k0_pay7 v1 v12 kb ksb) (k0_pay15 v1 v12 kb ksb m) (ix2 0 q) := le_trans (by rw [hr0]; exact le_max_left _ _) g0
  have hrow : ∀ b : Fin 8, k0_pay7 v1 v12 kb ksb (ix2 b q) ≤ k0_pay18 (k0_pay7 v1 v12 kb ksb) (k0_pay10 v1 v12 kb ksb m) (k0_pay11 v1 v12 kb ksb m) (k0_pay12 v1 v12 kb ksb m) (k0_pay13 v1 v12 kb ksb m) (k0_pay14 v1 v12 kb ksb m) (k0_pay15 v1 v12 kb ksb m) (ix2 b q) ∧ k0_pay18 (k0_pay7 v1 v12 kb ksb) (k0_pay10 v1 v12 kb ksb m) (k0_pay11 v1 v12 kb ksb m) (k0_pay12 v1 v12 kb ksb m) (k0_pay13 v1 v12 kb ksb m) (k0_pay14 v1 v12 kb ksb m) (k0_pay15 v1 v12 kb ksb m) (ix2 b q) ≤ k0_pay17 (k0_pay7 v1 v12 kb ksb) (k0_pay15 v1 v12 kb ksb m) (ix2 0 q) := by
    intro b
    fin_cases b
    · exact ⟨(le_of_le_of_eq (by rw [hr0]; exact le_max_right _ _) (pay18_0 _ _ _ _ _ _ _ _).symm), le_of_eq_of_le (pay18_0 _ _ _ _ _ _ _ _) g0⟩
    · exact ⟨(le_of_le_of_eq (by rw [hr1]; exact le_max_right _ _) (pay18_1 _ _ _ _ _ _ _ _).symm), le_of_eq_of_le (pay18_1 _ _ _ _ _ _ _ _) g1⟩
    · exact ⟨(le_of_le_of_eq (by rw [hr2]; exact le_max_right _ _) (pay18_2 _ _ _ _ _ _ _ _).symm), le_of_eq_of_le (pay18_2 _ _ _ _ _ _ _ _) g2⟩
    · exact ⟨(le_of_le_of_eq (by rw [hr3]; exact le_max_right _ _) (pay18_3 _ _ _ _ _ _ _ _).symm), le_of_eq_of_le (pay18_3 _ _ _ _ _ _ _ _) g3⟩
    · exact ⟨(le_of_le_of_eq (by rw [hr4]; exact le_max_right _ _) (pay18_4 _ _ _ _ _ _ _ _).symm), le_of_eq_of_le (pay18_4 _ _ _ _ _ _ _ _) g4⟩
    · exact ⟨(le_of_le_of_eq (by rw [hr5]; exact le_max_right _ _) (pay18_5 _ _ _ _ _ _ _ _).symm), le_of_eq_of_le (pay18_5 _ _ _ _ _ _ _ _) g5⟩
    · exact ⟨(le_of_le_of_eq (by rw [hr6]; exact le_max_right _ _) (pay18_6 _ _ _ _ _ _ _ _).symm), le_of_eq_of_le (pay18_6 _ _ _ _ _ _ _ _) g6⟩
    · exact ⟨(le_of_le_of_eq (by rw [hr7]; exact le_max_right _ _) (pay18_7 _ _ _ _ _ _ _ _).symm), le_of_eq_of_le (pay18_7 _ _ _ _ _ _ _ _) g7⟩
  have hB : ∀ (b : Fin 8), BlockOK (fun j => rdS8 arg13 (k0_pay9 v1 kb) b (ix2 j q)) (rdR8 arg15 (k0_pay31 (k0_pay8 v12 ksb)) b (ix2 0 q))
      (rdR8 arg16 (shapeCast S8x256 (vOff S8x256 (k0_pay18 (k0_pay7 v1 v12 kb ksb) (k0_pay10 v1 v12 kb ksb m) (k0_pay11 v1 v12 kb ksb m) (k0_pay12 v1 v12 kb ksb m) (k0_pay13 v1 v12 kb ksb m) (k0_pay14 v1 v12 kb ksb m) (k0_pay15 v1 v12 kb ksb m)) (vSrch S8x256 (mulf (exp2 (mulf (subf (k0_pay7 v1 v12 kb ksb) (k0_pay18 (k0_pay7 v1 v12 kb ksb) (k0_pay10 v1 v12 kb ksb m) (k0_pay11 v1 v12 kb ksb m) (k0_pay12 v1 v12 kb ksb m) (k0_pay13 v1 v12 kb ksb m) (k0_pay14 v1 v12 kb ksb m) (k0_pay15 v1 v12 kb ksb m))) (vL S8x256))) (broadcast S8x256 (Scalar.ofBits .f32 0x3B124925#32))))) shapeCasts_S8x256_S8x256) b (ix2 0 q))
      (rdR8 arg18 (k0_pay35 (vDecay S8x256 broadcasts_S1x256_S8x256 (k0_pay17 (k0_pay7 v1 v12 kb ksb) (k0_pay15 v1 v12 kb ksb m)) (k0_pay18 (k0_pay7 v1 v12 kb ksb) (k0_pay10 v1 v12 kb ksb m) (k0_pay11 v1 v12 kb ksb m) (k0_pay12 v1 v12 kb ksb m) (k0_pay13 v1 v12 kb ksb m) (k0_pay14 v1 v12 kb ksb m) (k0_pay15 v1 v12 kb ksb m)) (vSrch S8x256 (mulf (exp2 (mulf (subf (k0_pay7 v1 v12 kb ksb) (k0_pay18 (k0_pay7 v1 v12 kb ksb) (k0_pay10 v1 v12 kb ksb m) (k0_pay11 v1 v12 kb ksb m) (k0_pay12 v1 v12 kb ksb m) (k0_pay13 v1 v12 kb ksb m) (k0_pay14 v1 v12 kb ksb m) (k0_pay15 v1 v12 kb ksb m))) (vL S8x256))) (broadcast S8x256 (Scalar.ofBits .f32 0x3B124925#32)))))) b (ix2 0 q))
      (rdR8 arg17 (k0_pay34 (k0_pay5 vsb) (vDecay S8x256 broadcasts_S1x256_S8x256 (k0_pay17 (k0_pay7 v1 v12 kb ksb) (k0_pay15 v1 v12 kb ksb m)) (k0_pay18 (k0_pay7 v1 v12 kb ksb) (k0_pay10 v1 v12 kb ksb m) (k0_pay11 v1 v12 kb ksb m) (k0_pay12 v1 v12 kb ksb m) (k0_pay13 v1 v12 kb ksb m) (k0_pay14 v1 v12 kb ksb m) (k0_pay15 v1 v12 kb ksb m)) (vSrch S8x256 (mulf (exp2 (mulf (subf (k0_pay7 v1 v12 kb ksb) (k0_pay18 (k0_pay7 v1 v12 kb ksb) (k0_pay10 v1 v12 kb ksb m) (k0_pay11 v1 v12 kb ksb m) (k0_pay12 v1 v12 kb ksb m) (k0_pay13 v1 v12 kb ksb m) (k0_pay14 v1 v12 kb ksb m) (k0_pay15 v1 v12 kb ksb m))) (vL S8x256))) (broadcast S8x256 (Scalar.ofBits .f32 0x3B124925#32)))))) b (ix2 0 q))
      (fun j => sc (128 * (n + b.val) + j.val)) (k0_pay18 (k0_pay7 v1 v12 kb ksb) (k0_pay10 v1 v12 kb ksb m) (k0_pay11 v1 v12 kb ksb m) (k0_pay12 v1 v12 kb ksb m) (k0_pay13 v1 v12 kb ksb m) (k0_pay14 v1 v12 kb ksb m) (k0_pay15 v1 v12 kb ksb m) (ix2 b q)) (k0_pay17 (k0_pay7 v1 v12 kb ksb) (k0_pay15 v1 v12 kb ksb m) (ix2 0 q)) (vs b) := by
    intro b
    refine blockOK_mk 8 broadcasts_S1x256_S8x256 _ _ _ b q _ _ (hvs0 _).le _ (hbm b) (hrow b).1 (hrow b).2 (x8_apply q _ _ b) _ _ _ _ _ ?_ ?_ ?_ ?_
    · rw [rdR8_apply arg16, shapeCast_self]
    · rw [rdR8_apply arg18, k0_pay35, shapeCast_self]
    · rw [rdR8_apply arg17, k0_pay34, shapeCast_self, ← pay5_apply q vsb (fun b => (vs b : EReal)) hvs b]
      rfl
    · intro j e m' hj
      have e5 : (⟨128 * b.val + j.val, by omega⟩ : Fin 1024) = ⟨b.val * 128 + j.val, by omega⟩ := Fin.ext (by simp only; ring)
      rw [rdS8_apply arg13, rdR8_apply arg15, e5, pay9_apply, pay8_apply, hc]
      rw [hsc b j] at hj ⊢
      rw [← EReal.coe_mul, ← offset_scaled _ _ (hc0 _) m' e hj]
  have hlast : (T1 arg13 arg14 arg15 arg16 arg17 arg18 v1 v12 kb ksb vsb vt acc l m).2.2 = k0_pay17 (k0_pay7 v1 v12 kb ksb) (k0_pay15 v1 v12 kb ksb m) := by
    show k0_pay37 (k0_pay17 (k0_pay7 v1 v12 kb ksb) (k0_pay15 v1 v12 kb ksb m)) = _
    rw [k0_pay37, shapeCast_self]
  refine ⟨by rw [hlast]; exact hm2, ?_, ?_⟩
  · rw [hlast]
    show PL sc (n + 1 + 1 + 1 + 1 + 1 + 1 + 1 + 1) _ (ls8 _ _ _ _ _) q
    rw [ls8, shapeCast_self]
    exact PL_block (PL_block (PL_block (PL_block (PL_block (PL_block (PL_block (PL_block (PL_alpha hst.2.1 hml (St_le hst)) (hB 0)) (hB 1)) (hB 2)) (hB 3)) (hB 4)) (hB 5)) (hB 6)) (hB 7)
  · rw [hlast]
    show PA sc vh (n + 1 + 1 + 1 + 1 + 1 + 1 + 1 + 1) _ (acc8 _ _ _ _ _ _ _) q
    rw [acc8, shapeCast_self]
    exact PA_block (PA_block (PA_block (PA_block (PA_block (PA_block (PA_block (PA_block (PA_alpha hst.2.2 hml (St_le hst)) (rdC8_0 arg14 _) (hB 0) (hvh 0)) (rdC8_1 arg14 _) (hB 1) (hvh 1)) (rdC8_2 arg14 _) (hB 2) (hvh 2)) (rdC8_3 arg14 _) (hB 3) (hvh 3)) (rdC8_4 arg14 _) (hB 4) (hvh 4)) (rdC8_5 arg14 _) (hB 5) (hvh 5)) (rdC8_6 arg14 _) (hB 6) (hvh 6)) (rdC8_7 arg14 _) (hB 7) (hvh 7)

end Trips

end Cert.KernelIdeal.Hand

end
-- ==== Proof.Offsets.lean ====
module

public import proofs.«01_k».proof.Defs

@[expose] public section

/-! The offsets of the attend call's loads and the trip counts of its two loops, in closed form. -/
open Idealize.ShloMosaic
set_option maxHeartbeats 2000000
set_option maxRecDepth 16384
namespace Cert.KernelIdeal.Hand
open Cert.KernelIdeal

/-- The grid point of query pair `n` (of the first batch and head). -/
def co (n : Fin 128) : grid0.Coords := fun d => match d with
  | 0 => (0 : Fin 2) | 1 => (0 : Fin 16) | 2 => n

/-- The wide loop runs once for each four query pairs before the current one. -/
theorem trips1 (i : grid0.Coords) : (k0_t1_loop i).trips = (i 2).val / 4 := by
  have h : ∀ n : Fin 128, (k0_t1_loop (co n)).trips = n.val / 4 := by decide +kernel
  exact h (i 2)

/-- The narrow loop runs over the query pairs the wide loop left. -/
theorem trips3 (i : grid0.Coords) : (k0_t3_loop i).trips = (i 2).val % 4 := by
  have h : ∀ n : Fin 128, (k0_t3_loop (co n)).trips = n.val % 4 := by decide +kernel
  exact h (i 2)

/-- Row of the query scales read. -/
theorem off1_eq (i : grid0.Coords) :
    k0_off1 i 0#32 = ![0, 0, 2 * (i 2).val, 0] ∧ k0_off1 i 1#32 = ![0, 0, 2 * (i 2).val + 1, 0] := by
  have h : ∀ n : Fin 128, k0_off1 (co n) 0#32 = ![0, 0, 2 * n.val, 0] ∧
    k0_off1 (co n) 1#32 = ![0, 0, 2 * n.val + 1, 0] := by decide +kernel
  exact h (i 2)

/-- The row at which the access 2 starts, as a number. -/
theorem off2_eq (i : grid0.Coords) (k : Fin (k0_t1_loop i).trips) :
    k0_off2 i k = ![0, 1024 * k.val, 0] := by
  have h : ∀ n : Fin 128, ∀ k, k0_off2 (co n) k = ![0, 1024 * k.val, 0] := by decide +kernel
  exact h (i 2) k

/-- The row at which the access 3 starts, as a number. -/
theorem off3_eq (i : grid0.Coords) (k : Fin (k0_t1_loop i).trips) :
    k0_off3 i k = ![0, 0, 8 * k.val, 0] := by
  have h : ∀ n : Fin 128, ∀ k, k0_off3 (co n) k = ![0, 0, 8 * k.val, 0] := by decide +kernel
  exact h (i 2) k

/-- The row at which the access 4 starts, as a number. -/
theorem off4_eq (i : grid0.Coords) (k : Fin (k0_t1_loop i).trips) (b : Fin 8) :
    k0_off4 i k (BitVec.ofNat 32 (128 * b.val)) = ![0, 0, 0, 1024 * k.val + 128 * b.val] := by
  have h : ∀ n : Fin 128, ∀ k, ∀ b : Fin 8, k0_off4 (co n) k (BitVec.ofNat 32 (128 * b.val)) =
    ![0, 0, 0, 1024 * k.val + 128 * b.val] := by decide +kernel
  exact h (i 2) k b

/-- The row at which the access 8 starts, as a number. -/
theorem off8_eq (i : grid0.Coords) (k : Fin (k0_t3_loop i).trips) :
    k0_off8 i k = ![0, 256 * (4 * ((i 2).val / 4) + k.val), 0] := by
  have h : ∀ n : Fin 128, ∀ k, k0_off8 (co n) k = ![0, 256 * (4 * (n.val / 4) + k.val), 0] := by
    decide +kernel
  exact h (i 2) k

/-- The row at which the access 9 starts, as a number. -/
theorem off9_eq (i : grid0.Coords) (k : Fin (k0_t3_loop i).trips) :
    k0_off9 i k = ![0, 0, 2 * (4 * ((i 2).val / 4) + k.val), 0] := by
  have h : ∀ n : Fin 128, ∀ k, k0_off9 (co n) k = ![0, 0, 2 * (4 * (n.val / 4) + k.val), 0] := by
    decide +kernel
  exact h (i 2) k

/-- The row at which the access 10 starts, as a number. -/
theorem off10_eq (i : grid0.Coords) (k : Fin (k0_t3_loop i).trips) (b : Fin 2) :
    k0_off10 i k (BitVec.ofNat 32 (128 * b.val)) =
      ![0, 0, 0, 256 * (4 * ((i 2).val / 4) + k.val) + 128 * b.val] := by
  have h : ∀ n : Fin 128, ∀ k, ∀ b : Fin 2, k0_off10 (co n) k (BitVec.ofNat 32 (128 * b.val)) =
      ![0, 0, 0, 256 * (4 * (n.val / 4) + k.val) + 128 * b.val] := by decide +kernel
  exact h (i 2) k b

/-- The row at which the access 14 starts, as a number. -/
theorem off14_eq (i : grid0.Coords) : k0_off14 i = ![0, 256 * (i 2).val, 0] := by
  have h : ∀ n : Fin 128, k0_off14 (co n) = ![0, 256 * n.val, 0] := by decide +kernel
  exact h (i 2)

/-- The row at which the access 15 starts, as a number. -/
theorem off15_eq (i : grid0.Coords) : k0_off15 i = ![0, 0, 2 * (i 2).val, 0] := by
  have h : ∀ n : Fin 128, k0_off15 (co n) = ![0, 0, 2 * n.val, 0] := by decide +kernel
  exact h (i 2)

/-- The row at which the access 16 starts, as a number. -/
theorem off16_eq (i : grid0.Coords) (b : Fin 2) :
    k0_off16 i (BitVec.ofNat 32 (128 * b.val)) = ![0, 0, 0, 256 * (i 2).val + 128 * b.val] := by
  have h : ∀ n : Fin 128, ∀ b : Fin 2, k0_off16 (co n) (BitVec.ofNat 32 (128 * b.val)) =
    ![0, 0, 0, 256 * n.val + 128 * b.val] := by decide +kernel
  exact h (i 2) b

/-- The causal mask of the diagonal pair: key `j` of the pair is seen by query `q` of it when
`j ≤ q`. -/
theorem mask_eq (i : grid0.Coords) (j q : ℕ) (hj : j < 256) (hq : q < 256) :
    ((Scalar.muli (Scalar.muli (BitVec.ofNat 32 (i 2).val) 2#32) 128#32 + BitVec.ofNat 32 j).sle
      (BitVec.ofNat 32 (i 2).val * 256#32 + BitVec.ofNat 32 q)) = decide (j ≤ q) := by
  have hi : (i 2).val < 128 := (i 2).isLt
  generalize (i 2).val = n at hi
  have e1 : Scalar.muli (Scalar.muli (BitVec.ofNat 32 n) 2#32) 128#32 + BitVec.ofNat 32 j
      = BitVec.ofNat 32 (n * 256 + j) := by
    show BitVec.ofNat 32 n * 2#32 * 128#32 + _ = _
    apply BitVec.eq_of_toNat_eq; simp [BitVec.toNat_add, BitVec.toNat_mul]; omega
  have e2 : BitVec.ofNat 32 n * 256#32 + BitVec.ofNat 32 q = BitVec.ofNat 32 (n * 256 + q) := by
    apply BitVec.eq_of_toNat_eq; simp [BitVec.toNat_add, BitVec.toNat_mul]
  rw [e1, e2, BitVec.sle_eq_decide]
  have t : ∀ x : ℕ, x < 2^31 → (BitVec.ofNat 32 x).toInt = x := by
    intro x hx; rw [BitVec.toInt_eq_toNat_of_lt] <;> simp <;> omega
  rw [t _ (by omega), t _ (by omega)]
  simp
end Cert.KernelIdeal.Hand
end
-- ==== Proof.Loops.lean ====
module

public import proofs.«01_k».proof.Proof.BEq
public import proofs.«01_k».proof.Proof.ChunkD
public import proofs.«01_k».proof.Proof.T1Eq
public import proofs.«01_k».proof.Proof.T3Eq
public import proofs.«01_k».proof.Proof.ChunkW
public import proofs.«01_k».proof.Proof.Offsets
public import Idealize.ShloMosaic.Lib.WholeRead

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic

/-- Rows of a block read from a buffer held whole. -/
theorem read3 {Val : EltTy → Type} {e : EltTy} {sig : RefSig} {κ : Kind} {sp : Space} {m n : ℕ} (n' : ℕ)
    {a : Memref sig κ sp (⟨3, ![1, m, n]⟩ : Shape) e} (h : a.IsWhole) (X : (⟨3, ![1, m, n]⟩ : Shape).Idx → Val e)
    (off : Fin 3 → ℕ) (inb) (o : ℕ) (ho : off = ![0, o, 0]) (j : Fin n') (k : Fin n) (hb : o + j.val < m) :
    View.readAt Val a.view (Rect.unit (s := (⟨3, ![1, m, n]⟩ : Shape)) off (⟨3, ![1, n', n]⟩ : Shape).size inb).toLoadRect (h.unread X) (ix3 0 j k)
      = X (ix3 0 ⟨o + j.val, hb⟩ k) := by
  subst ho
  rw [h.readAt_unread]
  congr 1
  funext a
  apply Fin.ext
  fin_cases a
  · show 0 + 1 * 0 = 0; rfl
  · show o + 1 * j.val = o + j.val; omega
  · show 0 + 1 * k.val = k.val; omega

/-- Rows of a block with two unit axes, read from a buffer held whole. -/
theorem read4r {Val : EltTy → Type} {e : EltTy} {sig : RefSig} {κ : Kind} {sp : Space} {m n : ℕ} (n' : ℕ)
    {a : Memref sig κ sp (⟨4, ![1, 1, m, n]⟩ : Shape) e} (h : a.IsWhole) (X : (⟨4, ![1, 1, m, n]⟩ : Shape).Idx → Val e)
    (off : Fin 4 → ℕ) (inb) (o : ℕ) (ho : off = ![0, 0, o, 0]) (j : Fin n') (k : Fin n) (hb : o + j.val < m) :
    View.readAt Val a.view (Rect.unit (s := (⟨4, ![1, 1, m, n]⟩ : Shape)) off (⟨4, ![1, 1, n', n]⟩ : Shape).size inb).toLoadRect (h.unread X) (ix4 0 0 j k)
      = X (ix4 0 0 ⟨o + j.val, hb⟩ k) := by
  subst ho
  rw [h.readAt_unread]
  congr 1
  funext a
  apply Fin.ext
  fin_cases a
  · show 0 + 1 * 0 = 0; rfl
  · show 0 + 1 * 0 = 0; rfl
  · show o + 1 * j.val = o + j.val; omega
  · show 0 + 1 * k.val = k.val; omega

/-- Columns of a block with two unit axes, read from a buffer held whole. -/
theorem read4c {Val : EltTy → Type} {e : EltTy} {sig : RefSig} {κ : Kind} {sp : Space} {m n : ℕ} (n' : ℕ)
    {a : Memref sig κ sp (⟨4, ![1, 1, m, n]⟩ : Shape) e} (h : a.IsWhole) (X : (⟨4, ![1, 1, m, n]⟩ : Shape).Idx → Val e)
    (off : Fin 4 → ℕ) (inb) (o : ℕ) (ho : off = ![0, 0, 0, o]) (d : Fin m) (j : Fin n') (hb : o + j.val < n) :
    View.readAt Val a.view (Rect.unit (s := (⟨4, ![1, 1, m, n]⟩ : Shape)) off (⟨4, ![1, 1, m, n']⟩ : Shape).size inb).toLoadRect (h.unread X) (ix4 0 0 d j)
      = X (ix4 0 0 d ⟨o + j.val, hb⟩) := by
  subst ho
  rw [h.readAt_unread]
  congr 1
  funext a
  apply Fin.ext
  fin_cases a
  · show 0 + 1 * 0 = 0; rfl
  · show 0 + 1 * 0 = 0; rfl
  · show 0 + 1 * d.val = d.val; omega
  · show o + 1 * j.val = o + j.val; omega

/-- A buffer just stored whole reads what was stored. -/
theorem read_stored {Val : EltTy → Type} [∀ e, Nonempty (Val e)] {e : EltTy} {sig : RefSig} {κ : Kind} {sp : Space} {s : Shape}
    (v : View sig κ sp s e) (R : Rect s) (f : v.ty.Contents Val) (w : R.shape.Idx → Val e) :
    View.readAt Val v R.toLoadRect (v.writes Val f [⟨R, w⟩]) = w := by
  funext j
  rw [View.readAt_apply]
  refine (View.read_writes_apply_eq_canon v f _ _ ⟨⟨R, w⟩, List.mem_singleton.2 rfl, ?_⟩).trans (View.canon_cons_emb R w [] j)
  exact R.toLoadRect.idx_mem j

/-- The scores of query `q` of pair `n`, from the operands' blocks: key after key, hidden keys at the bottom. -/
def scB (X3 : FVec Ideal S1x256x128 .fp8e4m3) (X4 : FVec Ideal S1x32768x128 .fp8e4m3) (qs : ℝ) (ks : Fin 256 → ℝ) (n : ℕ) (q : Fin 256) (k : ℕ) : EReal :=
  if h : k < 32768 then
    if k ≤ 256 * n + q.val then (∑ d : Fin 128, X4 (ix3 0 ⟨k, h⟩ d) * X3 (ix3 0 q d)) * ((qs * ks ⟨k / 128, by omega⟩ * SM : ℝ) : EReal) else ⊥
  else ⊥

/-- The values, from their codes and scales. -/
def vhB (X5 : FVec Ideal S1x1x128x32768 .fp8e4m3) (vs : Fin 256 → ℝ) (d : Fin 128) (k : ℕ) : EReal :=
  if h : k < 32768 then X5 (ix4 0 0 d ⟨k, h⟩) * (vs ⟨k / 128, by omega⟩ : EReal) else 0

section Trip

variable (c : Dev nD) (i : grid0.Coords) (arg3 : Memref sig .tc .vmem S1x256x128 .fp8e4m3) (harg3 : arg3.IsWhole) (arg4 : Memref sig .tc .vmem S1x32768x128 .fp8e4m3) (harg4 : arg4.IsWhole) (arg5 : Memref sig .tc .vmem S1x1x128x32768 .fp8e4m3) (harg5 : arg5.IsWhole) (arg6 : Memref sig .tc .vmem S1x1x256x128 .f32) (harg6 : arg6.IsWhole) (arg7 : Memref sig .tc .vmem S1x1x256x128 .f32) (harg7 : arg7.IsWhole) (arg8 : Memref sig .tc .vmem S1x1x256x128 .f32) (harg8 : arg8.IsWhole) (arg9 : Memref sig .tc .vmem S1x256x128 .bf16) (harg9 : arg9.IsWhole) (arg10 : Memref sig .tc .vmem S128x256 .f32) (harg10 : arg10.IsWhole) (arg11 : Memref sig .tc .vmem S8x256 .f32) (harg11 : arg11.IsWhole) (arg12 : Memref sig .tc .vmem S1x256 .f32) (harg12 : arg12.IsWhole) (arg13 : Memref sig .tc .vmem S1024x256 .f32) (harg13 : arg13.IsWhole) (arg14 : Memref sig .tc .vmem S1024x256 .fp8e4m3) (harg14 : arg14.IsWhole) (arg15 : Memref sig .tc .vmem S8x256 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole)

section L
variable (arg2 : BitVec 32) (v1 : FVec Ideal S256x128 .fp8e4m3) (v12 : FVec Ideal S1x256 .f32) (v25 c8_i32 v26 v28 : BitVec 32)
  (X3 : FVec Ideal S1x256x128 .fp8e4m3) (X4 : FVec Ideal S1x32768x128 .fp8e4m3) (X5 : FVec Ideal S1x1x128x32768 .fp8e4m3) (X7 X8 : FVec Ideal S1x1x256x128 .f32)
  (f10 : Buf (Elt Ideal) (arg10.view.loc (c : Thread nD τ))) (f11 : Buf (Elt Ideal) (arg11.view.loc (c : Thread nD τ))) (f12 : Buf (Elt Ideal) (arg12.view.loc (c : Thread nD τ)))
  (q : Fin 256) (qs : ℝ) (hqs : 0 < qs) (hq : v12 (ix2 0 q) = (qs : EReal)) (hv1 : ∀ k, v1 (ix2 q k) = X3 (ix3 0 q k))
  (ks vs : Fin 256 → ℝ) (hks0 : ∀ b, 0 < ks b) (hvs0 : ∀ b, 0 < vs b)
  (hks : ∀ b l, X7 (ix4 0 0 b l) = (ks b : EReal)) (hvs : ∀ b l, X8 (ix4 0 0 b l) = (vs b : EReal))
include hqs hq hv1 hks0 hvs0 hks hvs

/-- The kept sums and maximum after some trips of the loop over eight blocks. -/
theorem loop1 {n0 : ℕ} (hn0 : n0 = 0)
    (h0 : St (scB X3 X4 qs ks (i 2).val q) (vhB X5 vs) n0 (View.readAt (Elt Ideal) arg10.view R10.toLoadRect f10) (View.readAt (Elt Ideal) arg11.view R11.toLoadRect f11) (View.readAt (Elt Ideal) arg12.view R12.toLoadRect f12) q) :
    ∀ k : ℕ, k ≤ (k0_t1_loop i).trips →
      St (scB X3 X4 qs ks (i 2).val q) (vhB X5 vs) (n0 + 8 * k)
        (View.readAt (Elt Ideal) arg10.view R10.toLoadRect (st1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 (harg4.unread X4) (harg5.unread X5) (harg7.unread X7) (harg8.unread X8) f10 f11 f12 k).1)
        (View.readAt (Elt Ideal) arg11.view R11.toLoadRect (st1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 (harg4.unread X4) (harg5.unread X5) (harg7.unread X7) (harg8.unread X8) f10 f11 f12 k).2.1)
        (View.readAt (Elt Ideal) arg12.view R12.toLoadRect (st1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 (harg4.unread X4) (harg5.unread X5) (harg7.unread X7) (harg8.unread X8) f10 f11 f12 k).2.2) q
  | 0, _ => h0
  | k + 1, hk => by
    have ih := loop1 hn0 h0 k (by omega)
    have hi : (i 2).val < 128 := (i 2).isLt
    have ht := trips1 i
    rw [st1_succ (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 (harg4.unread X4) (harg5.unread X5) (harg7.unread X7) (harg8.unread X8) f10 f11 f12 ⟨k, hk⟩]
    dsimp only
    rw [read_stored, read_stored, read_stored, trip1_eq]
    refine T1_step _ _ _ _ _ _ (n := n0 + 8 * k) _ _ _ _ _ _ _ _ _ q ih qs hqs hq (fun b => ks ⟨n0 + 8 * k + b.val, by omega⟩) (fun b => vs ⟨n0 + 8 * k + b.val, by omega⟩)
      (fun _ => hks0 _) (fun _ => hvs0 _) ?_ ?_ ?_ ?_
    · intro b l
      refine (read4r (Val := Elt Ideal) 8 harg7 X7 _ _ (8 * k) (off3_eq i ⟨k, hk⟩) b l (by omega)).trans ?_
      rw [hks]
      congr 3
      (try simp only [])
      omega
    · intro b l
      refine (read4r (Val := Elt Ideal) 8 harg8 X8 _ _ (8 * k) (off3_eq i ⟨k, hk⟩) b l (by omega)).trans ?_
      rw [hvs]
      congr 3
      (try simp only [])
      omega
    · intro b j
      have e1 : (128 * (n0 + 8 * k + b.val) + j.val) / 128 = n0 + 8 * k + b.val := by omega
      unfold scB
      rw [dif_pos (by omega), if_pos (by omega)]
      simp only [e1]
      congr 1
      refine Finset.sum_congr rfl fun d _ => ?_
      rw [hv1]
      congr 1
      refine Eq.trans ?_ (read3 (Val := Elt Ideal) 1024 harg4 X4 _ _ (1024 * k) (off2_eq i ⟨k, hk⟩) ⟨b.val * 128 + j.val, by omega⟩ d (by simp only []; omega)).symm
      congr 2
      apply Fin.ext
      simp only []
      omega
    · intro b d j
      have e1 : (128 * (n0 + 8 * k + b.val) + j.val) / 128 = n0 + 8 * k + b.val := by omega
      unfold vhB
      rw [dif_pos (by omega)]
      simp only [e1]
      congr 1
      refine Eq.trans ?_ (read4c (Val := Elt Ideal) 128 harg5 X5 _ _ (1024 * k + 128 * b.val) (off4_eq i ⟨k, hk⟩ b) d j (by (try simp only []); omega)).symm
      congr 2
      apply Fin.ext
      (try simp only []); omega

omit hqs hq hv1 hks0 hvs0 hks hvs in
/-- A block index below two is kept when it is wrapped at two. -/
theorem b2_val (b : Fin 8) (hb : b.val < 2) : (b2 b).val = b.val := by
  exact Nat.mod_eq_of_lt hb

/-- The kept sums and maximum after some trips of the loop over two blocks. -/
theorem loop3 (v48 : BitVec 32) {n0 : ℕ} (hn0 : n0 = 8 * ((i 2).val / 4))
    (h0 : St (scB X3 X4 qs ks (i 2).val q) (vhB X5 vs) n0 (View.readAt (Elt Ideal) arg10.view R10.toLoadRect f10) (View.readAt (Elt Ideal) arg11.view R11.toLoadRect f11) (View.readAt (Elt Ideal) arg12.view R12.toLoadRect f12) q) :
    ∀ k : ℕ, k ≤ (k0_t3_loop i).trips →
      St (scB X3 X4 qs ks (i 2).val q) (vhB X5 vs) (n0 + 2 * k)
        (View.readAt (Elt Ideal) arg10.view R10.toLoadRect (st3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 (harg4.unread X4) (harg5.unread X5) (harg7.unread X7) (harg8.unread X8) f10 f11 f12 k).1)
        (View.readAt (Elt Ideal) arg11.view R11.toLoadRect (st3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 (harg4.unread X4) (harg5.unread X5) (harg7.unread X7) (harg8.unread X8) f10 f11 f12 k).2.1)
        (View.readAt (Elt Ideal) arg12.view R12.toLoadRect (st3 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 (harg4.unread X4) (harg5.unread X5) (harg7.unread X7) (harg8.unread X8) f10 f11 f12 k).2.2) q
  | 0, _ => h0
  | k + 1, hk => by
    have ih := loop3 v48 hn0 h0 k (by omega)
    have hi : (i 2).val < 128 := (i 2).isLt
    have ht := trips3 i
    rw [st3_succ (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v1 v12 v25 c8_i32 v26 v28 v48 (harg4.unread X4) (harg5.unread X5) (harg7.unread X7) (harg8.unread X8) f10 f11 f12 ⟨k, hk⟩]
    dsimp only
    rw [read_stored, read_stored, read_stored, trip3_eq]
    refine T3_step _ _ _ _ _ _ (n := n0 + 2 * k) _ _ _ _ _ _ _ _ _ q ih qs hqs hq (fun b => ks ⟨n0 + 2 * k + b.val, by omega⟩) (fun b => vs ⟨n0 + 2 * k + b.val, by omega⟩)
      (fun _ => hks0 _) (fun _ => hvs0 _) ?_ ?_ ?_ ?_
    · intro b l
      refine (read4r (Val := Elt Ideal) 2 harg7 X7 _ _ (2 * (4 * ((i 2).val / 4) + k)) (off9_eq i ⟨k, hk⟩) b l (by omega)).trans ?_
      rw [hks]
      congr 3
      simp only []
      omega
    · intro b l
      refine (read4r (Val := Elt Ideal) 2 harg8 X8 _ _ (2 * (4 * ((i 2).val / 4) + k)) (off9_eq i ⟨k, hk⟩) b l (by omega)).trans ?_
      rw [hvs]
      congr 3
      simp only []
      omega
    · intro b j
      have e1 : (128 * (n0 + 2 * k + b.val) + j.val) / 128 = n0 + 2 * k + b.val := by omega
      unfold scB
      rw [dif_pos (by omega), if_pos (by omega)]
      simp only [e1]
      congr 1
      refine Finset.sum_congr rfl fun d _ => ?_
      rw [hv1]
      congr 1
      refine Eq.trans ?_ (read3 (Val := Elt Ideal) 256 harg4 X4 _ _ (256 * (4 * ((i 2).val / 4) + k)) (off8_eq i ⟨k, hk⟩) ⟨b.val * 128 + j.val, by omega⟩ d (by simp only []; omega)).symm
      congr 2
      apply Fin.ext
      simp only []
      omega
    · intro b hb d j
      have e1 : (128 * (n0 + 2 * k + b.val) + j.val) / 128 = n0 + 2 * k + b.val := by omega
      unfold vhB
      rw [dif_pos (by omega)]
      simp only [e1]
      congr 1
      refine Eq.trans ?_ (read4c (Val := Elt Ideal) 128 harg5 X5 _ _ (256 * (4 * ((i 2).val / 4) + k) + 128 * (b2 b).val) (off10_eq i ⟨k, hk⟩ (b2 b)) d j (by simp only [b2_val b hb]; omega)).symm
      congr 2
      apply Fin.ext
      simp only [b2_val b hb]
      omega

omit hqs hq hv1 hks0 hvs0 hks hvs in
/-- A sum over the eight rows of partial sums. -/
theorem sum_rows (f : ℕ → EReal) : ∀ N : ℕ, ∑ r : Fin 8, ∑ i ∈ Finset.range N, f (i * 8 + r.val) = ∑ k ∈ Finset.range (8 * N), f k
  | 0 => by simp
  | N + 1 => by
    simp only [Finset.sum_range_succ, Finset.sum_add_distrib]
    rw [sum_rows f N, show 8 * (N + 1) = 8 * N + 8 by ring, Finset.sum_range_add, Finset.sum_range (n := 8)]
    simp only [mul_comm]

omit hqs hq hv1 hks0 hvs0 hks hvs in
/-- What is stored, from the kept sums: the weighted sum over the sum of the weights. -/
theorem outV_eq {sc : ℕ → EReal} {vh : Fin 128 → ℕ → EReal} (N : ℕ) (acc : FVec Ideal S128x256 .f32) (l : FVec Ideal S8x256 .f32) (m : FVec Ideal S1x256 .f32)
    (h : St sc vh N acc l m q) (d : Fin 128) :
    outV (F := Ideal) arg10 arg11 acc l (ix3 0 q d)
      = Ideal.div (∑ k ∈ Finset.range (128 * N), W (sc k) ((Finset.range (128 * N)).sup sc) * vh d k)
          (∑ k ∈ Finset.range (128 * N), W (sc k) ((Finset.range (128 * N)).sup sc)) := by
  obtain ⟨hm, hl, ha⟩ := h
  unfold outV
  have e1 := View.readCov_cons_toLoadRect (Val := Elt Ideal) arg10.view R10 acc []
  have e2 := View.readCov_cons_toLoadRect (Val := Elt Ideal) arg11.view R11 l []
  rw [e1, e2, pay3_apply, ha d, ← hm]
  congr 1
  rw [Finset.sum_congr rfl fun r _ => hl r, sum_rows (fun k => W (sc k) (m (ix2 0 q)))]
  congr 2
  omega
end L

/-- The block the body stores, from the operands' blocks: at query `q` of the pair and lane `d`, the softmax-weighted
sum of the values over the keys up to the pair's end, the hidden keys at weight zero. -/
theorem body_value (X3 : FVec Ideal S1x256x128 .fp8e4m3) (X4 : FVec Ideal S1x32768x128 .fp8e4m3) (X5 : FVec Ideal S1x1x128x32768 .fp8e4m3) (X6 X7 X8 : FVec Ideal S1x1x256x128 .f32)
    (q : Fin 256) (qs : ℝ) (hqs : 0 < qs)
    (hX6 : ∀ (h1 : 2 * (i 2).val + q.val / 128 < 256) (h2 : q.val % 128 < 128), X6 (ix4 0 0 ⟨2 * (i 2).val + q.val / 128, h1⟩ ⟨q.val % 128, h2⟩) = (qs : EReal))
    (ks vs : Fin 256 → ℝ) (hks0 : ∀ b, 0 < ks b) (hvs0 : ∀ b, 0 < vs b)
    (hks : ∀ b l, X7 (ix4 0 0 b l) = (ks b : EReal)) (hvs : ∀ b l, X8 (ix4 0 0 b l) = (vs b : EReal)) (d : Fin 128) :
    (bodyRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread X3) (harg4.unread X4) (harg5.unread X5) (harg6.unread X6) (harg7.unread X7) (harg8.unread X8)).1 (ix3 0 q d)
      = Ideal.div (∑ k ∈ Finset.range (256 * ((i 2).val + 1)), W (scB X3 X4 qs ks (i 2).val q k) ((Finset.range (256 * ((i 2).val + 1))).sup (scB X3 X4 qs ks (i 2).val q)) * vhB X5 vs d k)
          (∑ k ∈ Finset.range (256 * ((i 2).val + 1)), W (scB X3 X4 qs ks (i 2).val q k) ((Finset.range (256 * ((i 2).val + 1))).sup (scB X3 X4 qs ks (i 2).val q))) := by
  have hi : (i 2).val < 128 := (i 2).isLt
  have eN : 256 * ((i 2).val + 1) = 128 * (8 * ((i 2).val / 4) + 2 * ((i 2).val % 4) + 2) := by omega
  have hv1 : ∀ k, k0_pay226 (View.readAt (Elt Ideal) arg3.view (Rect.unit (s := S1x256x128) ![0, 0, 0] S1x256x128.size inb_S1x256x128_S1x256x128_0_0_0).toLoadRect (harg3.unread X3)) (ix2 q k) = X3 (ix3 0 q k) := by
    intro k
    rw [pay226_apply]
    refine (read3 (Val := Elt Ideal) 256 harg3 X3 _ _ 0 rfl q k (by omega)).trans ?_
    congr 2
    apply Fin.ext
    simp
  have hq : k0_pay227 (View.readAt (Elt Ideal) arg6.view (Rect.unit (s := S1x1x256x128) (k0_off1 i 0#32) S1x1x1x128.size (k0_off1_inb i 0)).toLoadRect (harg6.unread X6)) (View.readAt (Elt Ideal) arg6.view (Rect.unit (s := S1x1x256x128) (k0_off1 i 1#32) S1x1x1x128.size (k0_off1_inb i 1)).toLoadRect (harg6.unread X6)) (ix2 0 q) = (qs : EReal) := by
    rw [pay227_apply]
    split
    · rename_i h
      refine (read4r (Val := Elt Ideal) 1 harg6 X6 _ _ (2 * (i 2).val) (off1_eq i).1 0 ⟨q.val, h⟩ (by simp only [Fin.val_zero]; omega)).trans ?_
      rw [← hX6 (by omega) (by omega)]
      congr 2 <;> apply Fin.ext <;> simp only [Fin.val_zero] <;> omega
    · rename_i h
      refine (read4r (Val := Elt Ideal) 1 harg6 X6 _ _ (2 * (i 2).val + 1) (off1_eq i).2 0 ⟨q.val - 128, by omega⟩ (by simp only [Fin.val_zero]; omega)).trans ?_
      rw [← hX6 (by omega) (by omega)]
      congr 2 <;> apply Fin.ext <;> simp only [Fin.val_zero] <;> omega
  rw [eN, bodyRun_eq]
  refine outV_eq arg10 arg11 q _ _ _ _ (TD_step _ _ _ _ _ _ (n := 8 * ((i 2).val / 4) + 2 * ((i 2).val % 4)) _ _ _ _ _ _ _ _ _ _ _ q ?_ qs hqs hq
    (fun b => ks ⟨8 * ((i 2).val / 4) + 2 * ((i 2).val % 4) + b.val, by omega⟩) (fun b => vs ⟨8 * ((i 2).val / 4) + 2 * ((i 2).val % 4) + b.val, by omega⟩)
      (fun _ => hks0 _) (fun _ => hvs0 _) ?_ ?_ ?_ ?_) d
  · rw [a3_eq, l3_eq, m3_eq, a1_eq, l1_eq, m1_eq]
    have t1 := trips1 i
    have t3 := trips3 i
    have h1 := loop1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) _ _ (bodyRun.sl.v25 i) 8#32 (bodyRun.sl.v26 i) (bodyRun.sl.v28 i) X3 X4 X5 X7 X8
      (arg10.view.writes (Elt Ideal) arg10.view.junk [⟨R10, (k0_pay228 : FVec Ideal S128x256 .f32)⟩]) (arg11.view.writes (Elt Ideal) arg11.view.junk [⟨R11, (k0_pay229 : FVec Ideal S8x256 .f32)⟩]) (arg12.view.writes (Elt Ideal) arg12.view.junk [⟨R12, (k0_pay230 : FVec Ideal S1x256 .f32)⟩])
      q qs hqs hq hv1 ks vs hks0 hvs0 hks hvs (n0 := 0) rfl ?_ _ le_rfl
    · have h3 := loop3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) _ _ (bodyRun.sl.v25 i) 8#32 (bodyRun.sl.v26 i) (bodyRun.sl.v28 i) X3 X4 X5 X7 X8
        _ _ _ q qs hqs hq hv1 ks vs hks0 hvs0 hks hvs (bodyRun.sl.v48 i) (n0 := 0 + 8 * (k0_t1_loop i).trips) (by rw [t1, Nat.zero_add]) h1 _ le_rfl
      have e2 : 0 + 8 * (k0_t1_loop i).trips + 2 * (k0_t3_loop i).trips = 8 * ((i 2).val / 4) + 2 * ((i 2).val % 4) := by rw [t1, t3, Nat.zero_add]
      rw [e2] at h3
      exact h3
    · rw [read_stored, read_stored, read_stored]
      refine ⟨?_, ?_, ?_⟩
      · rw [pay230_apply]; simp
      · intro r
        rw [pay229_apply]; simp
      · intro d
        rw [pay228_apply]; simp
  · intro b l
    refine (read4r (Val := Elt Ideal) 2 harg7 X7 _ _ (2 * (i 2).val) (off15_eq i) b l (by omega)).trans ?_
    rw [hks]
    congr 3
    simp only []
    omega
  · intro b l
    refine (read4r (Val := Elt Ideal) 2 harg8 X8 _ _ (2 * (i 2).val) (off15_eq i) b l (by omega)).trans ?_
    rw [hvs]
    congr 3
    simp only []
    omega
  · intro b j
    have e1 : (128 * (8 * ((i 2).val / 4) + 2 * ((i 2).val % 4) + b.val) + j.val) / 128 = 8 * ((i 2).val / 4) + 2 * ((i 2).val % 4) + b.val := by omega
    have e2 : 128 * (8 * ((i 2).val / 4) + 2 * ((i 2).val % 4) + b.val) + j.val = 256 * (i 2).val + (b.val * 128 + j.val) := by omega
    rw [mask_eq i _ _ (by omega) (by omega)]
    unfold scB
    rw [dif_pos (by omega)]
    simp only [e1, decide_eq_true_eq]
    simp only [e2, Nat.add_le_add_iff_left]
    congr 2
    refine Finset.sum_congr rfl fun d _ => ?_
    rw [hv1]
    congr 1
    exact (read3 (Val := Elt Ideal) 256 harg4 X4 _ _ (256 * (i 2).val) (off14_eq i) ⟨b.val * 128 + j.val, by omega⟩ d (by simp only []; omega)).symm
  · intro b hb d j
    have e1 : (128 * (8 * ((i 2).val / 4) + 2 * ((i 2).val % 4) + b.val) + j.val) / 128 = 8 * ((i 2).val / 4) + 2 * ((i 2).val % 4) + b.val := by omega
    unfold vhB
    rw [dif_pos (by omega)]
    simp only [e1]
    congr 1
    refine Eq.trans ?_ (read4c (Val := Elt Ideal) 128 harg5 X5 _ _ (256 * (i 2).val + 128 * (b2 b).val) (off16_eq i (b2 b)) d j (by simp only [b2_val b hb]; omega)).symm
    congr 2
    apply Fin.ext
    simp only [b2_val b hb]
    omega
end Trip

end Cert.KernelIdeal.Hand

end
-- ==== Proof.Out.lean ====
module

public import proofs.«01_k».proof.Proof.Loops
public import proofs.«01_k».proof.Proof.Run
public import Idealize.ShloMosaic.Lib.Pipeline.ValueKit

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic

variable (m : (ℓ : Loc nD τ sig) → Buf (Elt Ideal) ℓ)

/-- Window 0's block index at a grid point. -/
theorem ix_0 (t : Fin cfg0.N) : win0_0.index t = ![(grid0.coords t 0).val, (grid0.coords t 2).val, (grid0.coords t 1).val] :=
  (by decide +kernel : ∀ t : Fin grid0.N, win0_0.index t = ![(grid0.coords t 0).val, (grid0.coords t 2).val, (grid0.coords t 1).val]) t
/-- Window 1's block index at a grid point. -/
theorem ix_1 (t : Fin cfg0.N) : win0_1.index t = ![(grid0.coords t 0).val, 0, (grid0.coords t 1).val] :=
  (by decide +kernel : ∀ t : Fin grid0.N, win0_1.index t = ![(grid0.coords t 0).val, 0, (grid0.coords t 1).val]) t
/-- Window 2's block index at a grid point. -/
theorem ix_2 (t : Fin cfg0.N) : win0_2.index t = ![(grid0.coords t 0).val, (grid0.coords t 1).val, 0, 0] :=
  (by decide +kernel : ∀ t : Fin grid0.N, win0_2.index t = ![(grid0.coords t 0).val, (grid0.coords t 1).val, 0, 0]) t
/-- Window 3's block index at a grid point. -/
theorem ix_3 (t : Fin cfg0.N) : win0_3.index t = ![(grid0.coords t 0).val, (grid0.coords t 1).val, 0, 0] :=
  (by decide +kernel : ∀ t : Fin grid0.N, win0_3.index t = ![(grid0.coords t 0).val, (grid0.coords t 1).val, 0, 0]) t
/-- Window 4's block index at a grid point. -/
theorem ix_4 (t : Fin cfg0.N) : win0_4.index t = ![(grid0.coords t 0).val, (grid0.coords t 1).val, 0, 0] :=
  (by decide +kernel : ∀ t : Fin grid0.N, win0_4.index t = ![(grid0.coords t 0).val, (grid0.coords t 1).val, 0, 0]) t
/-- Window 5's block index at a grid point. -/
theorem ix_5 (t : Fin cfg0.N) : win0_5.index t = ![(grid0.coords t 0).val, (grid0.coords t 1).val, 0, 0] :=
  (by decide +kernel : ∀ t : Fin grid0.N, win0_5.index t = ![(grid0.coords t 0).val, (grid0.coords t 1).val, 0, 0]) t
/-- The result window's block index at a grid point. -/
theorem ix_6 (t : Fin cfg0.N) : win0_6.index t = ![(grid0.coords t 0).val, (grid0.coords t 2).val, (grid0.coords t 1).val] :=
  (by decide +kernel : ∀ t : Fin grid0.N, win0_6.index t = ![(grid0.coords t 0).val, (grid0.coords t 2).val, (grid0.coords t 1).val]) t

/-- The queries' block at a point, from the argument. -/
theorem blk0 (c : Dev nD) (t : Fin cfg0.N) (q : Fin 256) (d : Fin 128) (h1 h2 h3) :
    iblk m c 0 t (ix3 0 q d) = m ((c.tc : Thread nD τ).loc main_arg0) (ix3 ⟨(grid0.coords t 0).val, h1⟩ ⟨256 * (grid0.coords t 2).val + q.val, h2⟩ ⟨128 * (grid0.coords t 1).val + d.val, h3⟩) := by
  rw [← V_main_arg0 m c]
  blk_simp [iblk]
  blk_ext [ix_0]

/-- The keys' block at a point. -/
theorem blk1 (c : Dev nD) (t : Fin cfg0.N) (k : Fin 32768) (d : Fin 128) (h1 h3) :
    iblk m c 1 t (ix3 0 k d) = m ((c.tc : Thread nD τ).loc main_arg1) (ix3 ⟨(grid0.coords t 0).val, h1⟩ k ⟨128 * (grid0.coords t 1).val + d.val, h3⟩) := by
  rw [← V_main_arg1 m c]
  blk_simp [iblk]
  blk_ext [ix_1]

/-- The values' block at a point. -/
theorem blk2 (c : Dev nD) (t : Fin cfg0.N) (d : Fin 128) (k : Fin 32768) (h1 h3) :
    iblk m c 2 t (ix4 0 0 d k) = m ((c.tc : Thread nD τ).loc main_arg2) (ix4 ⟨(grid0.coords t 0).val, h1⟩ ⟨(grid0.coords t 1).val, h3⟩ d k) := by
  rw [← V_main_arg2 m c]
  blk_simp [iblk]
  blk_ext [ix_2]

/-- The queries' scales as the kernel's operand holds them: transposed and repeated over the lanes. -/
theorem V_v2 (c : Dev nD) : V m c main_v2 = broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (m ((c.tc : Thread nD τ).loc main_arg3)) transposes_S2x256x16_S2x16x256_0_2_1)) := by
  rfl

end Cert.KernelIdeal.Hand

end
-- ==== Proof.Soft.lean ====
module

public import proofs.«01_k».proof.Proof.Pays

@[expose] public section

noncomputable section

namespace Cert.Attn

open Idealize.ShloMosaic Cert.KernelIdeal.Hand

/-- The softmax-weighted sum of the values over the first `N` keys. -/
def soft (N : ℕ) (sc vh : ℕ → EReal) : EReal :=
  Ideal.div (∑ k ∈ Finset.range N, W (sc k) ((Finset.range N).sup sc) * vh k) (∑ k ∈ Finset.range N, W (sc k) ((Finset.range N).sup sc))

/-- Keys whose score is at the bottom do not count. -/
theorem soft_eq {sc vh : ℕ → EReal} {N N' : ℕ} (h : N ≤ N') (hb : ∀ k, N ≤ k → sc k = ⊥) : soft N' sc vh = soft N sc vh := by
  have hs : Finset.range N ⊆ Finset.range N' := Finset.range_subset_range.2 h
  have e : (Finset.range N').sup sc = (Finset.range N).sup sc := by
    apply le_antisymm
    · refine Finset.sup_le fun k _ => ?_
      by_cases hk : k < N
      · exact Finset.le_sup (f := sc) (Finset.mem_range.2 hk)
      · rw [hb k (not_lt.1 hk)]; exact bot_le
    · exact Finset.sup_mono hs
  have z : ∀ k ∈ Finset.range N', k ∉ Finset.range N → sc k = ⊥ := fun k _ hk => hb k (not_lt.1 (by simpa using hk))
  unfold soft
  rw [e, Finset.sum_subset hs fun k hk hk' => by rw [z k hk hk', W_bot, zero_mul], Finset.sum_subset hs fun k hk hk' => by rw [z k hk hk', W_bot]]

/-- The score of key `k` for query `s` of batch entry `b` and head `h`: hidden keys at the bottom. -/
def scG (a0 a1 : (⟨3, ![2, 32768, 2048]⟩ : Shape).Idx → EReal) (a3 a4 : (⟨3, ![2, 256, 16]⟩ : Shape).Idx → EReal) (b : Fin 2) (h : Fin 16) (s : Fin 32768) (k : ℕ) : EReal :=
  if hk : k < 32768 then
    if k ≤ s.val then
      (∑ d : Fin 128, a0 (ix3 b s ⟨128 * h.val + d.val, by omega⟩) * a1 (ix3 b ⟨k, hk⟩ ⟨128 * h.val + d.val, by omega⟩))
        * (((a3 (ix3 b ⟨s.val / 128, by omega⟩ h)).toReal * (a4 (ix3 b ⟨k / 128, by omega⟩ h)).toReal * SM : ℝ) : EReal)
    else ⊥
  else ⊥

/-- The value of key `k` at lane `d`. -/
def vhG (a2 : (⟨4, ![2, 16, 128, 32768]⟩ : Shape).Idx → EReal) (a5 : (⟨3, ![2, 256, 16]⟩ : Shape).Idx → EReal) (b : Fin 2) (h : Fin 16) (d : Fin 128) (k : ℕ) : EReal :=
  if hk : k < 32768 then a2 (ix4 b h d ⟨k, hk⟩) * (((a5 (ix3 b ⟨k / 128, by omega⟩ h)).toReal : ℝ) : EReal) else 0

/-- The attention's result at query `s`, lane `e` of the row of heads. -/
def attn (a0 a1 : (⟨3, ![2, 32768, 2048]⟩ : Shape).Idx → EReal) (a2 : (⟨4, ![2, 16, 128, 32768]⟩ : Shape).Idx → EReal)
    (a3 a4 a5 : (⟨3, ![2, 256, 16]⟩ : Shape).Idx → EReal) (b : Fin 2) (h : Fin 16) (s : Fin 32768) (d : Fin 128) : EReal :=
  soft 32768 (scG a0 a1 a3 a4 b h s) (vhG a2 a5 b h d)

end Cert.Attn

end
-- ==== Proof.Arr.lean ====
module

public import proofs.«01_k».proof.Proof.Out
public import proofs.«01_k».proof.Proof.Soft

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic

variable (m : (ℓ : Loc nD τ sig) → Buf (Elt Ideal) ℓ)

/-- The keys' scales as the kernel's operand holds them: transposed and repeated over the lanes. -/
theorem V_v5 (c : Dev nD) : V m c main_v5 = broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (m ((c.tc : Thread nD τ).loc main_arg4)) transposes_S2x256x16_S2x16x256_0_2_1)) := by
  rfl

/-- The values' scales as the kernel's operand holds them. -/
theorem V_v8 (c : Dev nD) : V m c main_v8 = broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (m ((c.tc : Thread nD τ).loc main_arg5)) transposes_S2x256x16_S2x16x256_0_2_1)) := by
  rfl

/-- The scales, transposed and repeated over the lanes, at an index. -/
theorem spread_apply (x : (⟨S2x256x16, .f32⟩ : BufTy).Contents (Elt Ideal)) (b : Fin 2) (h : Fin 16) (k : Fin 256) (l : Fin 128) :
    broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] x transposes_S2x256x16_S2x16x256_0_2_1)) (ix4 b h k l) = x (ix3 b k h) := by
  refine congrArg x (funext fun a => Fin.ext ?_)
  match a with
  | ⟨0, _⟩ => rfl
  | ⟨1, _⟩ => rfl
  | ⟨2, _⟩ => rfl

/-- The queries' scales at a point. -/
theorem blk3 (c : Dev nD) (t : Fin cfg0.N) (b : Fin 256) (l : Fin 128) (h1 h3) :
    iblk m c 3 t (ix4 0 0 b l) = m ((c.tc : Thread nD τ).loc main_arg3) (ix3 ⟨(grid0.coords t 0).val, h1⟩ b ⟨(grid0.coords t 1).val, h3⟩) := by
  have e : iblk m c 3 t (ix4 0 0 b l) = V m c main_v2 (ix4 ⟨(grid0.coords t 0).val, h1⟩ ⟨(grid0.coords t 1).val, h3⟩ b l) := by
    blk_simp [iblk]
    blk_ext [ix_3]
  rw [e, V_v2, spread_apply]

/-- The keys' scales at a point. -/
theorem blk4 (c : Dev nD) (t : Fin cfg0.N) (b : Fin 256) (l : Fin 128) (h1 h3) :
    iblk m c 4 t (ix4 0 0 b l) = m ((c.tc : Thread nD τ).loc main_arg4) (ix3 ⟨(grid0.coords t 0).val, h1⟩ b ⟨(grid0.coords t 1).val, h3⟩) := by
  have e : iblk m c 4 t (ix4 0 0 b l) = V m c main_v5 (ix4 ⟨(grid0.coords t 0).val, h1⟩ ⟨(grid0.coords t 1).val, h3⟩ b l) := by
    blk_simp [iblk]
    blk_ext [ix_4]
  rw [e, V_v5, spread_apply]

/-- The values' scales at a point. -/
theorem blk5 (c : Dev nD) (t : Fin cfg0.N) (b : Fin 256) (l : Fin 128) (h1 h3) :
    iblk m c 5 t (ix4 0 0 b l) = m ((c.tc : Thread nD τ).loc main_arg5) (ix3 ⟨(grid0.coords t 0).val, h1⟩ b ⟨(grid0.coords t 1).val, h3⟩) := by
  have e : iblk m c 5 t (ix4 0 0 b l) = V m c main_v8 (ix4 ⟨(grid0.coords t 0).val, h1⟩ ⟨(grid0.coords t 1).val, h3⟩ b l) := by
    blk_simp [iblk]
    blk_ext [ix_5]
  rw [e, V_v8, spread_apply]

/-- The block the body leaves is the one it computes. -/
theorem out6_apply (c : Dev nD) (t : Fin cfg0.N) (q : Fin 256) (d : Fin 128) : out6 m c t (ix3 0 q d) = (runAt m c t).1 (ix3 0 q d) := by
  refine Eq.trans (congrArg (View.canon _) ?_) (View.canon_cons_emb R9 _ [] (ix3 0 q d))
  funext a
  apply Fin.ext
  match a with
  | ⟨0, _⟩ => show 0 = 0 + 1 * 0; rfl
  | ⟨1, _⟩ => show q.val = 0 + 1 * q.val; omega
  | ⟨2, _⟩ => show d.val = 0 + 1 * d.val; omega

/-- The attention of the kernel's arguments. -/
abbrev attnOf (c : Dev nD) := attn (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))

variable (c : Dev nD)
  (h3 : ∀ i, m ((c.tc : Thread nD τ).loc main_arg3) i = (((m ((c.tc : Thread nD τ).loc main_arg3) i : EReal).toReal : ℝ) : EReal) ∧ 0 < (m ((c.tc : Thread nD τ).loc main_arg3) i : EReal).toReal)
  (h4 : ∀ i, m ((c.tc : Thread nD τ).loc main_arg4) i = (((m ((c.tc : Thread nD τ).loc main_arg4) i : EReal).toReal : ℝ) : EReal) ∧ 0 < (m ((c.tc : Thread nD τ).loc main_arg4) i : EReal).toReal)
  (h5 : ∀ i, m ((c.tc : Thread nD τ).loc main_arg5) i = (((m ((c.tc : Thread nD τ).loc main_arg5) i : EReal).toReal : ℝ) : EReal) ∧ 0 < (m ((c.tc : Thread nD τ).loc main_arg5) i : EReal).toReal)

include h3 h4 h5 in
/-- The block the body leaves at a point is the attention of that point's queries. -/
theorem out_value (t : Fin cfg0.N) (q : Fin 256) (d : Fin 128) (h1 : (grid0.coords t 0).val < 2) (h2 : 256 * (grid0.coords t 2).val + q.val < 32768) (h6 : (grid0.coords t 1).val < 16) :
    out6 m c t (ix3 0 q d) = attnOf m c ⟨(grid0.coords t 0).val, h1⟩ ⟨(grid0.coords t 1).val, h6⟩ ⟨256 * (grid0.coords t 2).val + q.val, h2⟩ d := by
  rw [out6_apply]
  have hi : (grid0.coords t 2).val < 128 := (grid0.coords t 2).isLt
  have hq := q.isLt
  refine (body_value c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) q
    (m ((c.tc : Thread nD τ).loc main_arg3) (ix3 ⟨(grid0.coords t 0).val, h1⟩ ⟨(256 * (grid0.coords t 2).val + q.val) / 128, by omega⟩ ⟨(grid0.coords t 1).val, h6⟩) : EReal).toReal ((h3 _).2) ?_
    (fun b => (m ((c.tc : Thread nD τ).loc main_arg4) (ix3 ⟨(grid0.coords t 0).val, h1⟩ b ⟨(grid0.coords t 1).val, h6⟩) : EReal).toReal)
    (fun b => (m ((c.tc : Thread nD τ).loc main_arg5) (ix3 ⟨(grid0.coords t 0).val, h1⟩ b ⟨(grid0.coords t 1).val, h6⟩) : EReal).toReal)
    (fun _ => (h4 _).2) (fun _ => (h5 _).2) (fun b l => (blk4 m c t b l h1 h6).trans (h4 _).1) (fun b l => (blk5 m c t b l h1 h6).trans (h5 _).1) d).trans ?_
  · intro g1 g2
    refine (blk3 m c t _ _ h1 h6).trans (Eq.trans ?_ (h3 _).1)
    have e : (⟨2 * (grid0.coords t 2).val + q.val / 128, g1⟩ : Fin 256) = ⟨(256 * (grid0.coords t 2).val + q.val) / 128, by omega⟩ := Fin.ext (by dsimp only; omega)
    rw [e]
  · have es : scB (iblk m c 0 t) (iblk m c 1 t) (m ((c.tc : Thread nD τ).loc main_arg3) (ix3 ⟨(grid0.coords t 0).val, h1⟩ ⟨(256 * (grid0.coords t 2).val + q.val) / 128, by omega⟩ ⟨(grid0.coords t 1).val, h6⟩) : EReal).toReal
        (fun b => (m ((c.tc : Thread nD τ).loc main_arg4) (ix3 ⟨(grid0.coords t 0).val, h1⟩ b ⟨(grid0.coords t 1).val, h6⟩) : EReal).toReal) (grid0.coords t 2).val q
        = scG (m ((c.tc : Thread nD τ).loc main_arg0)) (m ((c.tc : Thread nD τ).loc main_arg1)) (m ((c.tc : Thread nD τ).loc main_arg3)) (m ((c.tc : Thread nD τ).loc main_arg4)) ⟨(grid0.coords t 0).val, h1⟩ ⟨(grid0.coords t 1).val, h6⟩ ⟨256 * (grid0.coords t 2).val + q.val, h2⟩ := by
      funext k
      unfold scB scG
      by_cases hk : k < 32768
      · rw [dif_pos hk, dif_pos hk]
        refine if_congr Iff.rfl (congrArg₂ (· * ·) (Finset.sum_congr rfl fun e _ => ?_) rfl) rfl
        exact (mul_comm (G := EReal) _ _).trans (congrArg₂ (fun x y : EReal => x * y) (blk0 m c t q e h1 h2 (by have := e.isLt; omega)) (blk1 m c t ⟨k, hk⟩ e h1 (by have := e.isLt; omega)))
      · rw [dif_neg hk, dif_neg hk]
    have ev : vhB (iblk m c 2 t) (fun b => (m ((c.tc : Thread nD τ).loc main_arg5) (ix3 ⟨(grid0.coords t 0).val, h1⟩ b ⟨(grid0.coords t 1).val, h6⟩) : EReal).toReal) d
        = vhG (m ((c.tc : Thread nD τ).loc main_arg2)) (m ((c.tc : Thread nD τ).loc main_arg5)) ⟨(grid0.coords t 0).val, h1⟩ ⟨(grid0.coords t 1).val, h6⟩ d := by
      funext k
      unfold vhB vhG
      by_cases hk : k < 32768
      · rw [dif_pos hk, dif_pos hk]
        exact congrArg₂ (· * ·) (blk2 m c t d ⟨k, hk⟩ h1 h6) rfl
      · rw [dif_neg hk, dif_neg hk]
    rw [es, ev]
    refine (soft_eq (N := 256 * ((grid0.coords t 2).val + 1)) (N' := 32768) (by omega) fun k hk => ?_).symm
    unfold scG
    split
    · rw [if_neg (by show ¬ k ≤ 256 * (grid0.coords t 2).val + q.val; omega)]
    · rfl

include h3 h4 h5 in
/-- The kernel's result array is the attention of its arguments. -/
theorem arr_value : (dats m 0 c).arrAt 6 cfg0.N = fun j : S2x32768x2048.Idx => attnOf m c ⟨(j 0).val, (j 0).isLt⟩ ⟨(j 2).val / 128, by have : (j 2).val < 2048 := (j 2).isLt; omega⟩ ⟨(j 1).val, (j 1).isLt⟩ ⟨(j 2).val % 128, by omega⟩ := by
  refine (dats m 0 c).arrAt_eq_of_covers 6 _ (by decide +kernel) fun t hf y => ?_
  blk_simp
  rw [after0_6]
  have g0 : (grid0.coords t 0).val < 2 := (grid0.coords t 0).isLt
  have g1 : (grid0.coords t 1).val < 16 := (grid0.coords t 1).isLt
  have g2 : (grid0.coords t 2).val < 128 := (grid0.coords t 2).isLt
  have y1 : (y 1).val < 256 := (y 1).isLt
  have y2 : (y 2).val < 128 := (y 2).isLt
  have ey : y = ix3 0 ⟨(y 1).val, y1⟩ ⟨(y 2).val, y2⟩ := by
    funext a
    match a with
    | ⟨0, _⟩ => exact Subsingleton.elim (α := Fin 1) _ _
    | ⟨1, _⟩ => rfl
    | ⟨2, _⟩ => rfl
  have y0 : (y 0).val = 0 := by have : (y 0).val < 1 := (y 0).isLt; omega
  have ev := out_value m c h3 h4 h5 t ⟨(y 1).val, y1⟩ ⟨(y 2).val, y2⟩ g0 (by dsimp only; omega) g1
  rw [← ey] at ev
  refine ev.trans ?_
  have i0 : win0_6.index t 0 = (grid0.coords t 0).val := by rw [ix_6]; rfl
  have i1 : win0_6.index t 1 = (grid0.coords t 2).val := by rw [ix_6]; rfl
  have i2 : win0_6.index t 2 = (grid0.coords t 1).val := by rw [ix_6]; rfl
  refine congr (congr (congr (congrArg _ (Fin.ext ?_)) (Fin.ext ?_)) (Fin.ext ?_)) (Fin.ext ?_)
  · dsimp only; omega
  · dsimp only; omega
  · dsimp only; omega
  · dsimp only; omega

end Cert.KernelIdeal.Hand

end
-- ==== Proof.RefRun.lean ====
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v0_0` (window 3's): not opened here. -/
def reg_main_v0_0 (c : Dev nD) : Buf (Elt F) ((c.tc : Thread nD τ).loc main_v0_0) := (Gen.dats m 0 c).arrAt 3 cfg0.N
/-- What the kernel region leaves in its result array `main_v0_1` (window 4's): not opened here. -/
def reg_main_v0_1 (c : Dev nD) : Buf (Elt F) ((c.tc : Thread nD τ).loc main_v0_1) := (Gen.dats m 0 c).arrAt 4 cfg0.N
/-- What the kernel region leaves in its result array `main_v0_2` (window 5's): not opened here. -/
def reg_main_v0_2 (c : Dev nD) : Buf (Elt F) ((c.tc : Thread nD τ).loc main_v0_2) := (Gen.dats m 0 c).arrAt 5 cfg0.N

/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at argument `main_arg4`: as launched. -/
theorem exit_main_arg4 (c : Dev nD) : exitV m c (Proc.devRef .tc main_arg4) = m ((c.tc : Thread nD τ).loc main_arg4) :=
  (Pipeline.withArrays_of_ne _ c (Gen.V0 m c) _ main_arg4 (by exact (by decide : ∀ w, Pipeline.arrRef spec0 w ≠ main_arg4))).trans (Gen.V_main_arg4 m c)
/-- The exit contents at argument `main_arg5`: as launched. -/
theorem exit_main_arg5 (c : Dev nD) : exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans (Gen.V_main_arg5 m c)
/-- The exit contents at the region's result array `main_v0_0`. -/
theorem exit_main_v0_0 (c : Dev nD) : exitV m c (Proc.devRef .tc main_v0_0) = reg_main_v0_0 m c :=
  Pipeline.withArrays_arr spec0 Gen.launch0.win.arr_inj c (Gen.V0 m c) _ 3
/-- The exit contents at the region's result array `main_v0_1`. -/
theorem exit_main_v0_1 (c : Dev nD) : exitV m c (Proc.devRef .tc main_v0_1) = reg_main_v0_1 m c :=
  Pipeline.withArrays_arr spec0 Gen.launch0.win.arr_inj c (Gen.V0 m c) _ 4
/-- The exit contents at the region's result array `main_v0_2`. -/
theorem exit_main_v0_2 (c : Dev nD) : exitV m c (Proc.devRef .tc main_v0_2) = reg_main_v0_2 m c :=
  Pipeline.withArrays_arr spec0 Gen.launch0.win.arr_inj c (Gen.V0 m c) _ 5

set_option maxRecDepth 8192 in
/-- `main_v46`'s composed term of the arguments and the region's results (named: it is long). -/
def res_main_v46 (c : Dev nD) : Buf (Elt F) ((c.tc : Thread nD τ).loc main_v46) :=
  truncf .bf16 (shapeCast _ (transpose S2x32768x16x128 [0, 2, 1, 3] (Host.divf (Host.dotGeneral dot_S2x16x32768x32768_S2x16x128x32768_S2x16x32768x128_3_3_2_2_01_01 none (Host.exp (subf (select (broadcastInDim S2x16x32768x32768 ![2, 3] bcast_S32768x32768_S2x16x32768x32768_2_3 (cmpi .sle (broadcastInDim S32768x32768 ![0, 1] bcast_S1x32768_S32768x32768_0_1 (broadcastInDim S1x32768 ![1] bcast_S32768_S1x32768_1 (iotaInDim S32768 32 0))) (broadcastInDim S32768x32768 ![0, 1] bcast_S32768x1_S32768x32768_0_1 (broadcastInDim S32768x1 ![0] bcast_S32768_S32768x1_0 (iotaInDim S32768 32 0))))) (mulf (Host.dotGeneral dot_S2x32768x16x128_S2x32768x16x128_S2x16x32768x32768_3_3_1_1_02_02 none (shapeCast _ (reg_main_v0_0 m c) shapeCasts_S2x32768x2048_S2x32768x16x128) (shapeCast _ (reg_main_v0_1 m c) shapeCasts_S2x32768x2048_S2x32768x16x128)) (mulf (mulf (broadcastInDim S2x16x32768x32768 ![0, 1, 2, 3] bcast_S2x16x32768x1_S2x16x32768x32768_0_1_2_3 (broadcastInDim S2x16x32768x1 ![0, 1, 2] bcast_S2x16x32768_S2x16x32768x1_0_1_2 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (m ((c.tc : Thread nD τ).loc main_arg3)) transposes_S2x256x16_S2x16x256_0_2_1))) shapeCasts_S2x16x256x128_S2x16x32768))) (broadcastInDim S2x16x32768x32768 ![0, 1, 2, 3] bcast_S2x16x1x32768_S2x16x32768x32768_0_1_2_3 (broadcastInDim S2x16x1x32768 ![0, 1, 3] bcast_S2x16x32768_S2x16x1x32768_0_1_3 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (m ((c.tc : Thread nD τ).loc main_arg4)) transposes_S2x256x16_S2x16x256_0_2_1))) shapeCasts_S2x16x256x128_S2x16x32768)))) (broadcastInDim S2x16x32768x32768 ![] bcast_S_S2x16x32768x32768 (constant S_ .f32 0x3DB504F3#32)))) (broadcastInDim S2x16x32768x32768 ![] bcast_S_S2x16x32768x32768 (id (constant S_ .f32 0xFF800000#32)))) (broadcastInDim S2x16x32768x32768 ![0, 1, 2, 3] bcast_S2x16x32768x1_S2x16x32768x32768_0_1_2_3 (broadcastInDim S2x16x32768x1 ![0, 1, 2] bcast_S2x16x32768_S2x16x32768x1_0_1_2 (Host.reduce FloatOps.maximumf (select (broadcastInDim S2x16x32768x32768 ![2, 3] bcast_S32768x32768_S2x16x32768x32768_2_3 (cmpi .sle (broadcastInDim S32768x32768 ![0, 1] bcast_S1x32768_S32768x32768_0_1 (broadcastInDim S1x32768 ![1] bcast_S32768_S1x32768_1 (iotaInDim S32768 32 0))) (broadcastInDim S32768x32768 ![0, 1] bcast_S32768x1_S32768x32768_0_1 (broadcastInDim S32768x1 ![0] bcast_S32768_S32768x1_0 (iotaInDim S32768 32 0))))) (mulf (Host.dotGeneral dot_S2x32768x16x128_S2x32768x16x128_S2x16x32768x32768_3_3_1_1_02_02 none (shapeCast _ (reg_main_v0_0 m c) shapeCasts_S2x32768x2048_S2x32768x16x128) (shapeCast _ (reg_main_v0_1 m c) shapeCasts_S2x32768x2048_S2x32768x16x128)) (mulf (mulf (broadcastInDim S2x16x32768x32768 ![0, 1, 2, 3] bcast_S2x16x32768x1_S2x16x32768x32768_0_1_2_3 (broadcastInDim S2x16x32768x1 ![0, 1, 2] bcast_S2x16x32768_S2x16x32768x1_0_1_2 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (m ((c.tc : Thread nD τ).loc main_arg3)) transposes_S2x256x16_S2x16x256_0_2_1))) shapeCasts_S2x16x256x128_S2x16x32768))) (broadcastInDim S2x16x32768x32768 ![0, 1, 2, 3] bcast_S2x16x1x32768_S2x16x32768x32768_0_1_2_3 (broadcastInDim S2x16x1x32768 ![0, 1, 3] bcast_S2x16x32768_S2x16x1x32768_0_1_3 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (m ((c.tc : Thread nD τ).loc main_arg4)) transposes_S2x256x16_S2x16x256_0_2_1))) shapeCasts_S2x16x256x128_S2x16x32768)))) (broadcastInDim S2x16x32768x32768 ![] bcast_S_S2x16x32768x32768 (constant S_ .f32 0x3DB504F3#32)))) (broadcastInDim S2x16x32768x32768 ![] bcast_S_S2x16x32768x32768 (id (constant S_ .f32 0xFF800000#32)))) (constant S_ .f32 0xFF800000#32) reducesTo_S2x16x32768x32768_S2x16x32768_d3 h_S_))))) (mulf (reg_main_v0_2 m c) (broadcastInDim S2x16x128x32768 ![0, 1, 2, 3] bcast_S2x16x1x32768_S2x16x128x32768_0_1_2_3 (broadcastInDim S2x16x1x32768 ![0, 1, 3] bcast_S2x16x32768_S2x16x1x32768_0_1_3 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (m ((c.tc : Thread nD τ).loc main_arg5)) transposes_S2x256x16_S2x16x256_0_2_1))) shapeCasts_S2x16x256x128_S2x16x32768))))) (broadcastInDim S2x16x32768x128 ![0, 1, 2, 3] bcast_S2x16x32768x1_S2x16x32768x128_0_1_2_3 (broadcastInDim S2x16x32768x1 ![0, 1, 2] bcast_S2x16x32768_S2x16x32768x1_0_1_2 (Host.reduceAdd (Host.exp (subf (select (broadcastInDim S2x16x32768x32768 ![2, 3] bcast_S32768x32768_S2x16x32768x32768_2_3 (cmpi .sle (broadcastInDim S32768x32768 ![0, 1] bcast_S1x32768_S32768x32768_0_1 (broadcastInDim S1x32768 ![1] bcast_S32768_S1x32768_1 (iotaInDim S32768 32 0))) (broadcastInDim S32768x32768 ![0, 1] bcast_S32768x1_S32768x32768_0_1 (broadcastInDim S32768x1 ![0] bcast_S32768_S32768x1_0 (iotaInDim S32768 32 0))))) (mulf (Host.dotGeneral dot_S2x32768x16x128_S2x32768x16x128_S2x16x32768x32768_3_3_1_1_02_02 none (shapeCast _ (reg_main_v0_0 m c) shapeCasts_S2x32768x2048_S2x32768x16x128) (shapeCast _ (reg_main_v0_1 m c) shapeCasts_S2x32768x2048_S2x32768x16x128)) (mulf (mulf (broadcastInDim S2x16x32768x32768 ![0, 1, 2, 3] bcast_S2x16x32768x1_S2x16x32768x32768_0_1_2_3 (broadcastInDim S2x16x32768x1 ![0, 1, 2] bcast_S2x16x32768_S2x16x32768x1_0_1_2 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (m ((c.tc : Thread nD τ).loc main_arg3)) transposes_S2x256x16_S2x16x256_0_2_1))) shapeCasts_S2x16x256x128_S2x16x32768))) (broadcastInDim S2x16x32768x32768 ![0, 1, 2, 3] bcast_S2x16x1x32768_S2x16x32768x32768_0_1_2_3 (broadcastInDim S2x16x1x32768 ![0, 1, 3] bcast_S2x16x32768_S2x16x1x32768_0_1_3 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (m ((c.tc : Thread nD τ).loc main_arg4)) transposes_S2x256x16_S2x16x256_0_2_1))) shapeCasts_S2x16x256x128_S2x16x32768)))) (broadcastInDim S2x16x32768x32768 ![] bcast_S_S2x16x32768x32768 (constant S_ .f32 0x3DB504F3#32)))) (broadcastInDim S2x16x32768x32768 ![] bcast_S_S2x16x32768x32768 (id (constant S_ .f32 0xFF800000#32)))) (broadcastInDim S2x16x32768x32768 ![0, 1, 2, 3] bcast_S2x16x32768x1_S2x16x32768x32768_0_1_2_3 (broadcastInDim S2x16x32768x1 ![0, 1, 2] bcast_S2x16x32768_S2x16x32768x1_0_1_2 (Host.reduce FloatOps.maximumf (select (broadcastInDim S2x16x32768x32768 ![2, 3] bcast_S32768x32768_S2x16x32768x32768_2_3 (cmpi .sle (broadcastInDim S32768x32768 ![0, 1] bcast_S1x32768_S32768x32768_0_1 (broadcastInDim S1x32768 ![1] bcast_S32768_S1x32768_1 (iotaInDim S32768 32 0))) (broadcastInDim S32768x32768 ![0, 1] bcast_S32768x1_S32768x32768_0_1 (broadcastInDim S32768x1 ![0] bcast_S32768_S32768x1_0 (iotaInDim S32768 32 0))))) (mulf (Host.dotGeneral dot_S2x32768x16x128_S2x32768x16x128_S2x16x32768x32768_3_3_1_1_02_02 none (shapeCast _ (reg_main_v0_0 m c) shapeCasts_S2x32768x2048_S2x32768x16x128) (shapeCast _ (reg_main_v0_1 m c) shapeCasts_S2x32768x2048_S2x32768x16x128)) (mulf (mulf (broadcastInDim S2x16x32768x32768 ![0, 1, 2, 3] bcast_S2x16x32768x1_S2x16x32768x32768_0_1_2_3 (broadcastInDim S2x16x32768x1 ![0, 1, 2] bcast_S2x16x32768_S2x16x32768x1_0_1_2 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (m ((c.tc : Thread nD τ).loc main_arg3)) transposes_S2x256x16_S2x16x256_0_2_1))) shapeCasts_S2x16x256x128_S2x16x32768))) (broadcastInDim S2x16x32768x32768 ![0, 1, 2, 3] bcast_S2x16x1x32768_S2x16x32768x32768_0_1_2_3 (broadcastInDim S2x16x1x32768 ![0, 1, 3] bcast_S2x16x32768_S2x16x1x32768_0_1_3 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (m ((c.tc : Thread nD τ).loc main_arg4)) transposes_S2x256x16_S2x16x256_0_2_1))) shapeCasts_S2x16x256x128_S2x16x32768)))) (broadcastInDim S2x16x32768x32768 ![] bcast_S_S2x16x32768x32768 (constant S_ .f32 0x3DB504F3#32)))) (broadcastInDim S2x16x32768x32768 ![] bcast_S_S2x16x32768x32768 (id (constant S_ .f32 0xFF800000#32)))) (constant S_ .f32 0xFF800000#32) reducesTo_S2x16x32768x32768_S2x16x32768_d3 h_S_))))) (constant S_ .f32 0x00000000#32) reducesTo_S2x16x32768x32768_S2x16x32768_d3 h_S_)))) transposes_S2x16x32768x128_S2x32768x16x128_0_2_1_3) shapeCasts_S2x32768x16x128_S2x32768x2048) bitsLt_bf16_f32

/-- `res_main_v46` by its position among the values @main returns, 0 counting from 0: the name for hand proofs to cite, since
    a re-print renumbers `main_v46`. An abbreviation: it unfolds to the `res_main_v46` that `run` states. -/
abbrev res_out0 (c : Dev nD) : Buf (Elt F) ((c.tc : Thread nD τ).loc main_v46) := res_main_v46 m c

set_option maxRecDepth 8192 in
set_option maxHeartbeats 2000000 in
/-- The later operations from any contents `V0`, read at result `main_v46`. -/
theorem tail_main_v46 (V0 : Valuation τ sig (Elt F)) :
    after (List.flatten [Gen.hostOps1, Gen.hostOps1_1, Gen.hostOps1_2]) V0 (Proc.devRef .tc main_v46) = truncf .bf16 (shapeCast _ (transpose S2x32768x16x128 [0, 2, 1, 3] (Host.divf (Host.dotGeneral dot_S2x16x32768x32768_S2x16x128x32768_S2x16x32768x128_3_3_2_2_01_01 none (Host.exp (subf (select (broadcastInDim S2x16x32768x32768 ![2, 3] bcast_S32768x32768_S2x16x32768x32768_2_3 (cmpi .sle (broadcastInDim S32768x32768 ![0, 1] bcast_S1x32768_S32768x32768_0_1 (broadcastInDim S1x32768 ![1] bcast_S32768_S1x32768_1 (iotaInDim S32768 32 0))) (broadcastInDim S32768x32768 ![0, 1] bcast_S32768x1_S32768x32768_0_1 (broadcastInDim S32768x1 ![0] bcast_S32768_S32768x1_0 (iotaInDim S32768 32 0))))) (mulf (Host.dotGeneral dot_S2x32768x16x128_S2x32768x16x128_S2x16x32768x32768_3_3_1_1_02_02 none (shapeCast _ (V0 (Proc.devRef .tc main_v0_0)) shapeCasts_S2x32768x2048_S2x32768x16x128) (shapeCast _ (V0 (Proc.devRef .tc main_v0_1)) shapeCasts_S2x32768x2048_S2x32768x16x128)) (mulf (mulf (broadcastInDim S2x16x32768x32768 ![0, 1, 2, 3] bcast_S2x16x32768x1_S2x16x32768x32768_0_1_2_3 (broadcastInDim S2x16x32768x1 ![0, 1, 2] bcast_S2x16x32768_S2x16x32768x1_0_1_2 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg3)) transposes_S2x256x16_S2x16x256_0_2_1))) shapeCasts_S2x16x256x128_S2x16x32768))) (broadcastInDim S2x16x32768x32768 ![0, 1, 2, 3] bcast_S2x16x1x32768_S2x16x32768x32768_0_1_2_3 (broadcastInDim S2x16x1x32768 ![0, 1, 3] bcast_S2x16x32768_S2x16x1x32768_0_1_3 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg4)) transposes_S2x256x16_S2x16x256_0_2_1))) shapeCasts_S2x16x256x128_S2x16x32768)))) (broadcastInDim S2x16x32768x32768 ![] bcast_S_S2x16x32768x32768 (constant S_ .f32 0x3DB504F3#32)))) (broadcastInDim S2x16x32768x32768 ![] bcast_S_S2x16x32768x32768 (id (constant S_ .f32 0xFF800000#32)))) (broadcastInDim S2x16x32768x32768 ![0, 1, 2, 3] bcast_S2x16x32768x1_S2x16x32768x32768_0_1_2_3 (broadcastInDim S2x16x32768x1 ![0, 1, 2] bcast_S2x16x32768_S2x16x32768x1_0_1_2 (Host.reduce FloatOps.maximumf (select (broadcastInDim S2x16x32768x32768 ![2, 3] bcast_S32768x32768_S2x16x32768x32768_2_3 (cmpi .sle (broadcastInDim S32768x32768 ![0, 1] bcast_S1x32768_S32768x32768_0_1 (broadcastInDim S1x32768 ![1] bcast_S32768_S1x32768_1 (iotaInDim S32768 32 0))) (broadcastInDim S32768x32768 ![0, 1] bcast_S32768x1_S32768x32768_0_1 (broadcastInDim S32768x1 ![0] bcast_S32768_S32768x1_0 (iotaInDim S32768 32 0))))) (mulf (Host.dotGeneral dot_S2x32768x16x128_S2x32768x16x128_S2x16x32768x32768_3_3_1_1_02_02 none (shapeCast _ (V0 (Proc.devRef .tc main_v0_0)) shapeCasts_S2x32768x2048_S2x32768x16x128) (shapeCast _ (V0 (Proc.devRef .tc main_v0_1)) shapeCasts_S2x32768x2048_S2x32768x16x128)) (mulf (mulf (broadcastInDim S2x16x32768x32768 ![0, 1, 2, 3] bcast_S2x16x32768x1_S2x16x32768x32768_0_1_2_3 (broadcastInDim S2x16x32768x1 ![0, 1, 2] bcast_S2x16x32768_S2x16x32768x1_0_1_2 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg3)) transposes_S2x256x16_S2x16x256_0_2_1))) shapeCasts_S2x16x256x128_S2x16x32768))) (broadcastInDim S2x16x32768x32768 ![0, 1, 2, 3] bcast_S2x16x1x32768_S2x16x32768x32768_0_1_2_3 (broadcastInDim S2x16x1x32768 ![0, 1, 3] bcast_S2x16x32768_S2x16x1x32768_0_1_3 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg4)) transposes_S2x256x16_S2x16x256_0_2_1))) shapeCasts_S2x16x256x128_S2x16x32768)))) (broadcastInDim S2x16x32768x32768 ![] bcast_S_S2x16x32768x32768 (constant S_ .f32 0x3DB504F3#32)))) (broadcastInDim S2x16x32768x32768 ![] bcast_S_S2x16x32768x32768 (id (constant S_ .f32 0xFF800000#32)))) (constant S_ .f32 0xFF800000#32) reducesTo_S2x16x32768x32768_S2x16x32768_d3 h_S_))))) (mulf (V0 (Proc.devRef .tc main_v0_2)) (broadcastInDim S2x16x128x32768 ![0, 1, 2, 3] bcast_S2x16x1x32768_S2x16x128x32768_0_1_2_3 (broadcastInDim S2x16x1x32768 ![0, 1, 3] bcast_S2x16x32768_S2x16x1x32768_0_1_3 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg5)) transposes_S2x256x16_S2x16x256_0_2_1))) shapeCasts_S2x16x256x128_S2x16x32768))))) (broadcastInDim S2x16x32768x128 ![0, 1, 2, 3] bcast_S2x16x32768x1_S2x16x32768x128_0_1_2_3 (broadcastInDim S2x16x32768x1 ![0, 1, 2] bcast_S2x16x32768_S2x16x32768x1_0_1_2 (Host.reduceAdd (Host.exp (subf (select (broadcastInDim S2x16x32768x32768 ![2, 3] bcast_S32768x32768_S2x16x32768x32768_2_3 (cmpi .sle (broadcastInDim S32768x32768 ![0, 1] bcast_S1x32768_S32768x32768_0_1 (broadcastInDim S1x32768 ![1] bcast_S32768_S1x32768_1 (iotaInDim S32768 32 0))) (broadcastInDim S32768x32768 ![0, 1] bcast_S32768x1_S32768x32768_0_1 (broadcastInDim S32768x1 ![0] bcast_S32768_S32768x1_0 (iotaInDim S32768 32 0))))) (mulf (Host.dotGeneral dot_S2x32768x16x128_S2x32768x16x128_S2x16x32768x32768_3_3_1_1_02_02 none (shapeCast _ (V0 (Proc.devRef .tc main_v0_0)) shapeCasts_S2x32768x2048_S2x32768x16x128) (shapeCast _ (V0 (Proc.devRef .tc main_v0_1)) shapeCasts_S2x32768x2048_S2x32768x16x128)) (mulf (mulf (broadcastInDim S2x16x32768x32768 ![0, 1, 2, 3] bcast_S2x16x32768x1_S2x16x32768x32768_0_1_2_3 (broadcastInDim S2x16x32768x1 ![0, 1, 2] bcast_S2x16x32768_S2x16x32768x1_0_1_2 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg3)) transposes_S2x256x16_S2x16x256_0_2_1))) shapeCasts_S2x16x256x128_S2x16x32768))) (broadcastInDim S2x16x32768x32768 ![0, 1, 2, 3] bcast_S2x16x1x32768_S2x16x32768x32768_0_1_2_3 (broadcastInDim S2x16x1x32768 ![0, 1, 3] bcast_S2x16x32768_S2x16x1x32768_0_1_3 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg4)) transposes_S2x256x16_S2x16x256_0_2_1))) shapeCasts_S2x16x256x128_S2x16x32768)))) (broadcastInDim S2x16x32768x32768 ![] bcast_S_S2x16x32768x32768 (constant S_ .f32 0x3DB504F3#32)))) (broadcastInDim S2x16x32768x32768 ![] bcast_S_S2x16x32768x32768 (id (constant S_ .f32 0xFF800000#32)))) (broadcastInDim S2x16x32768x32768 ![0, 1, 2, 3] bcast_S2x16x32768x1_S2x16x32768x32768_0_1_2_3 (broadcastInDim S2x16x32768x1 ![0, 1, 2] bcast_S2x16x32768_S2x16x32768x1_0_1_2 (Host.reduce FloatOps.maximumf (select (broadcastInDim S2x16x32768x32768 ![2, 3] bcast_S32768x32768_S2x16x32768x32768_2_3 (cmpi .sle (broadcastInDim S32768x32768 ![0, 1] bcast_S1x32768_S32768x32768_0_1 (broadcastInDim S1x32768 ![1] bcast_S32768_S1x32768_1 (iotaInDim S32768 32 0))) (broadcastInDim S32768x32768 ![0, 1] bcast_S32768x1_S32768x32768_0_1 (broadcastInDim S32768x1 ![0] bcast_S32768_S32768x1_0 (iotaInDim S32768 32 0))))) (mulf (Host.dotGeneral dot_S2x32768x16x128_S2x32768x16x128_S2x16x32768x32768_3_3_1_1_02_02 none (shapeCast _ (V0 (Proc.devRef .tc main_v0_0)) shapeCasts_S2x32768x2048_S2x32768x16x128) (shapeCast _ (V0 (Proc.devRef .tc main_v0_1)) shapeCasts_S2x32768x2048_S2x32768x16x128)) (mulf (mulf (broadcastInDim S2x16x32768x32768 ![0, 1, 2, 3] bcast_S2x16x32768x1_S2x16x32768x32768_0_1_2_3 (broadcastInDim S2x16x32768x1 ![0, 1, 2] bcast_S2x16x32768_S2x16x32768x1_0_1_2 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg3)) transposes_S2x256x16_S2x16x256_0_2_1))) shapeCasts_S2x16x256x128_S2x16x32768))) (broadcastInDim S2x16x32768x32768 ![0, 1, 2, 3] bcast_S2x16x1x32768_S2x16x32768x32768_0_1_2_3 (broadcastInDim S2x16x1x32768 ![0, 1, 3] bcast_S2x16x32768_S2x16x1x32768_0_1_3 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg4)) transposes_S2x256x16_S2x16x256_0_2_1))) shapeCasts_S2x16x256x128_S2x16x32768)))) (broadcastInDim S2x16x32768x32768 ![] bcast_S_S2x16x32768x32768 (constant S_ .f32 0x3DB504F3#32)))) (broadcastInDim S2x16x32768x32768 ![] bcast_S_S2x16x32768x32768 (id (constant S_ .f32 0xFF800000#32)))) (constant S_ .f32 0xFF800000#32) reducesTo_S2x16x32768x32768_S2x16x32768_d3 h_S_))))) (constant S_ .f32 0x00000000#32) reducesTo_S2x16x32768x32768_S2x16x32768_d3 h_S_)))) transposes_S2x16x32768x128_S2x32768x16x128_0_2_1_3) shapeCasts_S2x32768x16x128_S2x32768x2048) bitsLt_bf16_f32 := by
  simp only [Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl
/-- Result `main_v46` after the later operations from the region's exit contents. -/
theorem fin_main_v46 (c : Dev nD) :
    Pipeline.afterTail₀ cfgs (Gen.dats m) 0 (Gen.V0 m) [Gen.hostOps1, Gen.hostOps1_1, Gen.hostOps1_2] c main_v46 = res_main_v46 m c :=
  by unfold res_main_v46; exact (tail_main_v46 (exitV m c)).trans (by rw [exit_main_arg3, exit_main_arg4, exit_main_arg5, exit_main_v0_0, exit_main_v0_1, exit_main_v0_2]; rfl)

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v46) = res_main_v46 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v46 (Pipeline.mem_restRefs_of main_v46 (by decide) (by decide))).trans (fin_main_v46 m c),
      ((h c).1 0).trans (((Gen.dats m 0 c).arrAt_in 0 rfl _).trans ((Gen.A_eq m c 0).trans (Gen.V_main_arg0 m c))),
      ((h c).1 1).trans (((Gen.dats m 0 c).arrAt_in 1 rfl _).trans ((Gen.A_eq m c 1).trans (Gen.V_main_arg1 m c))),
      ((h c).1 2).trans (((Gen.dats m 0 c).arrAt_in 2 rfl _).trans ((Gen.A_eq m c 2).trans (Gen.V_main_arg2 m c))),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c)⟩) (Gen.run_main m ρ)

end Cert.ReferenceIdeal.Value

end
-- ==== Proof.RefOpen.lean ====
module

public import proofs.«01_k».proof.Proof.RefRun
public import Idealize.ShloMosaic.Lib.Pipeline.ValueKit

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic

variable (m : (ℓ : Loc nD τ sig) → Buf (Elt Ideal) ℓ)

/-- Window 3's block index at a grid point. -/
theorem rix_3 (t : Fin cfg0.N) : win0_3.index t = ![0, 0, 0] := by funext a; fin_cases a <;> rfl
/-- Window 0's block index at a grid point. -/
theorem rix_0 (t : Fin cfg0.N) : win0_0.index t = ![0, 0, 0] := by funext a; fin_cases a <;> rfl

/-- The queries' codes as numbers: widening a code is the identity over the extended reals. -/
theorem reg0_eq (c : Dev nD) (i : S2x32768x2048.Idx) : reg_main_v0_0 (F := Ideal) m c i = m ((c.tc : Thread nD τ).loc main_arg0) i := by
  have h : (Gen.dats (F := Ideal) m 0 c).arrAt 3 cfg0.N = m ((c.tc : Thread nD τ).loc main_arg0) := by
    refine (Gen.dats (F := Ideal) m 0 c).arrAt_eq_of_covers 3 _ (by decide +kernel) fun t hf y => ?_
    blk_simp
    rw [after0_3]
    frame_out
    show iblk m c 0 t y = _
    rw [← V_main_arg0 m c]
    blk_simp [iblk]
    blk_ext [rix_0, rix_3]
  exact congrFun h i

/-- Window 4's block index at a grid point. -/
theorem rix_4 (t : Fin cfg0.N) : win0_4.index t = ![0, 0, 0] := by funext a; fin_cases a <;> rfl
/-- Window 1's block index at a grid point. -/
theorem rix_1 (t : Fin cfg0.N) : win0_1.index t = ![0, 0, 0] := by funext a; fin_cases a <;> rfl

/-- The keys' codes as numbers: widening a code is the identity over the extended reals. -/
theorem reg1_eq (c : Dev nD) (i : S2x32768x2048.Idx) : reg_main_v0_1 (F := Ideal) m c i = m ((c.tc : Thread nD τ).loc main_arg1) i := by
  have h : (Gen.dats (F := Ideal) m 0 c).arrAt 4 cfg0.N = m ((c.tc : Thread nD τ).loc main_arg1) := by
    refine (Gen.dats (F := Ideal) m 0 c).arrAt_eq_of_covers 4 _ (by decide +kernel) fun t hf y => ?_
    blk_simp
    rw [after0_4]
    frame_out
    show iblk m c 1 t y = _
    rw [← V_main_arg1 m c]
    blk_simp [iblk]
    blk_ext [rix_1, rix_4]
  exact congrFun h i

/-- Window 5's block index at a grid point. -/
theorem rix_5 (t : Fin cfg0.N) : win0_5.index t = ![0, 0, 0, 0] := by funext a; fin_cases a <;> rfl
/-- Window 2's block index at a grid point. -/
theorem rix_2 (t : Fin cfg0.N) : win0_2.index t = ![0, 0, 0, 0] := by funext a; fin_cases a <;> rfl

/-- The values' codes as numbers: widening a code is the identity over the extended reals. -/
theorem reg2_eq (c : Dev nD) (i : S2x16x128x32768.Idx) : reg_main_v0_2 (F := Ideal) m c i = m ((c.tc : Thread nD τ).loc main_arg2) i := by
  have h : (Gen.dats (F := Ideal) m 0 c).arrAt 5 cfg0.N = m ((c.tc : Thread nD τ).loc main_arg2) := by
    refine (Gen.dats (F := Ideal) m 0 c).arrAt_eq_of_covers 5 _ (by decide +kernel) fun t hf y => ?_
    blk_simp
    rw [after0_5]
    frame_out
    show iblk m c 2 t y = _
    rw [← V_main_arg2 m c]
    blk_simp [iblk]
    blk_ext [rix_2, rix_5]
  exact congrFun h i

end Cert.ReferenceIdeal.Value

end
-- ==== Proof.RefRead.lean ====
module

public import proofs.«01_k».proof.Proof.RefRun
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %1 = stablehlo.reshape %0#0 : (tensor<2x32768x2048xf32>) -> tensor<2x32768x16x128xf32>
def val_main_v1 (r0 : (⟨S2x32768x2048, .f32⟩ : BufTy).Contents (Elt F)) : (⟨S2x32768x16x128, .f32⟩ : BufTy).Contents (Elt F) :=
  shapeCast _ (r0) shapeCasts_S2x32768x2048_S2x32768x16x128
set_option backward.proofsInPublic true in
abbrev idx_main_v1 (i : S2x32768x16x128.Idx) : S2x32768x2048.Idx := fun a => match a with
  | ⟨0, _⟩ => ⟨((((i 0).val * 32768 + (i 1).val) * 16 + (i 2).val) * 128 + (i 3).val) / 67108864, by have h0 : (i 0).val < 2 := (i 0).isLt; have h1 : (i 1).val < 32768 := (i 1).isLt; have h2 : (i 2).val < 16 := (i 2).isLt; have h3 : (i 3).val < 128 := (i 3).isLt; show ((((i 0).val * 32768 + (i 1).val) * 16 + (i 2).val) * 128 + (i 3).val) / 67108864 < 2; omega⟩
  | ⟨1, _⟩ => ⟨((((i 0).val * 32768 + (i 1).val) * 16 + (i 2).val) * 128 + (i 3).val) / 2048 % 32768, by have h0 : (i 0).val < 2 := (i 0).isLt; have h1 : (i 1).val < 32768 := (i 1).isLt; have h2 : (i 2).val < 16 := (i 2).isLt; have h3 : (i 3).val < 128 := (i 3).isLt; show ((((i 0).val * 32768 + (i 1).val) * 16 + (i 2).val) * 128 + (i 3).val) / 2048 % 32768 < 32768; omega⟩
  | ⟨2, _⟩ => ⟨((((i 0).val * 32768 + (i 1).val) * 16 + (i 2).val) * 128 + (i 3).val) % 2048, by have h0 : (i 0).val < 2 := (i 0).isLt; have h1 : (i 1).val < 32768 := (i 1).isLt; have h2 : (i 2).val < 16 := (i 2).isLt; have h3 : (i 3).val < 128 := (i 3).isLt; show ((((i 0).val * 32768 + (i 1).val) * 16 + (i 2).val) * 128 + (i 3).val) % 2048 < 2048; omega⟩
theorem val_main_v1_apply (r0 : (⟨S2x32768x2048, .f32⟩ : BufTy).Contents (Elt F)) (i : S2x32768x16x128.Idx) :
    val_main_v1 (F := F) r0 i = r0 (idx_main_v1 i) := by
  unfold val_main_v1
  exact shapeCast_apply r0 shapeCasts_S2x32768x2048_S2x32768x16x128 i (idx_main_v1 i)
    (by rewrite [Shape.rowMajor_val_three, Shape.rowMajor_val_four]; have h0 : (i 0).val < 2 := (i 0).isLt; have h1 : (i 1).val < 32768 := (i 1).isLt; have h2 : (i 2).val < 16 := (i 2).isLt; have h3 : (i 3).val < 128 := (i 3).isLt; show (((((i 0).val * 32768 + (i 1).val) * 16 + (i 2).val) * 128 + (i 3).val) / 67108864 * 32768 + ((((i 0).val * 32768 + (i 1).val) * 16 + (i 2).val) * 128 + (i 3).val) / 2048 % 32768) * 2048 + ((((i 0).val * 32768 + (i 1).val) * 16 + (i 2).val) * 128 + (i 3).val) % 2048 = (((i 0).val * 32768 + (i 1).val) * 16 + (i 2).val) * 128 + (i 3).val; omega)

-- %2 = stablehlo.reshape %0#1 : (tensor<2x32768x2048xf32>) -> tensor<2x32768x16x128xf32>
def val_main_v2 (r1 : (⟨S2x32768x2048, .f32⟩ : BufTy).Contents (Elt F)) : (⟨S2x32768x16x128, .f32⟩ : BufTy).Contents (Elt F) :=
  shapeCast _ (r1) shapeCasts_S2x32768x2048_S2x32768x16x128
set_option backward.proofsInPublic true in
abbrev idx_main_v2 (i : S2x32768x16x128.Idx) : S2x32768x2048.Idx := fun a => match a with
  | ⟨0, _⟩ => ⟨((((i 0).val * 32768 + (i 1).val) * 16 + (i 2).val) * 128 + (i 3).val) / 67108864, by have h0 : (i 0).val < 2 := (i 0).isLt; have h1 : (i 1).val < 32768 := (i 1).isLt; have h2 : (i 2).val < 16 := (i 2).isLt; have h3 : (i 3).val < 128 := (i 3).isLt; show ((((i 0).val * 32768 + (i 1).val) * 16 + (i 2).val) * 128 + (i 3).val) / 67108864 < 2; omega⟩
  | ⟨1, _⟩ => ⟨((((i 0).val * 32768 + (i 1).val) * 16 + (i 2).val) * 128 + (i 3).val) / 2048 % 32768, by have h0 : (i 0).val < 2 := (i 0).isLt; have h1 : (i 1).val < 32768 := (i 1).isLt; have h2 : (i 2).val < 16 := (i 2).isLt; have h3 : (i 3).val < 128 := (i 3).isLt; show ((((i 0).val * 32768 + (i 1).val) * 16 + (i 2).val) * 128 + (i 3).val) / 2048 % 32768 < 32768; omega⟩
  | ⟨2, _⟩ => ⟨((((i 0).val * 32768 + (i 1).val) * 16 + (i 2).val) * 128 + (i 3).val) % 2048, by have h0 : (i 0).val < 2 := (i 0).isLt; have h1 : (i 1).val < 32768 := (i 1).isLt; have h2 : (i 2).val < 16 := (i 2).isLt; have h3 : (i 3).val < 128 := (i 3).isLt; show ((((i 0).val * 32768 + (i 1).val) * 16 + (i 2).val) * 128 + (i 3).val) % 2048 < 2048; omega⟩
theorem val_main_v2_apply (r1 : (⟨S2x32768x2048, .f32⟩ : BufTy).Contents (Elt F)) (i : S2x32768x16x128.Idx) :
    val_main_v2 (F := F) r1 i = r1 (idx_main_v2 i) := by
  unfold val_main_v2
  exact shapeCast_apply r1 shapeCasts_S2x32768x2048_S2x32768x16x128 i (idx_main_v2 i)
    (by rewrite [Shape.rowMajor_val_three, Shape.rowMajor_val_four]; have h0 : (i 0).val < 2 := (i 0).isLt; have h1 : (i 1).val < 32768 := (i 1).isLt; have h2 : (i 2).val < 16 := (i 2).isLt; have h3 : (i 3).val < 128 := (i 3).isLt; show (((((i 0).val * 32768 + (i 1).val) * 16 + (i 2).val) * 128 + (i 3).val) / 67108864 * 32768 + ((((i 0).val * 32768 + (i 1).val) * 16 + (i 2).val) * 128 + (i 3).val) / 2048 % 32768) * 2048 + ((((i 0).val * 32768 + (i 1).val) * 16 + (i 2).val) * 128 + (i 3).val) % 2048 = (((i 0).val * 32768 + (i 1).val) * 16 + (i 2).val) * 128 + (i 3).val; omega)

-- %3 = stablehlo.dot_general %1, %2, batching_dims = [0, 2] x [0, 2], contracting_dims = [3] x [3], precision = [DEFAULT, DEFAULT] : (tensor<2x32768x16x128xf32>, tensor<2x32768x16x128xf32>) -> tensor<2x16x32768x32768xf32>
def val_main_v3 (r0 r1 : (⟨S2x32768x2048, .f32⟩ : BufTy).Contents (Elt F)) : (⟨S2x16x32768x32768, .f32⟩ : BufTy).Contents (Elt F) :=
  Host.dotGeneral dot_S2x32768x16x128_S2x32768x16x128_S2x16x32768x32768_3_3_1_1_02_02 none (val_main_v1 (F := F) r0) (val_main_v2 (F := F) r1)
theorem lhs_main_v3_0 (i : S2x16x32768x32768.Idx) (q : dot_S2x32768x16x128_S2x32768x16x128_S2x16x32768x32768_3_3_1_1_02_02.contr.Idx) :
    (dot_S2x32768x16x128_S2x32768x16x128_S2x16x32768x32768_3_3_1_1_02_02.lhsIdx i q 0).val = (i 0).val := by
  unfold DotDims.lhsIdx
  rw [dif_pos (show (0 : Fin S2x32768x16x128.rank) ∈ dot_S2x32768x16x128_S2x32768x16x128_S2x16x32768x32768_3_3_1_1_02_02.lhsBatch by decide)]
  rfl
theorem lhs_main_v3_1 (i : S2x16x32768x32768.Idx) (q : dot_S2x32768x16x128_S2x32768x16x128_S2x16x32768x32768_3_3_1_1_02_02.contr.Idx) :
    (dot_S2x32768x16x128_S2x32768x16x128_S2x16x32768x32768_3_3_1_1_02_02.lhsIdx i q 1).val = (i 2).val := by
  unfold DotDims.lhsIdx
  rw [dif_neg (show ¬(1 : Fin S2x32768x16x128.rank) ∈ dot_S2x32768x16x128_S2x32768x16x128_S2x16x32768x32768_3_3_1_1_02_02.lhsBatch by decide), dif_pos (show (1 : Fin S2x32768x16x128.rank) ∈ dot_S2x32768x16x128_S2x32768x16x128_S2x16x32768x32768_3_3_1_1_02_02.lhsNonContracting by decide)]
  rfl
theorem lhs_main_v3_2 (i : S2x16x32768x32768.Idx) (q : dot_S2x32768x16x128_S2x32768x16x128_S2x16x32768x32768_3_3_1_1_02_02.contr.Idx) :
    (dot_S2x32768x16x128_S2x32768x16x128_S2x16x32768x32768_3_3_1_1_02_02.lhsIdx i q 2).val = (i 1).val := by
  unfold DotDims.lhsIdx
  rw [dif_pos (show (2 : Fin S2x32768x16x128.rank) ∈ dot_S2x32768x16x128_S2x32768x16x128_S2x16x32768x32768_3_3_1_1_02_02.lhsBatch by decide)]
  rfl
theorem lhs_main_v3_3 (i : S2x16x32768x32768.Idx) (q : dot_S2x32768x16x128_S2x32768x16x128_S2x16x32768x32768_3_3_1_1_02_02.contr.Idx) :
    (dot_S2x32768x16x128_S2x32768x16x128_S2x16x32768x32768_3_3_1_1_02_02.lhsIdx i q 3).val = (q ⟨0, by decide⟩).val :=
  dot_S2x32768x16x128_S2x32768x16x128_S2x16x32768x32768_3_3_1_1_02_02.lhsIdx_val_of_single rfl i q
theorem rhs_main_v3_0 (i : S2x16x32768x32768.Idx) (q : dot_S2x32768x16x128_S2x32768x16x128_S2x16x32768x32768_3_3_1_1_02_02.contr.Idx) :
    (dot_S2x32768x16x128_S2x32768x16x128_S2x16x32768x32768_3_3_1_1_02_02.rhsIdx i q 0).val = (i 0).val := by
  unfold DotDims.rhsIdx
  rw [dif_pos (show (0 : Fin S2x32768x16x128.rank) ∈ dot_S2x32768x16x128_S2x32768x16x128_S2x16x32768x32768_3_3_1_1_02_02.rhsBatch by decide)]
  rfl
theorem rhs_main_v3_1 (i : S2x16x32768x32768.Idx) (q : dot_S2x32768x16x128_S2x32768x16x128_S2x16x32768x32768_3_3_1_1_02_02.contr.Idx) :
    (dot_S2x32768x16x128_S2x32768x16x128_S2x16x32768x32768_3_3_1_1_02_02.rhsIdx i q 1).val = (i 3).val := by
  unfold DotDims.rhsIdx
  rw [dif_neg (show ¬(1 : Fin S2x32768x16x128.rank) ∈ dot_S2x32768x16x128_S2x32768x16x128_S2x16x32768x32768_3_3_1_1_02_02.rhsBatch by decide), dif_pos (show (1 : Fin S2x32768x16x128.rank) ∈ dot_S2x32768x16x128_S2x32768x16x128_S2x16x32768x32768_3_3_1_1_02_02.rhsNonContracting by decide)]
  rfl
theorem rhs_main_v3_2 (i : S2x16x32768x32768.Idx) (q : dot_S2x32768x16x128_S2x32768x16x128_S2x16x32768x32768_3_3_1_1_02_02.contr.Idx) :
    (dot_S2x32768x16x128_S2x32768x16x128_S2x16x32768x32768_3_3_1_1_02_02.rhsIdx i q 2).val = (i 1).val := by
  unfold DotDims.rhsIdx
  rw [dif_pos (show (2 : Fin S2x32768x16x128.rank) ∈ dot_S2x32768x16x128_S2x32768x16x128_S2x16x32768x32768_3_3_1_1_02_02.rhsBatch by decide)]
  rfl
theorem rhs_main_v3_3 (i : S2x16x32768x32768.Idx) (q : dot_S2x32768x16x128_S2x32768x16x128_S2x16x32768x32768_3_3_1_1_02_02.contr.Idx) :
    (dot_S2x32768x16x128_S2x32768x16x128_S2x16x32768x32768_3_3_1_1_02_02.rhsIdx i q 3).val = (q ⟨0, by decide⟩).val :=
  dot_S2x32768x16x128_S2x32768x16x128_S2x16x32768x32768_3_3_1_1_02_02.rhsIdx_val_of_single rfl i q
abbrev lidx_main_v3 (i : S2x16x32768x32768.Idx) (k : Fin 128) : S2x32768x16x128.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨k.val, k.isLt⟩
abbrev ridx_main_v3 (i : S2x16x32768x32768.Idx) (k : Fin 128) : S2x32768x16x128.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨k.val, k.isLt⟩
/-- Stated at `F := Ideal`, where the host's `dot_general` is this sum; at a bit-exact instance it is an opaque function of its operands. -/
theorem val_main_v3_apply (r0 r1 : (⟨S2x32768x2048, .f32⟩ : BufTy).Contents (Elt Ideal)) (i : S2x16x32768x32768.Idx) :
    val_main_v3 (F := Ideal) r0 r1 i = ∑ k : Fin 128, (val_main_v1 (F := Ideal) r0) (lidx_main_v3 i k) * (val_main_v2 (F := Ideal) r1) (ridx_main_v3 i k) := by
  unfold val_main_v3
  generalize val_main_v1 (F := Ideal) r0 = y0
  generalize val_main_v2 (F := Ideal) r1 = y1
  simp only [Host.dotGeneral]
  rw [Ideal.dotGeneral_apply, ← Equiv.sum_comp (ValueIdx.contrEquiv1 dot_S2x32768x16x128_S2x32768x16x128_S2x16x32768x32768_3_3_1_1_02_02 128 rfl rfl).symm]
  refine Finset.sum_congr rfl fun k _ => ?_
  have hk := ValueIdx.contrEquiv1_symm_val dot_S2x32768x16x128_S2x32768x16x128_S2x16x32768x32768_3_3_1_1_02_02 128 rfl rfl k
  have el : dot_S2x32768x16x128_S2x32768x16x128_S2x16x32768x32768_3_3_1_1_02_02.lhsIdx i ((ValueIdx.contrEquiv1 dot_S2x32768x16x128_S2x32768x16x128_S2x16x32768x32768_3_3_1_1_02_02 128 rfl rfl).symm k) = lidx_main_v3 i k := funext fun a => Fin.ext (by
    match a with
    | ⟨0, _⟩ => exact lhs_main_v3_0 _ _
    | ⟨1, _⟩ => exact lhs_main_v3_1 _ _
    | ⟨2, _⟩ => exact lhs_main_v3_2 _ _
    | ⟨3, _⟩ => exact (lhs_main_v3_3 _ _).trans hk)
  have er : dot_S2x32768x16x128_S2x32768x16x128_S2x16x32768x32768_3_3_1_1_02_02.rhsIdx i ((ValueIdx.contrEquiv1 dot_S2x32768x16x128_S2x32768x16x128_S2x16x32768x32768_3_3_1_1_02_02 128 rfl rfl).symm k) = ridx_main_v3 i k := funext fun a => Fin.ext (by
    match a with
    | ⟨0, _⟩ => exact rhs_main_v3_0 _ _
    | ⟨1, _⟩ => exact rhs_main_v3_1 _ _
    | ⟨2, _⟩ => exact rhs_main_v3_2 _ _
    | ⟨3, _⟩ => exact (rhs_main_v3_3 _ _).trans hk)
  rw [el, er]

-- %4 = stablehlo.transpose %arg3, dims = [0, 2, 1] : (tensor<2x256x16xf32>) -> tensor<2x16x256xf32>
def val_main_v4 (x3 : (⟨S2x256x16, .f32⟩ : BufTy).Contents (Elt F)) : (⟨S2x16x256, .f32⟩ : BufTy).Contents (Elt F) :=
  transpose S2x16x256 [0, 2, 1] (x3) transposes_S2x256x16_S2x16x256_0_2_1
abbrev idx_main_v4 (i : S2x16x256.Idx) : S2x256x16.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v4_apply (x3 : (⟨S2x256x16, .f32⟩ : BufTy).Contents (Elt F)) (i : S2x16x256.Idx) :
    val_main_v4 (F := F) x3 i = x3 (idx_main_v4 i) := by
  unfold val_main_v4
  exact transpose_apply [0, 2, 1] x3 transposes_S2x256x16_S2x16x256_0_2_1 i (idx_main_v4 i) (fun b => match b with
    | ⟨0, _⟩ => rfl
    | ⟨1, _⟩ => rfl
    | ⟨2, _⟩ => rfl)

-- %5 = stablehlo.broadcast_in_dim %4, dims = [0, 1, 2] : (tensor<2x16x256xf32>) -> tensor<2x16x256x1xf32>
def val_main_v5 (x3 : (⟨S2x256x16, .f32⟩ : BufTy).Contents (Elt F)) : (⟨S2x16x256x1, .f32⟩ : BufTy).Contents (Elt F) :=
  broadcastInDim S2x16x256x1 ![0, 1, 2] bcast_S2x16x256_S2x16x256x1_0_1_2 (val_main_v4 (F := F) x3)
abbrev idx_main_v5 (i : S2x16x256x1.Idx) : S2x16x256.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v5_apply (x3 : (⟨S2x256x16, .f32⟩ : BufTy).Contents (Elt F)) (i : S2x16x256x1.Idx) :
    val_main_v5 (F := F) x3 i = val_main_v4 (F := F) x3 (idx_main_v5 i) := by
  unfold val_main_v5
  generalize val_main_v4 (F := F) x3 = y
  exact broadcastInDim_apply _ bcast_S2x16x256_S2x16x256x1_0_1_2 y i (idx_main_v5 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (256 : Nat) = 1 then 0 else (i 2).val; rw [if_neg (by decide)])

-- %6 = stablehlo.broadcast_in_dim %5, dims = [0, 1, 2, 3] : (tensor<2x16x256x1xf32>) -> tensor<2x16x256x128xf32>
def val_main_v6 (x3 : (⟨S2x256x16, .f32⟩ : BufTy).Contents (Elt F)) : (⟨S2x16x256x128, .f32⟩ : BufTy).Contents (Elt F) :=
  broadcastInDim S2x16x256x128 ![0, 1, 2, 3] bcast_S2x16x256x1_S2x16x256x128_0_1_2_3 (val_main_v5 (F := F) x3)
abbrev idx_main_v6 (i : S2x16x256x128.Idx) : S2x16x256x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v6_apply (x3 : (⟨S2x256x16, .f32⟩ : BufTy).Contents (Elt F)) (i : S2x16x256x128.Idx) :
    val_main_v6 (F := F) x3 i = val_main_v5 (F := F) x3 (idx_main_v6 i) := by
  unfold val_main_v6
  generalize val_main_v5 (F := F) x3 = y
  exact broadcastInDim_apply _ bcast_S2x16x256x1_S2x16x256x128_0_1_2_3 y i (idx_main_v6 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (256 : Nat) = 1 then 0 else (i 2).val; rw [if_neg (by decide)]
    | ⟨3, _⟩ => by show 0 = if (1 : Nat) = 1 then 0 else (i 3).val; rw [if_pos rfl])

-- %7 = stablehlo.reshape %6 : (tensor<2x16x256x128xf32>) -> tensor<2x16x32768xf32>
def val_main_v7 (x3 : (⟨S2x256x16, .f32⟩ : BufTy).Contents (Elt F)) : (⟨S2x16x32768, .f32⟩ : BufTy).Contents (Elt F) :=
  shapeCast _ (val_main_v6 (F := F) x3) shapeCasts_S2x16x256x128_S2x16x32768
set_option backward.proofsInPublic true in
abbrev idx_main_v7 (i : S2x16x32768.Idx) : S2x16x256x128.Idx := fun a => match a with
  | ⟨0, _⟩ => ⟨(((i 0).val * 16 + (i 1).val) * 32768 + (i 2).val) / 524288, by have h0 : (i 0).val < 2 := (i 0).isLt; have h1 : (i 1).val < 16 := (i 1).isLt; have h2 : (i 2).val < 32768 := (i 2).isLt; show (((i 0).val * 16 + (i 1).val) * 32768 + (i 2).val) / 524288 < 2; omega⟩
  | ⟨1, _⟩ => ⟨(((i 0).val * 16 + (i 1).val) * 32768 + (i 2).val) / 32768 % 16, by have h0 : (i 0).val < 2 := (i 0).isLt; have h1 : (i 1).val < 16 := (i 1).isLt; have h2 : (i 2).val < 32768 := (i 2).isLt; show (((i 0).val * 16 + (i 1).val) * 32768 + (i 2).val) / 32768 % 16 < 16; omega⟩
  | ⟨2, _⟩ => ⟨(((i 0).val * 16 + (i 1).val) * 32768 + (i 2).val) / 128 % 256, by have h0 : (i 0).val < 2 := (i 0).isLt; have h1 : (i 1).val < 16 := (i 1).isLt; have h2 : (i 2).val < 32768 := (i 2).isLt; show (((i 0).val * 16 + (i 1).val) * 32768 + (i 2).val) / 128 % 256 < 256; omega⟩
  | ⟨3, _⟩ => ⟨(((i 0).val * 16 + (i 1).val) * 32768 + (i 2).val) % 128, by have h0 : (i 0).val < 2 := (i 0).isLt; have h1 : (i 1).val < 16 := (i 1).isLt; have h2 : (i 2).val < 32768 := (i 2).isLt; show (((i 0).val * 16 + (i 1).val) * 32768 + (i 2).val) % 128 < 128; omega⟩
theorem val_main_v7_apply (x3 : (⟨S2x256x16, .f32⟩ : BufTy).Contents (Elt F)) (i : S2x16x32768.Idx) :
    val_main_v7 (F := F) x3 i = val_main_v6 (F := F) x3 (idx_main_v7 i) := by
  unfold val_main_v7
  generalize val_main_v6 (F := F) x3 = y
  exact shapeCast_apply y shapeCasts_S2x16x256x128_S2x16x32768 i (idx_main_v7 i)
    (by rewrite [Shape.rowMajor_val_four, Shape.rowMajor_val_three]; have h0 : (i 0).val < 2 := (i 0).isLt; have h1 : (i 1).val < 16 := (i 1).isLt; have h2 : (i 2).val < 32768 := (i 2).isLt; show (((((i 0).val * 16 + (i 1).val) * 32768 + (i 2).val) / 524288 * 16 + (((i 0).val * 16 + (i 1).val) * 32768 + (i 2).val) / 32768 % 16) * 256 + (((i 0).val * 16 + (i 1).val) * 32768 + (i 2).val) / 128 % 256) * 128 + (((i 0).val * 16 + (i 1).val) * 32768 + (i 2).val) % 128 = ((i 0).val * 16 + (i 1).val) * 32768 + (i 2).val; omega)

-- %8 = stablehlo.broadcast_in_dim %7, dims = [0, 1, 2] : (tensor<2x16x32768xf32>) -> tensor<2x16x32768x1xf32>
def val_main_v8 (x3 : (⟨S2x256x16, .f32⟩ : BufTy).Contents (Elt F)) : (⟨S2x16x32768x1, .f32⟩ : BufTy).Contents (Elt F) :=
  broadcastInDim S2x16x32768x1 ![0, 1, 2] bcast_S2x16x32768_S2x16x32768x1_0_1_2 (val_main_v7 (F := F) x3)
abbrev idx_main_v8 (i : S2x16x32768x1.Idx) : S2x16x32768.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v8_apply (x3 : (⟨S2x256x16, .f32⟩ : BufTy).Contents (Elt F)) (i : S2x16x32768x1.Idx) :
    val_main_v8 (F := F) x3 i = val_main_v7 (F := F) x3 (idx_main_v8 i) := by
  unfold val_main_v8
  generalize val_main_v7 (F := F) x3 = y
  exact broadcastInDim_apply _ bcast_S2x16x32768_S2x16x32768x1_0_1_2 y i (idx_main_v8 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (32768 : Nat) = 1 then 0 else (i 2).val; rw [if_neg (by decide)])

-- %9 = stablehlo.transpose %arg4, dims = [0, 2, 1] : (tensor<2x256x16xf32>) -> tensor<2x16x256xf32>
def val_main_v9 (x4 : (⟨S2x256x16, .f32⟩ : BufTy).Contents (Elt F)) : (⟨S2x16x256, .f32⟩ : BufTy).Contents (Elt F) :=
  transpose S2x16x256 [0, 2, 1] (x4) transposes_S2x256x16_S2x16x256_0_2_1
abbrev idx_main_v9 (i : S2x16x256.Idx) : S2x256x16.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v9_apply (x4 : (⟨S2x256x16, .f32⟩ : BufTy).Contents (Elt F)) (i : S2x16x256.Idx) :
    val_main_v9 (F := F) x4 i = x4 (idx_main_v9 i) := by
  unfold val_main_v9
  exact transpose_apply [0, 2, 1] x4 transposes_S2x256x16_S2x16x256_0_2_1 i (idx_main_v9 i) (fun b => match b with
    | ⟨0, _⟩ => rfl
    | ⟨1, _⟩ => rfl
    | ⟨2, _⟩ => rfl)

-- %10 = stablehlo.broadcast_in_dim %9, dims = [0, 1, 2] : (tensor<2x16x256xf32>) -> tensor<2x16x256x1xf32>
def val_main_v10 (x4 : (⟨S2x256x16, .f32⟩ : BufTy).Contents (Elt F)) : (⟨S2x16x256x1, .f32⟩ : BufTy).Contents (Elt F) :=
  broadcastInDim S2x16x256x1 ![0, 1, 2] bcast_S2x16x256_S2x16x256x1_0_1_2 (val_main_v9 (F := F) x4)
abbrev idx_main_v10 (i : S2x16x256x1.Idx) : S2x16x256.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v10_apply (x4 : (⟨S2x256x16, .f32⟩ : BufTy).Contents (Elt F)) (i : S2x16x256x1.Idx) :
    val_main_v10 (F := F) x4 i = val_main_v9 (F := F) x4 (idx_main_v10 i) := by
  unfold val_main_v10
  generalize val_main_v9 (F := F) x4 = y
  exact broadcastInDim_apply _ bcast_S2x16x256_S2x16x256x1_0_1_2 y i (idx_main_v10 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (256 : Nat) = 1 then 0 else (i 2).val; rw [if_neg (by decide)])

-- %11 = stablehlo.broadcast_in_dim %10, dims = [0, 1, 2, 3] : (tensor<2x16x256x1xf32>) -> tensor<2x16x256x128xf32>
def val_main_v11 (x4 : (⟨S2x256x16, .f32⟩ : BufTy).Contents (Elt F)) : (⟨S2x16x256x128, .f32⟩ : BufTy).Contents (Elt F) :=
  broadcastInDim S2x16x256x128 ![0, 1, 2, 3] bcast_S2x16x256x1_S2x16x256x128_0_1_2_3 (val_main_v10 (F := F) x4)
abbrev idx_main_v11 (i : S2x16x256x128.Idx) : S2x16x256x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v11_apply (x4 : (⟨S2x256x16, .f32⟩ : BufTy).Contents (Elt F)) (i : S2x16x256x128.Idx) :
    val_main_v11 (F := F) x4 i = val_main_v10 (F := F) x4 (idx_main_v11 i) := by
  unfold val_main_v11
  generalize val_main_v10 (F := F) x4 = y
  exact broadcastInDim_apply _ bcast_S2x16x256x1_S2x16x256x128_0_1_2_3 y i (idx_main_v11 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (256 : Nat) = 1 then 0 else (i 2).val; rw [if_neg (by decide)]
    | ⟨3, _⟩ => by show 0 = if (1 : Nat) = 1 then 0 else (i 3).val; rw [if_pos rfl])

-- %12 = stablehlo.reshape %11 : (tensor<2x16x256x128xf32>) -> tensor<2x16x32768xf32>
def val_main_v12 (x4 : (⟨S2x256x16, .f32⟩ : BufTy).Contents (Elt F)) : (⟨S2x16x32768, .f32⟩ : BufTy).Contents (Elt F) :=
  shapeCast _ (val_main_v11 (F := F) x4) shapeCasts_S2x16x256x128_S2x16x32768
set_option backward.proofsInPublic true in
abbrev idx_main_v12 (i : S2x16x32768.Idx) : S2x16x256x128.Idx := fun a => match a with
  | ⟨0, _⟩ => ⟨(((i 0).val * 16 + (i 1).val) * 32768 + (i 2).val) / 524288, by have h0 : (i 0).val < 2 := (i 0).isLt; have h1 : (i 1).val < 16 := (i 1).isLt; have h2 : (i 2).val < 32768 := (i 2).isLt; show (((i 0).val * 16 + (i 1).val) * 32768 + (i 2).val) / 524288 < 2; omega⟩
  | ⟨1, _⟩ => ⟨(((i 0).val * 16 + (i 1).val) * 32768 + (i 2).val) / 32768 % 16, by have h0 : (i 0).val < 2 := (i 0).isLt; have h1 : (i 1).val < 16 := (i 1).isLt; have h2 : (i 2).val < 32768 := (i 2).isLt; show (((i 0).val * 16 + (i 1).val) * 32768 + (i 2).val) / 32768 % 16 < 16; omega⟩
  | ⟨2, _⟩ => ⟨(((i 0).val * 16 + (i 1).val) * 32768 + (i 2).val) / 128 % 256, by have h0 : (i 0).val < 2 := (i 0).isLt; have h1 : (i 1).val < 16 := (i 1).isLt; have h2 : (i 2).val < 32768 := (i 2).isLt; show (((i 0).val * 16 + (i 1).val) * 32768 + (i 2).val) / 128 % 256 < 256; omega⟩
  | ⟨3, _⟩ => ⟨(((i 0).val * 16 + (i 1).val) * 32768 + (i 2).val) % 128, by have h0 : (i 0).val < 2 := (i 0).isLt; have h1 : (i 1).val < 16 := (i 1).isLt; have h2 : (i 2).val < 32768 := (i 2).isLt; show (((i 0).val * 16 + (i 1).val) * 32768 + (i 2).val) % 128 < 128; omega⟩
theorem val_main_v12_apply (x4 : (⟨S2x256x16, .f32⟩ : BufTy).Contents (Elt F)) (i : S2x16x32768.Idx) :
    val_main_v12 (F := F) x4 i = val_main_v11 (F := F) x4 (idx_main_v12 i) := by
  unfold val_main_v12
  generalize val_main_v11 (F := F) x4 = y
  exact shapeCast_apply y shapeCasts_S2x16x256x128_S2x16x32768 i (idx_main_v12 i)
    (by rewrite [Shape.rowMajor_val_four, Shape.rowMajor_val_three]; have h0 : (i 0).val < 2 := (i 0).isLt; have h1 : (i 1).val < 16 := (i 1).isLt; have h2 : (i 2).val < 32768 := (i 2).isLt; show (((((i 0).val * 16 + (i 1).val) * 32768 + (i 2).val) / 524288 * 16 + (((i 0).val * 16 + (i 1).val) * 32768 + (i 2).val) / 32768 % 16) * 256 + (((i 0).val * 16 + (i 1).val) * 32768 + (i 2).val) / 128 % 256) * 128 + (((i 0).val * 16 + (i 1).val) * 32768 + (i 2).val) % 128 = ((i 0).val * 16 + (i 1).val) * 32768 + (i 2).val; omega)

-- %13 = stablehlo.broadcast_in_dim %12, dims = [0, 1, 3] : (tensor<2x16x32768xf32>) -> tensor<2x16x1x32768xf32>
def val_main_v13 (x4 : (⟨S2x256x16, .f32⟩ : BufTy).Contents (Elt F)) : (⟨S2x16x1x32768, .f32⟩ : BufTy).Contents (Elt F) :=
  broadcastInDim S2x16x1x32768 ![0, 1, 3] bcast_S2x16x32768_S2x16x1x32768_0_1_3 (val_main_v12 (F := F) x4)
abbrev idx_main_v13 (i : S2x16x1x32768.Idx) : S2x16x32768.Idx := fun a => match a with
  | ⟨0, _⟩ => ⟨(i 0).val, (i 0).isLt⟩
  | ⟨1, _⟩ => ⟨(i 1).val, (i 1).isLt⟩
  | ⟨2, _⟩ => ⟨(i 3).val, (i 3).isLt⟩
theorem val_main_v13_apply (x4 : (⟨S2x256x16, .f32⟩ : BufTy).Contents (Elt F)) (i : S2x16x1x32768.Idx) :
    val_main_v13 (F := F) x4 i = val_main_v12 (F := F) x4 (idx_main_v13 i) := by
  unfold val_main_v13
  generalize val_main_v12 (F := F) x4 = y
  exact broadcastInDim_apply _ bcast_S2x16x32768_S2x16x1x32768_0_1_3 y i (idx_main_v13 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 3).val = if (32768 : Nat) = 1 then 0 else (i 3).val; rw [if_neg (by decide)])

-- %14 = stablehlo.broadcast_in_dim %8, dims = [0, 1, 2, 3] : (tensor<2x16x32768x1xf32>) -> tensor<2x16x32768x32768xf32>
def val_main_v14 (x3 : (⟨S2x256x16, .f32⟩ : BufTy).Contents (Elt F)) : (⟨S2x16x32768x32768, .f32⟩ : BufTy).Contents (Elt F) :=
  broadcastInDim S2x16x32768x32768 ![0, 1, 2, 3] bcast_S2x16x32768x1_S2x16x32768x32768_0_1_2_3 (val_main_v8 (F := F) x3)
abbrev idx_main_v14 (i : S2x16x32768x32768.Idx) : S2x16x32768x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v14_apply (x3 : (⟨S2x256x16, .f32⟩ : BufTy).Contents (Elt F)) (i : S2x16x32768x32768.Idx) :
    val_main_v14 (F := F) x3 i = val_main_v8 (F := F) x3 (idx_main_v14 i) := by
  unfold val_main_v14
  generalize val_main_v8 (F := F) x3 = y
  exact broadcastInDim_apply _ bcast_S2x16x32768x1_S2x16x32768x32768_0_1_2_3 y i (idx_main_v14 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (32768 : Nat) = 1 then 0 else (i 2).val; rw [if_neg (by decide)]
    | ⟨3, _⟩ => by show 0 = if (1 : Nat) = 1 then 0 else (i 3).val; rw [if_pos rfl])

-- %15 = stablehlo.broadcast_in_dim %13, dims = [0, 1, 2, 3] : (tensor<2x16x1x32768xf32>) -> tensor<2x16x32768x32768xf32>
def val_main_v15 (x4 : (⟨S2x256x16, .f32⟩ : BufTy).Contents (Elt F)) : (⟨S2x16x32768x32768, .f32⟩ : BufTy).Contents (Elt F) :=
  broadcastInDim S2x16x32768x32768 ![0, 1, 2, 3] bcast_S2x16x1x32768_S2x16x32768x32768_0_1_2_3 (val_main_v13 (F := F) x4)
abbrev idx_main_v15 (i : S2x16x32768x32768.Idx) : S2x16x1x32768.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
theorem val_main_v15_apply (x4 : (⟨S2x256x16, .f32⟩ : BufTy).Contents (Elt F)) (i : S2x16x32768x32768.Idx) :
    val_main_v15 (F := F) x4 i = val_main_v13 (F := F) x4 (idx_main_v15 i) := by
  unfold val_main_v15
  generalize val_main_v13 (F := F) x4 = y
  exact broadcastInDim_apply _ bcast_S2x16x1x32768_S2x16x32768x32768_0_1_2_3 y i (idx_main_v15 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl]
    | ⟨3, _⟩ => by show (i 3).val = if (32768 : Nat) = 1 then 0 else (i 3).val; rw [if_neg (by decide)])

-- %16 = stablehlo.multiply %14, %15 : tensor<2x16x32768x32768xf32>
def val_main_v16 (x3 x4 : (⟨S2x256x16, .f32⟩ : BufTy).Contents (Elt F)) : (⟨S2x16x32768x32768, .f32⟩ : BufTy).Contents (Elt F) :=
  mulf (val_main_v14 (F := F) x3) (val_main_v15 (F := F) x4)
theorem val_main_v16_apply (x3 x4 : (⟨S2x256x16, .f32⟩ : BufTy).Contents (Elt F)) (i : S2x16x32768x32768.Idx) :
    val_main_v16 (F := F) x3 x4 i = FloatOps.mulf (val_main_v14 (F := F) x3 i) (val_main_v15 (F := F) x4 i) := rfl

-- %cst = stablehlo.constant dense<0.0883883461> : tensor<f32>
def val_main_cst : (⟨S_, .f32⟩ : BufTy).Contents (Elt F) :=
  constant S_ .f32 0x3DB504F3#32
theorem val_main_cst_apply (i : S_.Idx) :
    val_main_cst (F := F) i = FloatOps.ofBits .f32 0x3DB504F3#32 := rfl

-- %17 = stablehlo.broadcast_in_dim %cst, dims = [] : (tensor<f32>) -> tensor<2x16x32768x32768xf32>
def val_main_v17 : (⟨S2x16x32768x32768, .f32⟩ : BufTy).Contents (Elt F) :=
  broadcastInDim S2x16x32768x32768 ![] bcast_S_S2x16x32768x32768 (val_main_cst (F := F))
abbrev idx_main_v17 (i : S2x16x32768x32768.Idx) : S_.Idx := fun a => a.elim0
theorem val_main_v17_apply (i : S2x16x32768x32768.Idx) :
    val_main_v17 (F := F) i = val_main_cst (F := F) (idx_main_v17 i) := by
  unfold val_main_v17
  generalize val_main_cst (F := F) = y
  exact broadcastInDim_apply _ bcast_S_S2x16x32768x32768 y i (idx_main_v17 i) (fun a => a.elim0)

-- %18 = stablehlo.multiply %16, %17 : tensor<2x16x32768x32768xf32>
def val_main_v18 (x3 x4 : (⟨S2x256x16, .f32⟩ : BufTy).Contents (Elt F)) : (⟨S2x16x32768x32768, .f32⟩ : BufTy).Contents (Elt F) :=
  mulf (val_main_v16 (F := F) x3 x4) (val_main_v17 (F := F))
theorem val_main_v18_apply (x3 x4 : (⟨S2x256x16, .f32⟩ : BufTy).Contents (Elt F)) (i : S2x16x32768x32768.Idx) :
    val_main_v18 (F := F) x3 x4 i = FloatOps.mulf (val_main_v16 (F := F) x3 x4 i) (val_main_v17 (F := F) i) := rfl

-- %19 = stablehlo.multiply %3, %18 : tensor<2x16x32768x32768xf32>
def val_main_v19 (x3 x4 : (⟨S2x256x16, .f32⟩ : BufTy).Contents (Elt F)) (r0 r1 : (⟨S2x32768x2048, .f32⟩ : BufTy).Contents (Elt F)) : (⟨S2x16x32768x32768, .f32⟩ : BufTy).Contents (Elt F) :=
  mulf (val_main_v3 (F := F) r0 r1) (val_main_v18 (F := F) x3 x4)
theorem val_main_v19_apply (x3 x4 : (⟨S2x256x16, .f32⟩ : BufTy).Contents (Elt F)) (r0 r1 : (⟨S2x32768x2048, .f32⟩ : BufTy).Contents (Elt F)) (i : S2x16x32768x32768.Idx) :
    val_main_v19 (F := F) x3 x4 r0 r1 i = FloatOps.mulf (val_main_v3 (F := F) r0 r1 i) (val_main_v18 (F := F) x3 x4 i) := rfl

-- %20 = stablehlo.iota dim = 0 : tensor<32768xi32>
def val_main_v20 : (⟨S32768, .i32⟩ : BufTy).Contents (Elt F) :=
  iotaInDim S32768 32 0
theorem val_main_v20_apply (i : S32768.Idx) :
    val_main_v20 (F := F) i = BitVec.ofNat 32 (i 0).val := rfl

-- %21 = stablehlo.broadcast_in_dim %20, dims = [1] : (tensor<32768xi32>) -> tensor<1x32768xi32>
def val_main_v21 : (⟨S1x32768, .i32⟩ : BufTy).Contents (Elt F) :=
  broadcastInDim S1x32768 ![1] bcast_S32768_S1x32768_1 (val_main_v20 (F := F))
abbrev idx_main_v21 (i : S1x32768.Idx) : S32768.Idx := fun a => match a with
  | ⟨0, _⟩ => ⟨(i 1).val, (i 1).isLt⟩
theorem val_main_v21_apply (i : S1x32768.Idx) :
    val_main_v21 (F := F) i = val_main_v20 (F := F) (idx_main_v21 i) := by
  unfold val_main_v21
  generalize val_main_v20 (F := F) = y
  exact broadcastInDim_apply _ bcast_S32768_S1x32768_1 y i (idx_main_v21 i) (fun a => match a with
    | ⟨0, _⟩ => by show (i 1).val = if (32768 : Nat) = 1 then 0 else (i 1).val; rw [if_neg (by decide)])

-- %22 = stablehlo.broadcast_in_dim %20, dims = [0] : (tensor<32768xi32>) -> tensor<32768x1xi32>
def val_main_v22 : (⟨S32768x1, .i32⟩ : BufTy).Contents (Elt F) :=
  broadcastInDim S32768x1 ![0] bcast_S32768_S32768x1_0 (val_main_v20 (F := F))
abbrev idx_main_v22 (i : S32768x1.Idx) : S32768.Idx := fun a => match a with
  | ⟨0, _⟩ => ⟨(i 0).val, (i 0).isLt⟩
theorem val_main_v22_apply (i : S32768x1.Idx) :
    val_main_v22 (F := F) i = val_main_v20 (F := F) (idx_main_v22 i) := by
  unfold val_main_v22
  generalize val_main_v20 (F := F) = y
  exact broadcastInDim_apply _ bcast_S32768_S32768x1_0 y i (idx_main_v22 i) (fun a => match a with
    | ⟨0, _⟩ => by show (i 0).val = if (32768 : Nat) = 1 then 0 else (i 0).val; rw [if_neg (by decide)])

-- %23 = stablehlo.broadcast_in_dim %21, dims = [0, 1] : (tensor<1x32768xi32>) -> tensor<32768x32768xi32>
def val_main_v23 : (⟨S32768x32768, .i32⟩ : BufTy).Contents (Elt F) :=
  broadcastInDim S32768x32768 ![0, 1] bcast_S1x32768_S32768x32768_0_1 (val_main_v21 (F := F))
abbrev idx_main_v23 (i : S32768x32768.Idx) : S1x32768.Idx := fun a => match a with
  | ⟨0, _⟩ => ⟨0, Nat.one_pos⟩
  | ⟨1, _⟩ => ⟨(i 1).val, (i 1).isLt⟩
theorem val_main_v23_apply (i : S32768x32768.Idx) :
    val_main_v23 (F := F) i = val_main_v21 (F := F) (idx_main_v23 i) := by
  unfold val_main_v23
  generalize val_main_v21 (F := F) = y
  exact broadcastInDim_apply _ bcast_S1x32768_S32768x32768_0_1 y i (idx_main_v23 i) (fun a => match a with
    | ⟨0, _⟩ => by show 0 = if (1 : Nat) = 1 then 0 else (i 0).val; rw [if_pos rfl]
    | ⟨1, _⟩ => by show (i 1).val = if (32768 : Nat) = 1 then 0 else (i 1).val; rw [if_neg (by decide)])

-- %24 = stablehlo.broadcast_in_dim %22, dims = [0, 1] : (tensor<32768x1xi32>) -> tensor<32768x32768xi32>
def val_main_v24 : (⟨S32768x32768, .i32⟩ : BufTy).Contents (Elt F) :=
  broadcastInDim S32768x32768 ![0, 1] bcast_S32768x1_S32768x32768_0_1 (val_main_v22 (F := F))
abbrev idx_main_v24 (i : S32768x32768.Idx) : S32768x1.Idx := fun a => match a with
  | ⟨0, _⟩ => ⟨(i 0).val, (i 0).isLt⟩
  | ⟨1, _⟩ => ⟨0, Nat.one_pos⟩
theorem val_main_v24_apply (i : S32768x32768.Idx) :
    val_main_v24 (F := F) i = val_main_v22 (F := F) (idx_main_v24 i) := by
  unfold val_main_v24
  generalize val_main_v22 (F := F) = y
  exact broadcastInDim_apply _ bcast_S32768x1_S32768x32768_0_1 y i (idx_main_v24 i) (fun a => match a with
    | ⟨0, _⟩ => by show (i 0).val = if (32768 : Nat) = 1 then 0 else (i 0).val; rw [if_neg (by decide)]
    | ⟨1, _⟩ => by show 0 = if (1 : Nat) = 1 then 0 else (i 1).val; rw [if_pos rfl])

-- %25 = stablehlo.compare LE, %23, %24, SIGNED : (tensor<32768x32768xi32>, tensor<32768x32768xi32>) -> tensor<32768x32768xi1>
def val_main_v25 : (⟨S32768x32768, .i1⟩ : BufTy).Contents (Elt F) :=
  cmpi .sle (val_main_v23 (F := F)) (val_main_v24 (F := F))
theorem val_main_v25_apply (i : S32768x32768.Idx) :
    val_main_v25 (F := F) i = IntOp.cmpi .sle (val_main_v23 (F := F) i) (val_main_v24 (F := F) i) := rfl

-- %cst_0 = stablehlo.constant dense<0xFF800000> : tensor<f32>
def val_main_cst_0 : (⟨S_, .f32⟩ : BufTy).Contents (Elt F) :=
  constant S_ .f32 0xFF800000#32
theorem val_main_cst_0_apply (i : S_.Idx) :
    val_main_cst_0 (F := F) i = FloatOps.ofBits .f32 0xFF800000#32 := rfl

-- @_where's %0 = stablehlo.convert %arg2 : tensor<f32>, in %26 = func.call @_where(…) (record main_call0)
def val_main_call0_v0 : (⟨S_, .f32⟩ : BufTy).Contents (Elt F) :=
  id (val_main_cst_0 (F := F))
theorem val_main_call0_v0_apply (i : S_.Idx) :
    val_main_call0_v0 (F := F) i = (val_main_cst_0 (F := F) i) := rfl

-- @_where's %1 = stablehlo.broadcast_in_dim %arg0, dims = [2, 3] : (tensor<32768x32768xi1>) -> tensor<2x16x32768x32768xi1>, in %26 = func.call @_where(…) (record main_call0)
def val_main_call0_v1 : (⟨S2x16x32768x32768, .i1⟩ : BufTy).Contents (Elt F) :=
  broadcastInDim S2x16x32768x32768 ![2, 3] bcast_S32768x32768_S2x16x32768x32768_2_3 (val_main_v25 (F := F))
abbrev idx_main_call0_v1 (i : S2x16x32768x32768.Idx) : S32768x32768.Idx := fun a => match a with
  | ⟨0, _⟩ => ⟨(i 2).val, (i 2).isLt⟩
  | ⟨1, _⟩ => ⟨(i 3).val, (i 3).isLt⟩
theorem val_main_call0_v1_apply (i : S2x16x32768x32768.Idx) :
    val_main_call0_v1 (F := F) i = val_main_v25 (F := F) (idx_main_call0_v1 i) := by
  unfold val_main_call0_v1
  generalize val_main_v25 (F := F) = y
  exact broadcastInDim_apply _ bcast_S32768x32768_S2x16x32768x32768_2_3 y i (idx_main_call0_v1 i) (fun a => match a with
    | ⟨0, _⟩ => by show (i 2).val = if (32768 : Nat) = 1 then 0 else (i 2).val; rw [if_neg (by decide)]
    | ⟨1, _⟩ => by show (i 3).val = if (32768 : Nat) = 1 then 0 else (i 3).val; rw [if_neg (by decide)])

-- @_where's %2 = stablehlo.broadcast_in_dim %0, dims = [] : (tensor<f32>) -> tensor<2x16x32768x32768xf32>, in %26 = func.call @_where(…) (record main_call0)
def val_main_call0_v2 : (⟨S2x16x32768x32768, .f32⟩ : BufTy).Contents (Elt F) :=
  broadcastInDim S2x16x32768x32768 ![] bcast_S_S2x16x32768x32768 (val_main_call0_v0 (F := F))
abbrev idx_main_call0_v2 (i : S2x16x32768x32768.Idx) : S_.Idx := fun a => a.elim0
theorem val_main_call0_v2_apply (i : S2x16x32768x32768.Idx) :
    val_main_call0_v2 (F := F) i = val_main_call0_v0 (F := F) (idx_main_call0_v2 i) := by
  unfold val_main_call0_v2
  generalize val_main_call0_v0 (F := F) = y
  exact broadcastInDim_apply _ bcast_S_S2x16x32768x32768 y i (idx_main_call0_v2 i) (fun a => a.elim0)

-- %26 = func.call @_where(…) (record main_call0) result 0: @_where's %3 = stablehlo.select %1, %arg1, %2 : tensor<2x16x32768x32768xi1>, tensor<2x16x32768x32768xf32>
def val_main_v26 (x3 x4 : (⟨S2x256x16, .f32⟩ : BufTy).Contents (Elt F)) (r0 r1 : (⟨S2x32768x2048, .f32⟩ : BufTy).Contents (Elt F)) : (⟨S2x16x32768x32768, .f32⟩ : BufTy).Contents (Elt F) :=
  select (val_main_call0_v1 (F := F)) (val_main_v19 (F := F) x3 x4 r0 r1) (val_main_call0_v2 (F := F))
theorem val_main_v26_apply (x3 x4 : (⟨S2x256x16, .f32⟩ : BufTy).Contents (Elt F)) (r0 r1 : (⟨S2x32768x2048, .f32⟩ : BufTy).Contents (Elt F)) (i : S2x16x32768x32768.Idx) :
    val_main_v26 (F := F) x3 x4 r0 r1 i = Scalar.select (val_main_call0_v1 (F := F) i) (val_main_v19 (F := F) x3 x4 r0 r1 i) (val_main_call0_v2 (F := F) i) := rfl

-- %cst_1 = stablehlo.constant dense<0xFF800000> : tensor<f32>
def val_main_cst_1 : (⟨S_, .f32⟩ : BufTy).Contents (Elt F) :=
  constant S_ .f32 0xFF800000#32
theorem val_main_cst_1_apply (i : S_.Idx) :
    val_main_cst_1 (F := F) i = FloatOps.ofBits .f32 0xFF800000#32 := rfl

-- %27 = stablehlo.reduce(%26 init: %cst_1) applies stablehlo.maximum across dimensions = [3] : (tensor<2x16x32768x32768xf32>, tensor<f32>) -> tensor<2x16x32768xf32> {
def val_main_v27 (x3 x4 : (⟨S2x256x16, .f32⟩ : BufTy).Contents (Elt F)) (r0 r1 : (⟨S2x32768x2048, .f32⟩ : BufTy).Contents (Elt F)) : (⟨S2x16x32768, .f32⟩ : BufTy).Contents (Elt F) :=
  Host.reduce FloatOps.maximumf (val_main_v26 (F := F) x3 x4 r0 r1) (val_main_cst_1 (F := F)) reducesTo_S2x16x32768x32768_S2x16x32768_d3 h_S_

-- %28 = stablehlo.broadcast_in_dim %27, dims = [0, 1, 2] : (tensor<2x16x32768xf32>) -> tensor<2x16x32768x1xf32>
def val_main_v28 (x3 x4 : (⟨S2x256x16, .f32⟩ : BufTy).Contents (Elt F)) (r0 r1 : (⟨S2x32768x2048, .f32⟩ : BufTy).Contents (Elt F)) : (⟨S2x16x32768x1, .f32⟩ : BufTy).Contents (Elt F) :=
  broadcastInDim S2x16x32768x1 ![0, 1, 2] bcast_S2x16x32768_S2x16x32768x1_0_1_2 (val_main_v27 (F := F) x3 x4 r0 r1)
abbrev idx_main_v28 (i : S2x16x32768x1.Idx) : S2x16x32768.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v28_apply (x3 x4 : (⟨S2x256x16, .f32⟩ : BufTy).Contents (Elt F)) (r0 r1 : (⟨S2x32768x2048, .f32⟩ : BufTy).Contents (Elt F)) (i : S2x16x32768x1.Idx) :
    val_main_v28 (F := F) x3 x4 r0 r1 i = val_main_v27 (F := F) x3 x4 r0 r1 (idx_main_v28 i) := by
  unfold val_main_v28
  generalize val_main_v27 (F := F) x3 x4 r0 r1 = y
  exact broadcastInDim_apply _ bcast_S2x16x32768_S2x16x32768x1_0_1_2 y i (idx_main_v28 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (32768 : Nat) = 1 then 0 else (i 2).val; rw [if_neg (by decide)])

-- %29 = stablehlo.broadcast_in_dim %28, dims = [0, 1, 2, 3] : (tensor<2x16x32768x1xf32>) -> tensor<2x16x32768x32768xf32>
def val_main_v29 (x3 x4 : (⟨S2x256x16, .f32⟩ : BufTy).Contents (Elt F)) (r0 r1 : (⟨S2x32768x2048, .f32⟩ : BufTy).Contents (Elt F)) : (⟨S2x16x32768x32768, .f32⟩ : BufTy).Contents (Elt F) :=
  broadcastInDim S2x16x32768x32768 ![0, 1, 2, 3] bcast_S2x16x32768x1_S2x16x32768x32768_0_1_2_3 (val_main_v28 (F := F) x3 x4 r0 r1)
abbrev idx_main_v29 (i : S2x16x32768x32768.Idx) : S2x16x32768x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v29_apply (x3 x4 : (⟨S2x256x16, .f32⟩ : BufTy).Contents (Elt F)) (r0 r1 : (⟨S2x32768x2048, .f32⟩ : BufTy).Contents (Elt F)) (i : S2x16x32768x32768.Idx) :
    val_main_v29 (F := F) x3 x4 r0 r1 i = val_main_v28 (F := F) x3 x4 r0 r1 (idx_main_v29 i) := by
  unfold val_main_v29
  generalize val_main_v28 (F := F) x3 x4 r0 r1 = y
  exact broadcastInDim_apply _ bcast_S2x16x32768x1_S2x16x32768x32768_0_1_2_3 y i (idx_main_v29 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (32768 : Nat) = 1 then 0 else (i 2).val; rw [if_neg (by decide)]
    | ⟨3, _⟩ => by show 0 = if (1 : Nat) = 1 then 0 else (i 3).val; rw [if_pos rfl])

-- %30 = stablehlo.subtract %26, %29 : tensor<2x16x32768x32768xf32>
def val_main_v30 (x3 x4 : (⟨S2x256x16, .f32⟩ : BufTy).Contents (Elt F)) (r0 r1 : (⟨S2x32768x2048, .f32⟩ : BufTy).Contents (Elt F)) : (⟨S2x16x32768x32768, .f32⟩ : BufTy).Contents (Elt F) :=
  subf (val_main_v26 (F := F) x3 x4 r0 r1) (val_main_v29 (F := F) x3 x4 r0 r1)
theorem val_main_v30_apply (x3 x4 : (⟨S2x256x16, .f32⟩ : BufTy).Contents (Elt F)) (r0 r1 : (⟨S2x32768x2048, .f32⟩ : BufTy).Contents (Elt F)) (i : S2x16x32768x32768.Idx) :
    val_main_v30 (F := F) x3 x4 r0 r1 i = FloatOps.subf (val_main_v26 (F := F) x3 x4 r0 r1 i) (val_main_v29 (F := F) x3 x4 r0 r1 i) := rfl

-- %31 = stablehlo.exponential %30 : tensor<2x16x32768x32768xf32>
def val_main_v31 (x3 x4 : (⟨S2x256x16, .f32⟩ : BufTy).Contents (Elt F)) (r0 r1 : (⟨S2x32768x2048, .f32⟩ : BufTy).Contents (Elt F)) : (⟨S2x16x32768x32768, .f32⟩ : BufTy).Contents (Elt F) :=
  Host.exp (val_main_v30 (F := F) x3 x4 r0 r1)
theorem val_main_v31_apply (x3 x4 : (⟨S2x256x16, .f32⟩ : BufTy).Contents (Elt F)) (r0 r1 : (⟨S2x32768x2048, .f32⟩ : BufTy).Contents (Elt F)) (i : S2x16x32768x32768.Idx) :
    val_main_v31 (F := F) x3 x4 r0 r1 i = FloatOps.hostUnary .exp (val_main_v30 (F := F) x3 x4 r0 r1 i) := rfl

-- %cst_2 = stablehlo.constant dense<0.000000e+00> : tensor<f32>
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

-- %32 = stablehlo.reduce(%31 init: %cst_2) applies stablehlo.add across dimensions = [3] : (tensor<2x16x32768x32768xf32>, tensor<f32>) -> tensor<2x16x32768xf32> {
def val_main_v32 (x3 x4 : (⟨S2x256x16, .f32⟩ : BufTy).Contents (Elt F)) (r0 r1 : (⟨S2x32768x2048, .f32⟩ : BufTy).Contents (Elt F)) : (⟨S2x16x32768, .f32⟩ : BufTy).Contents (Elt F) :=
  Host.reduceAdd (val_main_v31 (F := F) x3 x4 r0 r1) (val_main_cst_2 (F := F)) reducesTo_S2x16x32768x32768_S2x16x32768_d3 h_S_
abbrev idx_main_v32 (i : S2x16x32768.Idx) (k : Fin 32768) : S2x16x32768x32768.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_v32_apply (x3 x4 : (⟨S2x256x16, .f32⟩ : BufTy).Contents (Elt Ideal)) (r0 r1 : (⟨S2x32768x2048, .f32⟩ : BufTy).Contents (Elt Ideal)) (i : S2x16x32768.Idx) :
    val_main_v32 (F := Ideal) x3 x4 r0 r1 i = (val_main_cst_2 (F := Ideal)) (Shape.Idx.first h_S_) + ∑ k : Fin 32768, (val_main_v31 (F := Ideal) x3 x4 r0 r1) (idx_main_v32 i k) := by
  unfold val_main_v32
  generalize val_main_v31 (F := Ideal) x3 x4 r0 r1 = y0
  simp only [Host.reduceAdd, Ideal.hostReduceAdd_def]
  rw [Ideal.hostReduceAdd_single reducesTo_S2x16x32768x32768_S2x16x32768_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- %33 = stablehlo.transpose %arg5, dims = [0, 2, 1] : (tensor<2x256x16xf32>) -> tensor<2x16x256xf32>
def val_main_v33 (x5 : (⟨S2x256x16, .f32⟩ : BufTy).Contents (Elt F)) : (⟨S2x16x256, .f32⟩ : BufTy).Contents (Elt F) :=
  transpose S2x16x256 [0, 2, 1] (x5) transposes_S2x256x16_S2x16x256_0_2_1
abbrev idx_main_v33 (i : S2x16x256.Idx) : S2x256x16.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v33_apply (x5 : (⟨S2x256x16, .f32⟩ : BufTy).Contents (Elt F)) (i : S2x16x256.Idx) :
    val_main_v33 (F := F) x5 i = x5 (idx_main_v33 i) := by
  unfold val_main_v33
  exact transpose_apply [0, 2, 1] x5 transposes_S2x256x16_S2x16x256_0_2_1 i (idx_main_v33 i) (fun b => match b with
    | ⟨0, _⟩ => rfl
    | ⟨1, _⟩ => rfl
    | ⟨2, _⟩ => rfl)

-- %34 = stablehlo.broadcast_in_dim %33, dims = [0, 1, 2] : (tensor<2x16x256xf32>) -> tensor<2x16x256x1xf32>
def val_main_v34 (x5 : (⟨S2x256x16, .f32⟩ : BufTy).Contents (Elt F)) : (⟨S2x16x256x1, .f32⟩ : BufTy).Contents (Elt F) :=
  broadcastInDim S2x16x256x1 ![0, 1, 2] bcast_S2x16x256_S2x16x256x1_0_1_2 (val_main_v33 (F := F) x5)
abbrev idx_main_v34 (i : S2x16x256x1.Idx) : S2x16x256.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v34_apply (x5 : (⟨S2x256x16, .f32⟩ : BufTy).Contents (Elt F)) (i : S2x16x256x1.Idx) :
    val_main_v34 (F := F) x5 i = val_main_v33 (F := F) x5 (idx_main_v34 i) := by
  unfold val_main_v34
  generalize val_main_v33 (F := F) x5 = y
  exact broadcastInDim_apply _ bcast_S2x16x256_S2x16x256x1_0_1_2 y i (idx_main_v34 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (256 : Nat) = 1 then 0 else (i 2).val; rw [if_neg (by decide)])

-- %35 = stablehlo.broadcast_in_dim %34, dims = [0, 1, 2, 3] : (tensor<2x16x256x1xf32>) -> tensor<2x16x256x128xf32>
def val_main_v35 (x5 : (⟨S2x256x16, .f32⟩ : BufTy).Contents (Elt F)) : (⟨S2x16x256x128, .f32⟩ : BufTy).Contents (Elt F) :=
  broadcastInDim S2x16x256x128 ![0, 1, 2, 3] bcast_S2x16x256x1_S2x16x256x128_0_1_2_3 (val_main_v34 (F := F) x5)
abbrev idx_main_v35 (i : S2x16x256x128.Idx) : S2x16x256x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v35_apply (x5 : (⟨S2x256x16, .f32⟩ : BufTy).Contents (Elt F)) (i : S2x16x256x128.Idx) :
    val_main_v35 (F := F) x5 i = val_main_v34 (F := F) x5 (idx_main_v35 i) := by
  unfold val_main_v35
  generalize val_main_v34 (F := F) x5 = y
  exact broadcastInDim_apply _ bcast_S2x16x256x1_S2x16x256x128_0_1_2_3 y i (idx_main_v35 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (256 : Nat) = 1 then 0 else (i 2).val; rw [if_neg (by decide)]
    | ⟨3, _⟩ => by show 0 = if (1 : Nat) = 1 then 0 else (i 3).val; rw [if_pos rfl])

-- %36 = stablehlo.reshape %35 : (tensor<2x16x256x128xf32>) -> tensor<2x16x32768xf32>
def val_main_v36 (x5 : (⟨S2x256x16, .f32⟩ : BufTy).Contents (Elt F)) : (⟨S2x16x32768, .f32⟩ : BufTy).Contents (Elt F) :=
  shapeCast _ (val_main_v35 (F := F) x5) shapeCasts_S2x16x256x128_S2x16x32768
set_option backward.proofsInPublic true in
abbrev idx_main_v36 (i : S2x16x32768.Idx) : S2x16x256x128.Idx := fun a => match a with
  | ⟨0, _⟩ => ⟨(((i 0).val * 16 + (i 1).val) * 32768 + (i 2).val) / 524288, by have h0 : (i 0).val < 2 := (i 0).isLt; have h1 : (i 1).val < 16 := (i 1).isLt; have h2 : (i 2).val < 32768 := (i 2).isLt; show (((i 0).val * 16 + (i 1).val) * 32768 + (i 2).val) / 524288 < 2; omega⟩
  | ⟨1, _⟩ => ⟨(((i 0).val * 16 + (i 1).val) * 32768 + (i 2).val) / 32768 % 16, by have h0 : (i 0).val < 2 := (i 0).isLt; have h1 : (i 1).val < 16 := (i 1).isLt; have h2 : (i 2).val < 32768 := (i 2).isLt; show (((i 0).val * 16 + (i 1).val) * 32768 + (i 2).val) / 32768 % 16 < 16; omega⟩
  | ⟨2, _⟩ => ⟨(((i 0).val * 16 + (i 1).val) * 32768 + (i 2).val) / 128 % 256, by have h0 : (i 0).val < 2 := (i 0).isLt; have h1 : (i 1).val < 16 := (i 1).isLt; have h2 : (i 2).val < 32768 := (i 2).isLt; show (((i 0).val * 16 + (i 1).val) * 32768 + (i 2).val) / 128 % 256 < 256; omega⟩
  | ⟨3, _⟩ => ⟨(((i 0).val * 16 + (i 1).val) * 32768 + (i 2).val) % 128, by have h0 : (i 0).val < 2 := (i 0).isLt; have h1 : (i 1).val < 16 := (i 1).isLt; have h2 : (i 2).val < 32768 := (i 2).isLt; show (((i 0).val * 16 + (i 1).val) * 32768 + (i 2).val) % 128 < 128; omega⟩
theorem val_main_v36_apply (x5 : (⟨S2x256x16, .f32⟩ : BufTy).Contents (Elt F)) (i : S2x16x32768.Idx) :
    val_main_v36 (F := F) x5 i = val_main_v35 (F := F) x5 (idx_main_v36 i) := by
  unfold val_main_v36
  generalize val_main_v35 (F := F) x5 = y
  exact shapeCast_apply y shapeCasts_S2x16x256x128_S2x16x32768 i (idx_main_v36 i)
    (by rewrite [Shape.rowMajor_val_four, Shape.rowMajor_val_three]; have h0 : (i 0).val < 2 := (i 0).isLt; have h1 : (i 1).val < 16 := (i 1).isLt; have h2 : (i 2).val < 32768 := (i 2).isLt; show (((((i 0).val * 16 + (i 1).val) * 32768 + (i 2).val) / 524288 * 16 + (((i 0).val * 16 + (i 1).val) * 32768 + (i 2).val) / 32768 % 16) * 256 + (((i 0).val * 16 + (i 1).val) * 32768 + (i 2).val) / 128 % 256) * 128 + (((i 0).val * 16 + (i 1).val) * 32768 + (i 2).val) % 128 = ((i 0).val * 16 + (i 1).val) * 32768 + (i 2).val; omega)

-- %37 = stablehlo.broadcast_in_dim %36, dims = [0, 1, 3] : (tensor<2x16x32768xf32>) -> tensor<2x16x1x32768xf32>
def val_main_v37 (x5 : (⟨S2x256x16, .f32⟩ : BufTy).Contents (Elt F)) : (⟨S2x16x1x32768, .f32⟩ : BufTy).Contents (Elt F) :=
  broadcastInDim S2x16x1x32768 ![0, 1, 3] bcast_S2x16x32768_S2x16x1x32768_0_1_3 (val_main_v36 (F := F) x5)
abbrev idx_main_v37 (i : S2x16x1x32768.Idx) : S2x16x32768.Idx := fun a => match a with
  | ⟨0, _⟩ => ⟨(i 0).val, (i 0).isLt⟩
  | ⟨1, _⟩ => ⟨(i 1).val, (i 1).isLt⟩
  | ⟨2, _⟩ => ⟨(i 3).val, (i 3).isLt⟩
theorem val_main_v37_apply (x5 : (⟨S2x256x16, .f32⟩ : BufTy).Contents (Elt F)) (i : S2x16x1x32768.Idx) :
    val_main_v37 (F := F) x5 i = val_main_v36 (F := F) x5 (idx_main_v37 i) := by
  unfold val_main_v37
  generalize val_main_v36 (F := F) x5 = y
  exact broadcastInDim_apply _ bcast_S2x16x32768_S2x16x1x32768_0_1_3 y i (idx_main_v37 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 3).val = if (32768 : Nat) = 1 then 0 else (i 3).val; rw [if_neg (by decide)])

-- %38 = stablehlo.broadcast_in_dim %37, dims = [0, 1, 2, 3] : (tensor<2x16x1x32768xf32>) -> tensor<2x16x128x32768xf32>
def val_main_v38 (x5 : (⟨S2x256x16, .f32⟩ : BufTy).Contents (Elt F)) : (⟨S2x16x128x32768, .f32⟩ : BufTy).Contents (Elt F) :=
  broadcastInDim S2x16x128x32768 ![0, 1, 2, 3] bcast_S2x16x1x32768_S2x16x128x32768_0_1_2_3 (val_main_v37 (F := F) x5)
abbrev idx_main_v38 (i : S2x16x128x32768.Idx) : S2x16x1x32768.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
theorem val_main_v38_apply (x5 : (⟨S2x256x16, .f32⟩ : BufTy).Contents (Elt F)) (i : S2x16x128x32768.Idx) :
    val_main_v38 (F := F) x5 i = val_main_v37 (F := F) x5 (idx_main_v38 i) := by
  unfold val_main_v38
  generalize val_main_v37 (F := F) x5 = y
  exact broadcastInDim_apply _ bcast_S2x16x1x32768_S2x16x128x32768_0_1_2_3 y i (idx_main_v38 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl]
    | ⟨3, _⟩ => by show (i 3).val = if (32768 : Nat) = 1 then 0 else (i 3).val; rw [if_neg (by decide)])

-- %39 = stablehlo.multiply %0#2, %38 : tensor<2x16x128x32768xf32>
def val_main_v39 (x5 : (⟨S2x256x16, .f32⟩ : BufTy).Contents (Elt F)) (r2 : (⟨S2x16x128x32768, .f32⟩ : BufTy).Contents (Elt F)) : (⟨S2x16x128x32768, .f32⟩ : BufTy).Contents (Elt F) :=
  mulf (r2) (val_main_v38 (F := F) x5)
theorem val_main_v39_apply (x5 : (⟨S2x256x16, .f32⟩ : BufTy).Contents (Elt F)) (r2 : (⟨S2x16x128x32768, .f32⟩ : BufTy).Contents (Elt F)) (i : S2x16x128x32768.Idx) :
    val_main_v39 (F := F) x5 r2 i = FloatOps.mulf (r2 i) (val_main_v38 (F := F) x5 i) := rfl

-- %40 = stablehlo.dot_general %31, %39, batching_dims = [0, 1] x [0, 1], contracting_dims = [3] x [3], precision = [DEFAULT, DEFAULT] : (tensor<2x16x32768x32768xf32>, tensor<2x16x128x32768xf32>) -> tensor<2x16x32768x128xf32>
def val_main_v40 (x3 x4 x5 : (⟨S2x256x16, .f32⟩ : BufTy).Contents (Elt F)) (r0 r1 : (⟨S2x32768x2048, .f32⟩ : BufTy).Contents (Elt F)) (r2 : (⟨S2x16x128x32768, .f32⟩ : BufTy).Contents (Elt F)) : (⟨S2x16x32768x128, .f32⟩ : BufTy).Contents (Elt F) :=
  Host.dotGeneral dot_S2x16x32768x32768_S2x16x128x32768_S2x16x32768x128_3_3_2_2_01_01 none (val_main_v31 (F := F) x3 x4 r0 r1) (val_main_v39 (F := F) x5 r2)
theorem lhs_main_v40_0 (i : S2x16x32768x128.Idx) (q : dot_S2x16x32768x32768_S2x16x128x32768_S2x16x32768x128_3_3_2_2_01_01.contr.Idx) :
    (dot_S2x16x32768x32768_S2x16x128x32768_S2x16x32768x128_3_3_2_2_01_01.lhsIdx i q 0).val = (i 0).val := by
  unfold DotDims.lhsIdx
  rw [dif_pos (show (0 : Fin S2x16x32768x32768.rank) ∈ dot_S2x16x32768x32768_S2x16x128x32768_S2x16x32768x128_3_3_2_2_01_01.lhsBatch by decide)]
  rfl
theorem lhs_main_v40_1 (i : S2x16x32768x128.Idx) (q : dot_S2x16x32768x32768_S2x16x128x32768_S2x16x32768x128_3_3_2_2_01_01.contr.Idx) :
    (dot_S2x16x32768x32768_S2x16x128x32768_S2x16x32768x128_3_3_2_2_01_01.lhsIdx i q 1).val = (i 1).val := by
  unfold DotDims.lhsIdx
  rw [dif_pos (show (1 : Fin S2x16x32768x32768.rank) ∈ dot_S2x16x32768x32768_S2x16x128x32768_S2x16x32768x128_3_3_2_2_01_01.lhsBatch by decide)]
  rfl
theorem lhs_main_v40_2 (i : S2x16x32768x128.Idx) (q : dot_S2x16x32768x32768_S2x16x128x32768_S2x16x32768x128_3_3_2_2_01_01.contr.Idx) :
    (dot_S2x16x32768x32768_S2x16x128x32768_S2x16x32768x128_3_3_2_2_01_01.lhsIdx i q 2).val = (i 2).val := by
  unfold DotDims.lhsIdx
  rw [dif_neg (show ¬(2 : Fin S2x16x32768x32768.rank) ∈ dot_S2x16x32768x32768_S2x16x128x32768_S2x16x32768x128_3_3_2_2_01_01.lhsBatch by decide), dif_pos (show (2 : Fin S2x16x32768x32768.rank) ∈ dot_S2x16x32768x32768_S2x16x128x32768_S2x16x32768x128_3_3_2_2_01_01.lhsNonContracting by decide)]
  rfl
theorem lhs_main_v40_3 (i : S2x16x32768x128.Idx) (q : dot_S2x16x32768x32768_S2x16x128x32768_S2x16x32768x128_3_3_2_2_01_01.contr.Idx) :
    (dot_S2x16x32768x32768_S2x16x128x32768_S2x16x32768x128_3_3_2_2_01_01.lhsIdx i q 3).val = (q ⟨0, by decide⟩).val :=
  dot_S2x16x32768x32768_S2x16x128x32768_S2x16x32768x128_3_3_2_2_01_01.lhsIdx_val_of_single rfl i q
theorem rhs_main_v40_0 (i : S2x16x32768x128.Idx) (q : dot_S2x16x32768x32768_S2x16x128x32768_S2x16x32768x128_3_3_2_2_01_01.contr.Idx) :
    (dot_S2x16x32768x32768_S2x16x128x32768_S2x16x32768x128_3_3_2_2_01_01.rhsIdx i q 0).val = (i 0).val := by
  unfold DotDims.rhsIdx
  rw [dif_pos (show (0 : Fin S2x16x128x32768.rank) ∈ dot_S2x16x32768x32768_S2x16x128x32768_S2x16x32768x128_3_3_2_2_01_01.rhsBatch by decide)]
  rfl
theorem rhs_main_v40_1 (i : S2x16x32768x128.Idx) (q : dot_S2x16x32768x32768_S2x16x128x32768_S2x16x32768x128_3_3_2_2_01_01.contr.Idx) :
    (dot_S2x16x32768x32768_S2x16x128x32768_S2x16x32768x128_3_3_2_2_01_01.rhsIdx i q 1).val = (i 1).val := by
  unfold DotDims.rhsIdx
  rw [dif_pos (show (1 : Fin S2x16x128x32768.rank) ∈ dot_S2x16x32768x32768_S2x16x128x32768_S2x16x32768x128_3_3_2_2_01_01.rhsBatch by decide)]
  rfl
theorem rhs_main_v40_2 (i : S2x16x32768x128.Idx) (q : dot_S2x16x32768x32768_S2x16x128x32768_S2x16x32768x128_3_3_2_2_01_01.contr.Idx) :
    (dot_S2x16x32768x32768_S2x16x128x32768_S2x16x32768x128_3_3_2_2_01_01.rhsIdx i q 2).val = (i 3).val := by
  unfold DotDims.rhsIdx
  rw [dif_neg (show ¬(2 : Fin S2x16x128x32768.rank) ∈ dot_S2x16x32768x32768_S2x16x128x32768_S2x16x32768x128_3_3_2_2_01_01.rhsBatch by decide), dif_pos (show (2 : Fin S2x16x128x32768.rank) ∈ dot_S2x16x32768x32768_S2x16x128x32768_S2x16x32768x128_3_3_2_2_01_01.rhsNonContracting by decide)]
  rfl
theorem rhs_main_v40_3 (i : S2x16x32768x128.Idx) (q : dot_S2x16x32768x32768_S2x16x128x32768_S2x16x32768x128_3_3_2_2_01_01.contr.Idx) :
    (dot_S2x16x32768x32768_S2x16x128x32768_S2x16x32768x128_3_3_2_2_01_01.rhsIdx i q 3).val = (q ⟨0, by decide⟩).val :=
  dot_S2x16x32768x32768_S2x16x128x32768_S2x16x32768x128_3_3_2_2_01_01.rhsIdx_val_of_single rfl i q
abbrev lidx_main_v40 (i : S2x16x32768x128.Idx) (k : Fin 32768) : S2x16x32768x32768.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
abbrev ridx_main_v40 (i : S2x16x32768x128.Idx) (k : Fin 32768) : S2x16x128x32768.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨k.val, k.isLt⟩
/-- Stated at `F := Ideal`, where the host's `dot_general` is this sum; at a bit-exact instance it is an opaque function of its operands. -/
theorem val_main_v40_apply (x3 x4 x5 : (⟨S2x256x16, .f32⟩ : BufTy).Contents (Elt Ideal)) (r0 r1 : (⟨S2x32768x2048, .f32⟩ : BufTy).Contents (Elt Ideal)) (r2 : (⟨S2x16x128x32768, .f32⟩ : BufTy).Contents (Elt Ideal)) (i : S2x16x32768x128.Idx) :
    val_main_v40 (F := Ideal) x3 x4 x5 r0 r1 r2 i = ∑ k : Fin 32768, (val_main_v31 (F := Ideal) x3 x4 r0 r1) (lidx_main_v40 i k) * (val_main_v39 (F := Ideal) x5 r2) (ridx_main_v40 i k) := by
  unfold val_main_v40
  generalize val_main_v31 (F := Ideal) x3 x4 r0 r1 = y0
  generalize val_main_v39 (F := Ideal) x5 r2 = y1
  simp only [Host.dotGeneral]
  rw [Ideal.dotGeneral_apply, ← Equiv.sum_comp (ValueIdx.contrEquiv1 dot_S2x16x32768x32768_S2x16x128x32768_S2x16x32768x128_3_3_2_2_01_01 32768 rfl rfl).symm]
  refine Finset.sum_congr rfl fun k _ => ?_
  have hk := ValueIdx.contrEquiv1_symm_val dot_S2x16x32768x32768_S2x16x128x32768_S2x16x32768x128_3_3_2_2_01_01 32768 rfl rfl k
  have el : dot_S2x16x32768x32768_S2x16x128x32768_S2x16x32768x128_3_3_2_2_01_01.lhsIdx i ((ValueIdx.contrEquiv1 dot_S2x16x32768x32768_S2x16x128x32768_S2x16x32768x128_3_3_2_2_01_01 32768 rfl rfl).symm k) = lidx_main_v40 i k := funext fun a => Fin.ext (by
    match a with
    | ⟨0, _⟩ => exact lhs_main_v40_0 _ _
    | ⟨1, _⟩ => exact lhs_main_v40_1 _ _
    | ⟨2, _⟩ => exact lhs_main_v40_2 _ _
    | ⟨3, _⟩ => exact (lhs_main_v40_3 _ _).trans hk)
  have er : dot_S2x16x32768x32768_S2x16x128x32768_S2x16x32768x128_3_3_2_2_01_01.rhsIdx i ((ValueIdx.contrEquiv1 dot_S2x16x32768x32768_S2x16x128x32768_S2x16x32768x128_3_3_2_2_01_01 32768 rfl rfl).symm k) = ridx_main_v40 i k := funext fun a => Fin.ext (by
    match a with
    | ⟨0, _⟩ => exact rhs_main_v40_0 _ _
    | ⟨1, _⟩ => exact rhs_main_v40_1 _ _
    | ⟨2, _⟩ => exact rhs_main_v40_2 _ _
    | ⟨3, _⟩ => exact (rhs_main_v40_3 _ _).trans hk)
  rw [el, er]

-- %41 = stablehlo.broadcast_in_dim %32, dims = [0, 1, 2] : (tensor<2x16x32768xf32>) -> tensor<2x16x32768x1xf32>
def val_main_v41 (x3 x4 : (⟨S2x256x16, .f32⟩ : BufTy).Contents (Elt F)) (r0 r1 : (⟨S2x32768x2048, .f32⟩ : BufTy).Contents (Elt F)) : (⟨S2x16x32768x1, .f32⟩ : BufTy).Contents (Elt F) :=
  broadcastInDim S2x16x32768x1 ![0, 1, 2] bcast_S2x16x32768_S2x16x32768x1_0_1_2 (val_main_v32 (F := F) x3 x4 r0 r1)
abbrev idx_main_v41 (i : S2x16x32768x1.Idx) : S2x16x32768.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v41_apply (x3 x4 : (⟨S2x256x16, .f32⟩ : BufTy).Contents (Elt F)) (r0 r1 : (⟨S2x32768x2048, .f32⟩ : BufTy).Contents (Elt F)) (i : S2x16x32768x1.Idx) :
    val_main_v41 (F := F) x3 x4 r0 r1 i = val_main_v32 (F := F) x3 x4 r0 r1 (idx_main_v41 i) := by
  unfold val_main_v41
  generalize val_main_v32 (F := F) x3 x4 r0 r1 = y
  exact broadcastInDim_apply _ bcast_S2x16x32768_S2x16x32768x1_0_1_2 y i (idx_main_v41 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (32768 : Nat) = 1 then 0 else (i 2).val; rw [if_neg (by decide)])

-- %42 = stablehlo.broadcast_in_dim %41, dims = [0, 1, 2, 3] : (tensor<2x16x32768x1xf32>) -> tensor<2x16x32768x128xf32>
def val_main_v42 (x3 x4 : (⟨S2x256x16, .f32⟩ : BufTy).Contents (Elt F)) (r0 r1 : (⟨S2x32768x2048, .f32⟩ : BufTy).Contents (Elt F)) : (⟨S2x16x32768x128, .f32⟩ : BufTy).Contents (Elt F) :=
  broadcastInDim S2x16x32768x128 ![0, 1, 2, 3] bcast_S2x16x32768x1_S2x16x32768x128_0_1_2_3 (val_main_v41 (F := F) x3 x4 r0 r1)
abbrev idx_main_v42 (i : S2x16x32768x128.Idx) : S2x16x32768x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v42_apply (x3 x4 : (⟨S2x256x16, .f32⟩ : BufTy).Contents (Elt F)) (r0 r1 : (⟨S2x32768x2048, .f32⟩ : BufTy).Contents (Elt F)) (i : S2x16x32768x128.Idx) :
    val_main_v42 (F := F) x3 x4 r0 r1 i = val_main_v41 (F := F) x3 x4 r0 r1 (idx_main_v42 i) := by
  unfold val_main_v42
  generalize val_main_v41 (F := F) x3 x4 r0 r1 = y
  exact broadcastInDim_apply _ bcast_S2x16x32768x1_S2x16x32768x128_0_1_2_3 y i (idx_main_v42 i) (fun a => match a with
    | ⟨0, _⟩ => by show (i 0).val = if (2 : Nat) = 1 then 0 else (i 0).val; rw [if_neg (by decide)]
    | ⟨1, _⟩ => by show (i 1).val = if (16 : Nat) = 1 then 0 else (i 1).val; rw [if_neg (by decide)]
    | ⟨2, _⟩ => by show (i 2).val = if (32768 : Nat) = 1 then 0 else (i 2).val; rw [if_neg (by decide)]
    | ⟨3, _⟩ => by show 0 = if (1 : Nat) = 1 then 0 else (i 3).val; rw [if_pos rfl])

-- %43 = stablehlo.divide %40, %42 : tensor<2x16x32768x128xf32>
def val_main_v43 (x3 x4 x5 : (⟨S2x256x16, .f32⟩ : BufTy).Contents (Elt F)) (r0 r1 : (⟨S2x32768x2048, .f32⟩ : BufTy).Contents (Elt F)) (r2 : (⟨S2x16x128x32768, .f32⟩ : BufTy).Contents (Elt F)) : (⟨S2x16x32768x128, .f32⟩ : BufTy).Contents (Elt F) :=
  Host.divf (val_main_v40 (F := F) x3 x4 x5 r0 r1 r2) (val_main_v42 (F := F) x3 x4 r0 r1)
theorem val_main_v43_apply (x3 x4 x5 : (⟨S2x256x16, .f32⟩ : BufTy).Contents (Elt F)) (r0 r1 : (⟨S2x32768x2048, .f32⟩ : BufTy).Contents (Elt F)) (r2 : (⟨S2x16x128x32768, .f32⟩ : BufTy).Contents (Elt F)) (i : S2x16x32768x128.Idx) :
    val_main_v43 (F := F) x3 x4 x5 r0 r1 r2 i = FloatOps.hostDivf (val_main_v40 (F := F) x3 x4 x5 r0 r1 r2 i) (val_main_v42 (F := F) x3 x4 r0 r1 i) := rfl

-- %44 = stablehlo.transpose %43, dims = [0, 2, 1, 3] : (tensor<2x16x32768x128xf32>) -> tensor<2x32768x16x128xf32>
def val_main_v44 (x3 x4 x5 : (⟨S2x256x16, .f32⟩ : BufTy).Contents (Elt F)) (r0 r1 : (⟨S2x32768x2048, .f32⟩ : BufTy).Contents (Elt F)) (r2 : (⟨S2x16x128x32768, .f32⟩ : BufTy).Contents (Elt F)) : (⟨S2x32768x16x128, .f32⟩ : BufTy).Contents (Elt F) :=
  transpose S2x32768x16x128 [0, 2, 1, 3] (val_main_v43 (F := F) x3 x4 x5 r0 r1 r2) transposes_S2x16x32768x128_S2x32768x16x128_0_2_1_3
abbrev idx_main_v44 (i : S2x32768x16x128.Idx) : S2x16x32768x128.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨(i 3).val, (i 3).isLt⟩
theorem val_main_v44_apply (x3 x4 x5 : (⟨S2x256x16, .f32⟩ : BufTy).Contents (Elt F)) (r0 r1 : (⟨S2x32768x2048, .f32⟩ : BufTy).Contents (Elt F)) (r2 : (⟨S2x16x128x32768, .f32⟩ : BufTy).Contents (Elt F)) (i : S2x32768x16x128.Idx) :
    val_main_v44 (F := F) x3 x4 x5 r0 r1 r2 i = val_main_v43 (F := F) x3 x4 x5 r0 r1 r2 (idx_main_v44 i) := by
  unfold val_main_v44
  generalize val_main_v43 (F := F) x3 x4 x5 r0 r1 r2 = y
  exact transpose_apply [0, 2, 1, 3] y transposes_S2x16x32768x128_S2x32768x16x128_0_2_1_3 i (idx_main_v44 i) (fun b => match b with
    | ⟨0, _⟩ => rfl
    | ⟨1, _⟩ => rfl
    | ⟨2, _⟩ => rfl
    | ⟨3, _⟩ => rfl)

-- %45 = stablehlo.reshape %44 : (tensor<2x32768x16x128xf32>) -> tensor<2x32768x2048xf32>
def val_main_v45 (x3 x4 x5 : (⟨S2x256x16, .f32⟩ : BufTy).Contents (Elt F)) (r0 r1 : (⟨S2x32768x2048, .f32⟩ : BufTy).Contents (Elt F)) (r2 : (⟨S2x16x128x32768, .f32⟩ : BufTy).Contents (Elt F)) : (⟨S2x32768x2048, .f32⟩ : BufTy).Contents (Elt F) :=
  shapeCast _ (val_main_v44 (F := F) x3 x4 x5 r0 r1 r2) shapeCasts_S2x32768x16x128_S2x32768x2048
set_option backward.proofsInPublic true in
abbrev idx_main_v45 (i : S2x32768x2048.Idx) : S2x32768x16x128.Idx := fun a => match a with
  | ⟨0, _⟩ => ⟨(((i 0).val * 32768 + (i 1).val) * 2048 + (i 2).val) / 67108864, by have h0 : (i 0).val < 2 := (i 0).isLt; have h1 : (i 1).val < 32768 := (i 1).isLt; have h2 : (i 2).val < 2048 := (i 2).isLt; show (((i 0).val * 32768 + (i 1).val) * 2048 + (i 2).val) / 67108864 < 2; omega⟩
  | ⟨1, _⟩ => ⟨(((i 0).val * 32768 + (i 1).val) * 2048 + (i 2).val) / 2048 % 32768, by have h0 : (i 0).val < 2 := (i 0).isLt; have h1 : (i 1).val < 32768 := (i 1).isLt; have h2 : (i 2).val < 2048 := (i 2).isLt; show (((i 0).val * 32768 + (i 1).val) * 2048 + (i 2).val) / 2048 % 32768 < 32768; omega⟩
  | ⟨2, _⟩ => ⟨(((i 0).val * 32768 + (i 1).val) * 2048 + (i 2).val) / 128 % 16, by have h0 : (i 0).val < 2 := (i 0).isLt; have h1 : (i 1).val < 32768 := (i 1).isLt; have h2 : (i 2).val < 2048 := (i 2).isLt; show (((i 0).val * 32768 + (i 1).val) * 2048 + (i 2).val) / 128 % 16 < 16; omega⟩
  | ⟨3, _⟩ => ⟨(((i 0).val * 32768 + (i 1).val) * 2048 + (i 2).val) % 128, by have h0 : (i 0).val < 2 := (i 0).isLt; have h1 : (i 1).val < 32768 := (i 1).isLt; have h2 : (i 2).val < 2048 := (i 2).isLt; show (((i 0).val * 32768 + (i 1).val) * 2048 + (i 2).val) % 128 < 128; omega⟩
theorem val_main_v45_apply (x3 x4 x5 : (⟨S2x256x16, .f32⟩ : BufTy).Contents (Elt F)) (r0 r1 : (⟨S2x32768x2048, .f32⟩ : BufTy).Contents (Elt F)) (r2 : (⟨S2x16x128x32768, .f32⟩ : BufTy).Contents (Elt F)) (i : S2x32768x2048.Idx) :
    val_main_v45 (F := F) x3 x4 x5 r0 r1 r2 i = val_main_v44 (F := F) x3 x4 x5 r0 r1 r2 (idx_main_v45 i) := by
  unfold val_main_v45
  generalize val_main_v44 (F := F) x3 x4 x5 r0 r1 r2 = y
  exact shapeCast_apply y shapeCasts_S2x32768x16x128_S2x32768x2048 i (idx_main_v45 i)
    (by rewrite [Shape.rowMajor_val_four, Shape.rowMajor_val_three]; have h0 : (i 0).val < 2 := (i 0).isLt; have h1 : (i 1).val < 32768 := (i 1).isLt; have h2 : (i 2).val < 2048 := (i 2).isLt; show (((((i 0).val * 32768 + (i 1).val) * 2048 + (i 2).val) / 67108864 * 32768 + (((i 0).val * 32768 + (i 1).val) * 2048 + (i 2).val) / 2048 % 32768) * 16 + (((i 0).val * 32768 + (i 1).val) * 2048 + (i 2).val) / 128 % 16) * 128 + (((i 0).val * 32768 + (i 1).val) * 2048 + (i 2).val) % 128 = ((i 0).val * 32768 + (i 1).val) * 2048 + (i 2).val; omega)

-- %46 = stablehlo.convert %45 : (tensor<2x32768x2048xf32>) -> tensor<2x32768x2048xbf16>
def val_main_v46 (x3 x4 x5 : (⟨S2x256x16, .f32⟩ : BufTy).Contents (Elt F)) (r0 r1 : (⟨S2x32768x2048, .f32⟩ : BufTy).Contents (Elt F)) (r2 : (⟨S2x16x128x32768, .f32⟩ : BufTy).Contents (Elt F)) : (⟨S2x32768x2048, .bf16⟩ : BufTy).Contents (Elt F) :=
  truncf .bf16 (val_main_v45 (F := F) x3 x4 x5 r0 r1 r2) bitsLt_bf16_f32
theorem val_main_v46_apply (x3 x4 x5 : (⟨S2x256x16, .f32⟩ : BufTy).Contents (Elt F)) (r0 r1 : (⟨S2x32768x2048, .f32⟩ : BufTy).Contents (Elt F)) (r2 : (⟨S2x16x128x32768, .f32⟩ : BufTy).Contents (Elt F)) (i : S2x32768x2048.Idx) :
    val_main_v46 (F := F) x3 x4 x5 r0 r1 r2 i = FloatOps.truncf .bf16 bitsLt_bf16_f32 (val_main_v45 (F := F) x3 x4 x5 r0 r1 r2 i) := rfl

/-- The term the Run module states for `main_v46` over any contents `V0` is the stage. -/
theorem val_main_v46_eq (V0 : Valuation τ sig (Elt F)) :
    truncf .bf16 (shapeCast _ (transpose S2x32768x16x128 [0, 2, 1, 3] (Host.divf (Host.dotGeneral dot_S2x16x32768x32768_S2x16x128x32768_S2x16x32768x128_3_3_2_2_01_01 none (Host.exp (subf (select (broadcastInDim S2x16x32768x32768 ![2, 3] bcast_S32768x32768_S2x16x32768x32768_2_3 (cmpi .sle (broadcastInDim S32768x32768 ![0, 1] bcast_S1x32768_S32768x32768_0_1 (broadcastInDim S1x32768 ![1] bcast_S32768_S1x32768_1 (iotaInDim S32768 32 0))) (broadcastInDim S32768x32768 ![0, 1] bcast_S32768x1_S32768x32768_0_1 (broadcastInDim S32768x1 ![0] bcast_S32768_S32768x1_0 (iotaInDim S32768 32 0))))) (mulf (Host.dotGeneral dot_S2x32768x16x128_S2x32768x16x128_S2x16x32768x32768_3_3_1_1_02_02 none (shapeCast _ (V0 (Proc.devRef .tc main_v0_0)) shapeCasts_S2x32768x2048_S2x32768x16x128) (shapeCast _ (V0 (Proc.devRef .tc main_v0_1)) shapeCasts_S2x32768x2048_S2x32768x16x128)) (mulf (mulf (broadcastInDim S2x16x32768x32768 ![0, 1, 2, 3] bcast_S2x16x32768x1_S2x16x32768x32768_0_1_2_3 (broadcastInDim S2x16x32768x1 ![0, 1, 2] bcast_S2x16x32768_S2x16x32768x1_0_1_2 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg3)) transposes_S2x256x16_S2x16x256_0_2_1))) shapeCasts_S2x16x256x128_S2x16x32768))) (broadcastInDim S2x16x32768x32768 ![0, 1, 2, 3] bcast_S2x16x1x32768_S2x16x32768x32768_0_1_2_3 (broadcastInDim S2x16x1x32768 ![0, 1, 3] bcast_S2x16x32768_S2x16x1x32768_0_1_3 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg4)) transposes_S2x256x16_S2x16x256_0_2_1))) shapeCasts_S2x16x256x128_S2x16x32768)))) (broadcastInDim S2x16x32768x32768 ![] bcast_S_S2x16x32768x32768 (constant S_ .f32 0x3DB504F3#32)))) (broadcastInDim S2x16x32768x32768 ![] bcast_S_S2x16x32768x32768 (id (constant S_ .f32 0xFF800000#32)))) (broadcastInDim S2x16x32768x32768 ![0, 1, 2, 3] bcast_S2x16x32768x1_S2x16x32768x32768_0_1_2_3 (broadcastInDim S2x16x32768x1 ![0, 1, 2] bcast_S2x16x32768_S2x16x32768x1_0_1_2 (Host.reduce FloatOps.maximumf (select (broadcastInDim S2x16x32768x32768 ![2, 3] bcast_S32768x32768_S2x16x32768x32768_2_3 (cmpi .sle (broadcastInDim S32768x32768 ![0, 1] bcast_S1x32768_S32768x32768_0_1 (broadcastInDim S1x32768 ![1] bcast_S32768_S1x32768_1 (iotaInDim S32768 32 0))) (broadcastInDim S32768x32768 ![0, 1] bcast_S32768x1_S32768x32768_0_1 (broadcastInDim S32768x1 ![0] bcast_S32768_S32768x1_0 (iotaInDim S32768 32 0))))) (mulf (Host.dotGeneral dot_S2x32768x16x128_S2x32768x16x128_S2x16x32768x32768_3_3_1_1_02_02 none (shapeCast _ (V0 (Proc.devRef .tc main_v0_0)) shapeCasts_S2x32768x2048_S2x32768x16x128) (shapeCast _ (V0 (Proc.devRef .tc main_v0_1)) shapeCasts_S2x32768x2048_S2x32768x16x128)) (mulf (mulf (broadcastInDim S2x16x32768x32768 ![0, 1, 2, 3] bcast_S2x16x32768x1_S2x16x32768x32768_0_1_2_3 (broadcastInDim S2x16x32768x1 ![0, 1, 2] bcast_S2x16x32768_S2x16x32768x1_0_1_2 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg3)) transposes_S2x256x16_S2x16x256_0_2_1))) shapeCasts_S2x16x256x128_S2x16x32768))) (broadcastInDim S2x16x32768x32768 ![0, 1, 2, 3] bcast_S2x16x1x32768_S2x16x32768x32768_0_1_2_3 (broadcastInDim S2x16x1x32768 ![0, 1, 3] bcast_S2x16x32768_S2x16x1x32768_0_1_3 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg4)) transposes_S2x256x16_S2x16x256_0_2_1))) shapeCasts_S2x16x256x128_S2x16x32768)))) (broadcastInDim S2x16x32768x32768 ![] bcast_S_S2x16x32768x32768 (constant S_ .f32 0x3DB504F3#32)))) (broadcastInDim S2x16x32768x32768 ![] bcast_S_S2x16x32768x32768 (id (constant S_ .f32 0xFF800000#32)))) (constant S_ .f32 0xFF800000#32) reducesTo_S2x16x32768x32768_S2x16x32768_d3 h_S_))))) (mulf (V0 (Proc.devRef .tc main_v0_2)) (broadcastInDim S2x16x128x32768 ![0, 1, 2, 3] bcast_S2x16x1x32768_S2x16x128x32768_0_1_2_3 (broadcastInDim S2x16x1x32768 ![0, 1, 3] bcast_S2x16x32768_S2x16x1x32768_0_1_3 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg5)) transposes_S2x256x16_S2x16x256_0_2_1))) shapeCasts_S2x16x256x128_S2x16x32768))))) (broadcastInDim S2x16x32768x128 ![0, 1, 2, 3] bcast_S2x16x32768x1_S2x16x32768x128_0_1_2_3 (broadcastInDim S2x16x32768x1 ![0, 1, 2] bcast_S2x16x32768_S2x16x32768x1_0_1_2 (Host.reduceAdd (Host.exp (subf (select (broadcastInDim S2x16x32768x32768 ![2, 3] bcast_S32768x32768_S2x16x32768x32768_2_3 (cmpi .sle (broadcastInDim S32768x32768 ![0, 1] bcast_S1x32768_S32768x32768_0_1 (broadcastInDim S1x32768 ![1] bcast_S32768_S1x32768_1 (iotaInDim S32768 32 0))) (broadcastInDim S32768x32768 ![0, 1] bcast_S32768x1_S32768x32768_0_1 (broadcastInDim S32768x1 ![0] bcast_S32768_S32768x1_0 (iotaInDim S32768 32 0))))) (mulf (Host.dotGeneral dot_S2x32768x16x128_S2x32768x16x128_S2x16x32768x32768_3_3_1_1_02_02 none (shapeCast _ (V0 (Proc.devRef .tc main_v0_0)) shapeCasts_S2x32768x2048_S2x32768x16x128) (shapeCast _ (V0 (Proc.devRef .tc main_v0_1)) shapeCasts_S2x32768x2048_S2x32768x16x128)) (mulf (mulf (broadcastInDim S2x16x32768x32768 ![0, 1, 2, 3] bcast_S2x16x32768x1_S2x16x32768x32768_0_1_2_3 (broadcastInDim S2x16x32768x1 ![0, 1, 2] bcast_S2x16x32768_S2x16x32768x1_0_1_2 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg3)) transposes_S2x256x16_S2x16x256_0_2_1))) shapeCasts_S2x16x256x128_S2x16x32768))) (broadcastInDim S2x16x32768x32768 ![0, 1, 2, 3] bcast_S2x16x1x32768_S2x16x32768x32768_0_1_2_3 (broadcastInDim S2x16x1x32768 ![0, 1, 3] bcast_S2x16x32768_S2x16x1x32768_0_1_3 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg4)) transposes_S2x256x16_S2x16x256_0_2_1))) shapeCasts_S2x16x256x128_S2x16x32768)))) (broadcastInDim S2x16x32768x32768 ![] bcast_S_S2x16x32768x32768 (constant S_ .f32 0x3DB504F3#32)))) (broadcastInDim S2x16x32768x32768 ![] bcast_S_S2x16x32768x32768 (id (constant S_ .f32 0xFF800000#32)))) (broadcastInDim S2x16x32768x32768 ![0, 1, 2, 3] bcast_S2x16x32768x1_S2x16x32768x32768_0_1_2_3 (broadcastInDim S2x16x32768x1 ![0, 1, 2] bcast_S2x16x32768_S2x16x32768x1_0_1_2 (Host.reduce FloatOps.maximumf (select (broadcastInDim S2x16x32768x32768 ![2, 3] bcast_S32768x32768_S2x16x32768x32768_2_3 (cmpi .sle (broadcastInDim S32768x32768 ![0, 1] bcast_S1x32768_S32768x32768_0_1 (broadcastInDim S1x32768 ![1] bcast_S32768_S1x32768_1 (iotaInDim S32768 32 0))) (broadcastInDim S32768x32768 ![0, 1] bcast_S32768x1_S32768x32768_0_1 (broadcastInDim S32768x1 ![0] bcast_S32768_S32768x1_0 (iotaInDim S32768 32 0))))) (mulf (Host.dotGeneral dot_S2x32768x16x128_S2x32768x16x128_S2x16x32768x32768_3_3_1_1_02_02 none (shapeCast _ (V0 (Proc.devRef .tc main_v0_0)) shapeCasts_S2x32768x2048_S2x32768x16x128) (shapeCast _ (V0 (Proc.devRef .tc main_v0_1)) shapeCasts_S2x32768x2048_S2x32768x16x128)) (mulf (mulf (broadcastInDim S2x16x32768x32768 ![0, 1, 2, 3] bcast_S2x16x32768x1_S2x16x32768x32768_0_1_2_3 (broadcastInDim S2x16x32768x1 ![0, 1, 2] bcast_S2x16x32768_S2x16x32768x1_0_1_2 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg3)) transposes_S2x256x16_S2x16x256_0_2_1))) shapeCasts_S2x16x256x128_S2x16x32768))) (broadcastInDim S2x16x32768x32768 ![0, 1, 2, 3] bcast_S2x16x1x32768_S2x16x32768x32768_0_1_2_3 (broadcastInDim S2x16x1x32768 ![0, 1, 3] bcast_S2x16x32768_S2x16x1x32768_0_1_3 (shapeCast _ (broadcastInDim S2x16x256x128 ![0, 1, 2, 3] bcast_S2x16x256x1_S2x16x256x128_0_1_2_3 (broadcastInDim S2x16x256x1 ![0, 1, 2] bcast_S2x16x256_S2x16x256x1_0_1_2 (transpose S2x16x256 [0, 2, 1] (V0 (Proc.devRef .tc main_arg4)) transposes_S2x256x16_S2x16x256_0_2_1))) shapeCasts_S2x16x256x128_S2x16x32768)))) (broadcastInDim S2x16x32768x32768 ![] bcast_S_S2x16x32768x32768 (constant S_ .f32 0x3DB504F3#32)))) (broadcastInDim S2x16x32768x32768 ![] bcast_S_S2x16x32768x32768 (id (constant S_ .f32 0xFF800000#32)))) (constant S_ .f32 0xFF800000#32) reducesTo_S2x16x32768x32768_S2x16x32768_d3 h_S_))))) (constant S_ .f32 0x00000000#32) reducesTo_S2x16x32768x32768_S2x16x32768_d3 h_S_)))) transposes_S2x16x32768x128_S2x32768x16x128_0_2_1_3) shapeCasts_S2x32768x16x128_S2x32768x2048) bitsLt_bf16_f32
      = val_main_v46 (F := F) (V0 (Proc.devRef .tc main_arg3)) (V0 (Proc.devRef .tc main_arg4)) (V0 (Proc.devRef .tc main_arg5)) (V0 (Proc.devRef .tc main_v0_0)) (V0 (Proc.devRef .tc main_v0_1)) (V0 (Proc.devRef .tc main_v0_2)) := rfl

end Cert.ReferenceIdeal.Read

end
-- ==== Proof.Ref.lean ====
module

public import proofs.«01_k».proof.Proof.RefOpen
public import proofs.«01_k».proof.Proof.RefRead
public import proofs.«01_k».proof.Proof.Soft
public import Idealize.ShloMosaic.Lib.Pipeline.ValueKit

@[expose] public section

set_option maxRecDepth 16384

noncomputable section

namespace Cert.ReferenceIdeal.Read

open Cert.ReferenceIdeal Cert.ReferenceIdeal.Gen Cert.Attn
open Idealize.ShloMosaic Idealize.ShloMosaic.TcCoe

variable (x3 x4 x5 : (⟨S2x256x16, .f32⟩ : BufTy).Contents (Elt Ideal)) (r0 r1 : (⟨S2x32768x2048, .f32⟩ : BufTy).Contents (Elt Ideal))
  (r2 : (⟨S2x16x128x32768, .f32⟩ : BufTy).Contents (Elt Ideal))

/-- A signed comparison of two positions. -/
theorem sle_pos (k s : ℕ) (hk : k < 32768) (hs : s < 32768) (x y : EReal) :
    Scalar.select (IntOp.cmpi .sle (BitVec.ofNat 32 k) (BitVec.ofNat 32 s)) x y = if k ≤ s then x else y := by
  have e : (BitVec.ofNat 32 k).sle (BitVec.ofNat 32 s) = decide (k ≤ s) := by
    rw [BitVec.sle_eq_decide, BitVec.toInt_eq_toNat_of_lt (by simp; omega), BitVec.toInt_eq_toNat_of_lt (by simp; omega)]
    simp only [BitVec.toNat_ofNat, Nat.mod_eq_of_lt (show k < 2 ^ 32 by omega), Nat.mod_eq_of_lt (show s < 2 ^ 32 by omega), Nat.cast_le]
  unfold IntOp.cmpi Scalar.select
  simp only [e]
  by_cases h : k ≤ s <;> simp [h]

/-- The scale of the queries at a position. -/
theorem qs_pos (b : Fin 2) (h : Fin 16) (s k : Fin 32768) :
    val_main_v14 (F := Ideal) x3 (ix4 b h s k) = x3 (ix3 b ⟨s.val / 128, by omega⟩ h) := by
  rw [val_main_v14_apply, val_main_v8_apply, val_main_v7_apply, val_main_v6_apply, val_main_v5_apply, val_main_v4_apply]
  refine congrArg x3 (funext fun a => Fin.ext ?_)
  have hb := b.isLt; have hh := h.isLt; have hs := s.isLt
  fin_cases a <;> dsimp only [ix3, ix4] <;> omega

/-- The scale of the keys at a position. -/
theorem ks_pos (b : Fin 2) (h : Fin 16) (s k : Fin 32768) :
    val_main_v15 (F := Ideal) x4 (ix4 b h s k) = x4 (ix3 b ⟨k.val / 128, by omega⟩ h) := by
  rw [val_main_v15_apply, val_main_v13_apply, val_main_v12_apply, val_main_v11_apply, val_main_v10_apply, val_main_v9_apply]
  refine congrArg x4 (funext fun a => Fin.ext ?_)
  have hb := b.isLt; have hh := h.isLt; have hs := k.isLt
  fin_cases a <;> dsimp only [ix3, ix4] <;> omega

/-- The scale of the values at a position. -/
theorem vs_pos (b : Fin 2) (h : Fin 16) (d : Fin 128) (k : Fin 32768) :
    val_main_v38 (F := Ideal) x5 (ix4 b h d k) = x5 (ix3 b ⟨k.val / 128, by omega⟩ h) := by
  rw [val_main_v38_apply, val_main_v37_apply, val_main_v36_apply, val_main_v35_apply, val_main_v34_apply, val_main_v33_apply]
  refine congrArg x5 (funext fun a => Fin.ext ?_)
  have hb := b.isLt; have hh := h.isLt; have hs := k.isLt
  fin_cases a <;> dsimp only [ix3, ix4] <;> omega

/-- The scores before they are scaled. -/
theorem dots (b : Fin 2) (h : Fin 16) (s k : Fin 32768) :
    val_main_v3 (F := Ideal) r0 r1 (ix4 b h s k) = ∑ d : Fin 128, r0 (ix3 b s ⟨128 * h.val + d.val, by omega⟩) * r1 (ix3 b k ⟨128 * h.val + d.val, by omega⟩) := by
  rw [val_main_v3_apply]
  refine Finset.sum_congr rfl fun d _ => ?_
  have hb := b.isLt; have hh := h.isLt; have hs := s.isLt; have hk := k.isLt; have hd := d.isLt
  rw [val_main_v1_apply, val_main_v2_apply]
  refine congrArg₂ (· * ·) (congrArg r0 (funext fun a => Fin.ext ?_)) (congrArg r1 (funext fun a => Fin.ext ?_))
  · fin_cases a <;> dsimp only [ix3, ix4] <;> omega
  · fin_cases a <;> dsimp only [ix3, ix4] <;> omega

variable (h3 : ∀ i, x3 i = (((x3 i).toReal : ℝ) : EReal)) (h4 : ∀ i, x4 i = (((x4 i).toReal : ℝ) : EReal)) (h5 : ∀ i, x5 i = (((x5 i).toReal : ℝ) : EReal))

include h3 h4 in
/-- The reference's scores, the hidden keys at the bottom. -/
theorem scores (b : Fin 2) (h : Fin 16) (s k : Fin 32768) :
    val_main_v26 (F := Ideal) x3 x4 r0 r1 (ix4 b h s k) = scG r0 r1 x3 x4 b h s k.val := by
  rw [val_main_v26_apply, val_main_call0_v1_apply, val_main_v25_apply, val_main_v23_apply, val_main_v21_apply, val_main_v20_apply,
    val_main_v24_apply, val_main_v22_apply, val_main_v20_apply, val_main_call0_v2_apply, val_main_call0_v0_apply, val_main_cst_0_apply]
  refine (sle_pos k.val s.val k.isLt s.isLt _ _).trans ?_
  unfold scG
  rw [dif_pos k.isLt]
  refine if_congr Iff.rfl ?_ Cert.KernelIdeal.Hand.ob_bot
  rw [val_main_v19_apply, val_main_v18_apply, val_main_v17_apply, val_main_cst_apply, val_main_v16_apply, qs_pos, ks_pos, dots]
  rw [h3 (ix3 b _ h), h4 (ix3 b _ h), EReal.coe_mul, EReal.coe_mul]
  simp only [EReal.toReal_coe]
  exact congrArg₂ (· * ·) rfl (congrArg₂ (· * ·) rfl Cert.KernelIdeal.Hand.ob_SM)

include h3 h4 in
/-- The reference's maximum of the scores. -/
theorem tops (b : Fin 2) (h : Fin 16) (s : Fin 32768) :
    val_main_v27 (F := Ideal) x3 x4 r0 r1 (ix3 b h s) = (Finset.range 32768).sup (scG r0 r1 x3 x4 b h s) := by
  unfold val_main_v27
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  rw [Host.reduce_eq_fold_single (FloatOps.maximumf (F := Ideal) (φ := .f32)) _ _ reducesTo_S2x16x32768x32768_S2x16x32768_d3 (by decide)]
  have e : ∀ k : Fin 32768, (val_main_v26 (F := Ideal) x3 x4 r0 r1 ∘ Shape.Reduces.lift (s := S2x16x32768x32768) (t := S2x16x32768) (a := 3) (by decide) (ix3 b h s)) k = scG r0 r1 x3 x4 b h s k.val := by
    intro k
    rw [← scores x3 x4 r0 r1 h3 h4]
    refine congrArg (val_main_v26 (F := Ideal) x3 x4 r0 r1) (funext fun a => Fin.ext (by match a with | ⟨0, _⟩ => rfl | ⟨1, _⟩ => rfl | ⟨2, _⟩ => rfl | ⟨3, _⟩ => rfl))
  have e' : (val_main_v26 (F := Ideal) x3 x4 r0 r1 ∘ Shape.Reduces.lift (s := S2x16x32768x32768) (t := S2x16x32768) (a := 3) (by decide) (ix3 b h s)) = fun k : Fin 32768 => scG r0 r1 x3 x4 b h s k.val := funext e
  rw [e']
  rw [val_main_cst_1_apply]
  have f : ∀ S : Finset (Fin 32768), S.fold (FloatOps.maximumf (F := Ideal) (φ := .f32)) (⊥ : EReal) (fun k : Fin 32768 => scG r0 r1 x3 x4 b h s k.val) = S.sup (fun k : Fin 32768 => scG r0 r1 x3 x4 b h s k.val) := fun S => rfl
  refine (congrArg (fun z => Finset.fold (FloatOps.maximumf (F := Ideal) (φ := .f32)) z (fun k : Fin 32768 => scG r0 r1 x3 x4 b h s k.val) Finset.univ) Cert.KernelIdeal.Hand.ob_bot).trans ((f _).trans ?_)
  apply le_antisymm
  · exact Finset.sup_le fun k _ => Finset.le_sup (f := scG r0 r1 x3 x4 b h s) (Finset.mem_range.2 k.isLt)
  · exact Finset.sup_le fun k hk => Finset.le_sup (f := fun k : Fin 32768 => scG r0 r1 x3 x4 b h s k.val) (Finset.mem_univ (⟨k, Finset.mem_range.1 hk⟩ : Fin 32768))

include h3 h4 in
/-- The reference's weights. -/
theorem weights (b : Fin 2) (h : Fin 16) (s k : Fin 32768) :
    val_main_v31 (F := Ideal) x3 x4 r0 r1 (ix4 b h s k) = W (scG r0 r1 x3 x4 b h s k.val) ((Finset.range 32768).sup (scG r0 r1 x3 x4 b h s)) := by
  rw [val_main_v31_apply, val_main_v30_apply, val_main_v29_apply, val_main_v28_apply, scores x3 x4 r0 r1 h3 h4,
    ← tops x3 x4 r0 r1 h3 h4]
  refine Eq.trans (congrArg (fun z => FloatOps.hostUnary (F := Ideal) (φ := .f32) .exp (FloatOps.subf (scG r0 r1 x3 x4 b h s k.val) z)) (congrArg (val_main_v27 (F := Ideal) x3 x4 r0 r1) ?_)) exp_eq_W
  exact funext fun a => Fin.ext (by match a with | ⟨0, _⟩ => rfl | ⟨1, _⟩ => rfl | ⟨2, _⟩ => rfl)

include h3 h4 h5 in
/-- The reference's result. -/
theorem result (b : Fin 2) (h : Fin 16) (s : Fin 32768) (d : Fin 128) :
    val_main_v46 (F := Ideal) x3 x4 x5 r0 r1 r2 (ix3 b s ⟨128 * h.val + d.val, by omega⟩) = attn r0 r1 r2 x3 x4 x5 b h s d := by
  have hb := b.isLt; have hh := h.isLt; have hs := s.isLt; have hd := d.isLt
  rw [val_main_v46_apply, val_main_v45_apply, val_main_v44_apply]
  have e : idx_main_v44 (idx_main_v45 (ix3 b s ⟨128 * h.val + d.val, by omega⟩)) = ix4 b h s d := funext fun a => Fin.ext (by
    fin_cases a <;> dsimp only [ix3, ix4] <;> omega)
  rw [e]
  show val_main_v43 (F := Ideal) x3 x4 x5 r0 r1 r2 (ix4 b h s d) = _
  rw [val_main_v43_apply, val_main_v42_apply, val_main_v41_apply, val_main_v40_apply, val_main_v32_apply]
  unfold attn soft
  refine congrArg₂ Ideal.div ?_ ?_
  · rw [Finset.sum_range]
    refine Finset.sum_congr rfl fun k _ => ?_
    rw [val_main_v39_apply]
    have el : lidx_main_v40 (ix4 b h s d) k = ix4 b h s k := funext fun a => Fin.ext (by match a with | ⟨0, _⟩ => rfl | ⟨1, _⟩ => rfl | ⟨2, _⟩ => rfl | ⟨3, _⟩ => rfl)
    have er : ridx_main_v40 (ix4 b h s d) k = ix4 b h d k := funext fun a => Fin.ext (by match a with | ⟨0, _⟩ => rfl | ⟨1, _⟩ => rfl | ⟨2, _⟩ => rfl | ⟨3, _⟩ => rfl)
    rw [el, er, weights x3 x4 r0 r1 h3 h4, vs_pos]
    unfold vhG
    rw [dif_pos k.isLt, ← h5]
    rfl
  · rw [Finset.sum_range]
    refine Eq.trans (congrArg (· + _) (show (val_main_cst_2 (F := Ideal)) (Shape.Idx.first h_S_) = (0 : EReal) from by rw [val_main_cst_2_apply]; exact Ideal.ofBits_zero .f32)) ?_
    rw [zero_add]
    refine Finset.sum_congr rfl fun k _ => ?_
    have el : idx_main_v32 (idx_main_v41 (idx_main_v42 (ix4 b h s d))) k = ix4 b h s k := funext fun a => Fin.ext (by match a with | ⟨0, _⟩ => rfl | ⟨1, _⟩ => rfl | ⟨2, _⟩ => rfl | ⟨3, _⟩ => rfl)
    rw [el, weights x3 x4 r0 r1 h3 h4]

end Cert.ReferenceIdeal.Read

end
-- ==== Proof.Algebraic.lean ====
module

public import proofs.«01_k».proof.Defs
public import proofs.«01_k».proof.Proof.Frames
public import proofs.«01_k».proof.Proof.Arr
public import proofs.«01_k».proof.Proof.Ref
public import proofs.«01_k».proof.Proof.RefOpen

@[expose] public section

set_option maxRecDepth 16384

noncomputable section

namespace Cert.Proof

open Idealize.ShloMosaic Idealize.SL.Sem Idealize.ShloMosaic.TcCoe Cert.Attn

/-- A number above zero and below infinity is a positive real. -/
theorem real_of_pos (x : EReal) (h : IntOp.andi (Ideal.cmp .ogt x (Ideal.ofBits .f32 0x00000000#32)) (Ideal.cmp .olt x (Ideal.ofBits .f32 0x7F800000#32)) = 1#1) :
    x = ((x.toReal : ℝ) : EReal) ∧ 0 < x.toReal := by
  have e0 : Ideal.ofBits .f32 0x00000000#32 = 0 := by simp [Ideal.ofBits, Ideal.ieee]
  have e1 : Ideal.ofBits .f32 0x7F800000#32 = ⊤ := by simp [Ideal.ofBits, Ideal.ieee]
  rw [e0, e1] at h
  have h' : 0 < x ∧ x < ⊤ := by
    unfold IntOp.andi Ideal.cmp at h
    by_cases a : 0 < x <;> by_cases b : x < ⊤ <;> simp_all
  exact ⟨(EReal.coe_toReal h'.2.ne (ne_bot_of_gt h'.1)).symm, EReal.toReal_pos h'.1 h'.2.ne⟩

/-- What the precondition says of the scales. -/
theorem scales_of_pre (m : (ℓ : Loc Cert.KernelIdeal.nD Cert.KernelIdeal.τ Cert.KernelIdeal.sig) → Buf (Elt Ideal) ℓ)
    (h : @Cert.Pre_KernelIdeal_scales_positive pre_facts m) (c : Dev Cert.KernelIdeal.nD) :
    (∀ i, m ((c.tc : Thread Cert.KernelIdeal.nD Cert.KernelIdeal.τ).loc Cert.KernelIdeal.main_arg3) i = (((m ((c.tc : Thread Cert.KernelIdeal.nD Cert.KernelIdeal.τ).loc Cert.KernelIdeal.main_arg3) i : EReal).toReal : ℝ) : EReal) ∧ 0 < (m ((c.tc : Thread Cert.KernelIdeal.nD Cert.KernelIdeal.τ).loc Cert.KernelIdeal.main_arg3) i : EReal).toReal)
    ∧ (∀ i, m ((c.tc : Thread Cert.KernelIdeal.nD Cert.KernelIdeal.τ).loc Cert.KernelIdeal.main_arg4) i = (((m ((c.tc : Thread Cert.KernelIdeal.nD Cert.KernelIdeal.τ).loc Cert.KernelIdeal.main_arg4) i : EReal).toReal : ℝ) : EReal) ∧ 0 < (m ((c.tc : Thread Cert.KernelIdeal.nD Cert.KernelIdeal.τ).loc Cert.KernelIdeal.main_arg4) i : EReal).toReal)
    ∧ (∀ i, m ((c.tc : Thread Cert.KernelIdeal.nD Cert.KernelIdeal.τ).loc Cert.KernelIdeal.main_arg5) i = (((m ((c.tc : Thread Cert.KernelIdeal.nD Cert.KernelIdeal.τ).loc Cert.KernelIdeal.main_arg5) i : EReal).toReal : ℝ) : EReal) ∧ 0 < (m ((c.tc : Thread Cert.KernelIdeal.nD Cert.KernelIdeal.τ).loc Cert.KernelIdeal.main_arg5) i : EReal).toReal) :=
  ⟨fun i => real_of_pos _ (congrFun (h c).1 i), fun i => real_of_pos _ (congrFun (h c).2.1 i), fun i => real_of_pos _ (congrFun (h c).2.2 i)⟩

/-- The reference's result array is the attention of its arguments. -/
theorem ref_value (m : (ℓ : Loc Cert.ReferenceIdeal.nD Cert.ReferenceIdeal.τ Cert.ReferenceIdeal.sig) → Buf (Elt Ideal) ℓ) (c : Dev Cert.ReferenceIdeal.nD)
    (a0 a1 : (⟨3, ![2, 32768, 2048]⟩ : Shape).Idx → EReal) (a2 : (⟨4, ![2, 16, 128, 32768]⟩ : Shape).Idx → EReal) (a3 a4 a5 : (⟨3, ![2, 256, 16]⟩ : Shape).Idx → EReal)
    (e0 : m ((c.tc : Thread Cert.ReferenceIdeal.nD Cert.ReferenceIdeal.τ).loc Cert.ReferenceIdeal.main_arg0) = a0)
    (e1 : m ((c.tc : Thread Cert.ReferenceIdeal.nD Cert.ReferenceIdeal.τ).loc Cert.ReferenceIdeal.main_arg1) = a1)
    (e2 : m ((c.tc : Thread Cert.ReferenceIdeal.nD Cert.ReferenceIdeal.τ).loc Cert.ReferenceIdeal.main_arg2) = a2)
    (e3 : m ((c.tc : Thread Cert.ReferenceIdeal.nD Cert.ReferenceIdeal.τ).loc Cert.ReferenceIdeal.main_arg3) = a3)
    (e4 : m ((c.tc : Thread Cert.ReferenceIdeal.nD Cert.ReferenceIdeal.τ).loc Cert.ReferenceIdeal.main_arg4) = a4)
    (e5 : m ((c.tc : Thread Cert.ReferenceIdeal.nD Cert.ReferenceIdeal.τ).loc Cert.ReferenceIdeal.main_arg5) = a5)
    (h3 : ∀ i, a3 i = (((a3 i).toReal : ℝ) : EReal)) (h4 : ∀ i, a4 i = (((a4 i).toReal : ℝ) : EReal)) (h5 : ∀ i, a5 i = (((a5 i).toReal : ℝ) : EReal)) :
    Cert.ReferenceIdeal.Value.res_main_v46 (F := Ideal) m c = fun j : (⟨3, ![2, 32768, 2048]⟩ : Shape).Idx =>
      attn a0 a1 a2 a3 a4 a5 ⟨(j 0).val, (j 0).isLt⟩ ⟨(j 2).val / 128, by have : (j 2).val < 2048 := (j 2).isLt; omega⟩ ⟨(j 1).val, (j 1).isLt⟩ ⟨(j 2).val % 128, by omega⟩ := by
  have f0 : Cert.ReferenceIdeal.Value.reg_main_v0_0 (F := Ideal) m c = a0 := (funext fun i => Cert.ReferenceIdeal.Value.reg0_eq m c i).trans e0
  have f1 : Cert.ReferenceIdeal.Value.reg_main_v0_1 (F := Ideal) m c = a1 := (funext fun i => Cert.ReferenceIdeal.Value.reg1_eq m c i).trans e1
  have f2 : Cert.ReferenceIdeal.Value.reg_main_v0_2 (F := Ideal) m c = a2 := (funext fun i => Cert.ReferenceIdeal.Value.reg2_eq m c i).trans e2
  have key : Cert.ReferenceIdeal.Value.res_main_v46 (F := Ideal) m c = Cert.ReferenceIdeal.Read.val_main_v46 (F := Ideal)
      (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      (Cert.ReferenceIdeal.Value.reg_main_v0_0 (F := Ideal) m c) (Cert.ReferenceIdeal.Value.reg_main_v0_1 (F := Ideal) m c) (Cert.ReferenceIdeal.Value.reg_main_v0_2 (F := Ideal) m c) := rfl
  rw [key, f0, f1, f2, e3, e4, e5]
  funext j
  have j0 : (j 0).val < 2 := (j 0).isLt
  have j1 : (j 1).val < 32768 := (j 1).isLt
  have j2 : (j 2).val < 2048 := (j 2).isLt
  refine Eq.trans (congrArg _ ?_) (Cert.ReferenceIdeal.Read.result a3 a4 a5 a0 a1 a2 h3 h4 h5 ⟨(j 0).val, j0⟩ ⟨(j 2).val / 128, by omega⟩ ⟨(j 1).val, j1⟩ ⟨(j 2).val % 128, by omega⟩)
  funext a
  match a with
  | ⟨0, _⟩ => rfl
  | ⟨1, _⟩ => rfl
  | ⟨2, _⟩ => exact Fin.ext (by show (j 2).val = 128 * ((j 2).val / 128) + (j 2).val % 128; omega)

/-- Where the scales are positive, the kernel and the reference over the reals leave equal results. -/
theorem algebraic : @Cert.algebraic_KernelIdeal_ReferenceIdeal_pre_scales_positive Cert.KernelIdeal.Gen.facts Cert.ReferenceIdeal.Gen.facts pre_facts := by
  intro m g m' g' hpre hargs
  refine ⟨fun c => (Cert.KernelIdeal.Hand.dats m 0 c).arrAt 6 Cert.KernelIdeal.cfg0.N, ?_, ?_⟩
  · exact (θ_run _ _ _).mono (fun _ h c => ⟨h.2.1 c, h.1 c⟩) (Cert.KernelIdeal.Hand.run_out (F := Ideal) m g)
  · refine (θ_run _ _ _).mono (fun _ h c => ⟨(h c).1.trans ?_, (h c).2⟩) (Cert.ReferenceIdeal.Value.run (F := Ideal) m' g')
    obtain ⟨h3, h4, h5⟩ := scales_of_pre m hpre c
    obtain ⟨e0, e1, e2, e3, e4, e5⟩ := hargs c
    refine Eq.trans ?_ (Cert.KernelIdeal.Hand.arr_value m c h3 h4 h5).symm
    exact ref_value m' c _ _ _ _ _ _ e0 e1 e2 e3 e4 e5 (fun i => (h3 i).1) (fun i => (h4 i).1) (fun i => (h5 i).1)

end Cert.Proof

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

/-- The whole claim. -/
theorem claim : Cert.Claim :=
  ⟨Cert.Kernel.Gen.facts, Cert.KernelIdeal.Gen.facts, Cert.ReferenceIdeal.Gen.facts, pre_facts,
    frame_kernel, frame_kernel_ideal, frame_kernel_ideal_pre, frame_reference_ideal, frame_reference_ideal_pre, preserves_kernel, algebraic⟩

end Cert.Proof

end
